-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "eps" .bf16 0x3586#16 ((8796093 / 8796093022208 : ℝ) : EReal)
  ∧ IdealRules.named_const.Statement Cert.Kernel3Ideal.κ "eps" .f32 0x358637BD#32 ((8796093 / 8796093022208 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)) (v2 : (c : Dev Cert.Kernel4Ideal.nD) → Buf (Elt Ideal) ((c.tc : Thread Cert.Kernel4Ideal.nD Cert.Kernel4Ideal.τ).loc Cert.Kernel4Ideal.main_v12_2)) (v3 : (c : Dev Cert.Kernel4Ideal.nD) → Buf (Elt Ideal) ((c.tc : Thread Cert.Kernel4Ideal.nD Cert.Kernel4Ideal.τ).loc Cert.Kernel4Ideal.main_v12_3)) (v4 : (c : Dev Cert.Kernel4Ideal.nD) → Buf (Elt Ideal) ((c.tc : Thread Cert.Kernel4Ideal.nD Cert.Kernel4Ideal.τ).loc Cert.Kernel4Ideal.main_v12_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_v12_2) = v2 c
          ∧ r.2.mem ((c.tc : Thread Cert.Kernel4Ideal.nD Cert.Kernel4Ideal.τ).loc Cert.Kernel4Ideal.main_v12_3) = v3 c
          ∧ r.2.mem ((c.tc : Thread Cert.Kernel4Ideal.nD Cert.Kernel4Ideal.τ).loc Cert.Kernel4Ideal.main_v12_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_v19) = v2 c
          ∧ r.2.mem ((c.tc : Thread Cert.Reference4Ideal.nD Cert.Reference4Ideal.τ).loc Cert.Reference4Ideal.main_v28) = v3 c
          ∧ r.2.mem ((c.tc : Thread Cert.Reference4Ideal.nD Cert.Reference4Ideal.τ).loc Cert.Reference4Ideal.main_v24) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8192x2048 : Shape := ⟨2, ![8192, 2048]⟩
abbrev S1x4x1024 : Shape := ⟨3, ![1, 4, 1024]⟩
abbrev S1x1024 : Shape := ⟨2, ![1, 1024]⟩
abbrev S1x8x128x128 : Shape := ⟨4, ![1, 8, 128, 128]⟩
abbrev S4x1024 : Shape := ⟨2, ![4, 1024]⟩
abbrev S1024 : Shape := ⟨1, ![1024]⟩
abbrev S8x128x128 : Shape := ⟨3, ![8, 128, 128]⟩
abbrev S8192x1024 : Shape := ⟨2, ![8192, 1024]⟩
abbrev S256x1024 : Shape := ⟨2, ![256, 1024]⟩
abbrev S264x1024 : Shape := ⟨2, ![264, 1024]⟩
abbrev S8x1024 : Shape := ⟨2, ![8, 1024]⟩
abbrev S256x128 : Shape := ⟨2, ![256, 128]⟩
abbrev S1x128x128 : Shape := ⟨3, ![1, 128, 128]⟩
abbrev S128x128 : Shape := ⟨2, ![128, 128]⟩
abbrev S256 : Shape := ⟨1, ![256]⟩
abbrev S256x1 : Shape := ⟨2, ![256, 1]⟩

abbrev nBuf : Space → Nat
  | .hbm => 25
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S1x4x1024, .f32⟩
  | .hbm, ⟨2, _⟩ => ⟨S1x1024, .f32⟩
  | .hbm, ⟨3, _⟩ => ⟨S1x8x128x128, .f32⟩
  | .hbm, ⟨4, _⟩ => ⟨S1x1024, .f32⟩
  | .hbm, ⟨5, _⟩ => ⟨S1x8x128x128, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4x1024, .f32⟩
  | .hbm, ⟨10, _⟩ => ⟨S1024, .f32⟩
  | .hbm, ⟨11, _⟩ => ⟨S1x1024, .f32⟩
  | .hbm, ⟨12, _⟩ => ⟨S8x128x128, .f32⟩
  | .hbm, ⟨13, _⟩ => ⟨S8x128x128, .bf16⟩
  | .hbm, ⟨14, _⟩ => ⟨S1024, .f32⟩
  | .hbm, ⟨15, _⟩ => ⟨S1x1024, .f32⟩
  | .hbm, ⟨16, _⟩ => ⟨S8x128x128, .f32⟩
  | .hbm, ⟨17, _⟩ => ⟨S8x128x128, .bf16⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x1024, .f32⟩
  | .local _ .vmem, ⟨5, _⟩ => ⟨S1x1024, .f32⟩
  | .local _ .vmem, ⟨6, _⟩ => ⟨S8x128x128, .bf16⟩
  | .local _ .vmem, ⟨7, _⟩ => ⟨S1x1024, .f32⟩
  | .local _ .vmem, ⟨8, _⟩ => ⟨S8x128x128, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S264x1024, .f32⟩
  | .local _ .vmem, ⟨15, _⟩ => ⟨S8x1024, .f32⟩
  | .local _ .vmem, ⟨16, _⟩ => ⟨S256x1024, .f32⟩
  | .local _ .vmem, ⟨17, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_100 : BitVec 32 := 0#32
  let c32_i32 : BitVec 32 := 32#32
  let v147 : BitVec 32 := Scalar.addi c0_i32_100 c32_i32
  let c1_i32 : BitVec 32 := 1#32
  ⟨c0_i32_100, v147, c1_i32⟩
def k0_mult1 (k0_t1 : Fin k0_t1_loop.trips) : BitVec 32 :=
  let c0_i32_100 : BitVec 32 := 0#32
  let c1_i32 : BitVec 32 := 1#32
  let arg17 : BitVec 32 := Scf.iv c0_i32_100 c1_i32 k0_t1
  let c8_i32 : BitVec 32 := 8#32
  let v184 : BitVec 32 := Scalar.muli arg17 c8_i32
  v184
def k0_off1 (k0_t1 : Fin k0_t1_loop.trips) : Fin 2 → Nat :=
  let c0_i32_100 : BitVec 32 := 0#32
  let c1_i32 : BitVec 32 := 1#32
  let arg17 : BitVec 32 := Scf.iv c0_i32_100 c1_i32 k0_t1
  let c8_i32 : BitVec 32 := 8#32
  let v184 : BitVec 32 := Scalar.muli arg17 c8_i32
  let v185 : BitVec 32 := v184
  let v186 : Index := Scalar.indexCast v185
  let c0_119 : Index := 0#32
  ![v186.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8192x2048 : Shape := ⟨2, ![8192, 2048]⟩
abbrev S1x4x1024 : Shape := ⟨3, ![1, 4, 1024]⟩
abbrev S1x1024 : Shape := ⟨2, ![1, 1024]⟩
abbrev S1x8x128x128 : Shape := ⟨4, ![1, 8, 128, 128]⟩
abbrev S2x4096x2048 : Shape := ⟨3, ![2, 4096, 2048]⟩
abbrev S2x4096x1024 : Shape := ⟨3, ![2, 4096, 1024]⟩
abbrev S4x1024 : Shape := ⟨2, ![4, 1024]⟩
abbrev S1024 : Shape := ⟨1, ![1024]⟩
abbrev S_ : Shape := ⟨0, ![]⟩
abbrev S2x4099x1024 : Shape := ⟨3, ![2, 4099, 1024]⟩
abbrev S1x1x1024 : Shape := ⟨3, ![1, 1, 1024]⟩
abbrev S8x128x128 : Shape := ⟨3, ![8, 128, 128]⟩
abbrev S2x4096x8x128 : Shape := ⟨4, ![2, 4096, 8, 128]⟩
abbrev S8x128x2x4096 : Shape := ⟨4, ![8, 128, 2, 4096]⟩
abbrev S2x1024 : Shape := ⟨2, ![2, 1024]⟩
abbrev S4096x2x1024 : Shape := ⟨3, ![4096, 2, 1024]⟩
abbrev S1x2x1024 : Shape := ⟨3, ![1, 2, 1024]⟩
abbrev S2x4096 : Shape := ⟨2, ![2, 4096]⟩
abbrev S2x4096x1 : Shape := ⟨3, ![2, 4096, 1]⟩
abbrev S8192x1024 : Shape := ⟨2, ![8192, 1024]⟩

abbrev nBuf : Space → Nat
  | .hbm => 182
  | .vmem => 0
  | .smem => 0
  | _ => 0

abbrev hbmTy0_0 (i : Nat) : BufTy := match i % 128 with
  | 0 => ⟨S8192x2048, .f32⟩
  | 1 => ⟨S1x4x1024, .f32⟩
  | 2 => ⟨S1x1024, .f32⟩
  | 3 => ⟨S1x8x128x128, .f32⟩
  | 4 => ⟨S1x1024, .f32⟩
  | 5 => ⟨S1x8x128x128, .f32⟩
  | 6 => ⟨S1x1024, .f32⟩
  | 7 => ⟨S1x1024, .f32⟩
  | 8 => ⟨S1x1024, .f32⟩
  | 9 => ⟨S2x4096x2048, .f32⟩
  | 10 => ⟨S2x4096x1024, .f32⟩
  | 11 => ⟨S2x4096x1024, .f32⟩
  | 12 => ⟨S4x1024, .f32⟩
  | 13 => ⟨S1024, .f32⟩
  | 14 => ⟨S_, .i32⟩
  | 15 => ⟨S_, .f32⟩
  | 16 => ⟨S2x4099x1024, .f32⟩
  | 17 => ⟨S2x4096x1024, .f32⟩
  | 18 => ⟨S1x1024, .f32⟩
  | 19 => ⟨S1024, .f32⟩
  | 20 => ⟨S1x1x1024, .f32⟩
  | 21 => ⟨S2x4096x1024, .f32⟩
  | 22 => ⟨S2x4096x1024, .f32⟩
  | 23 => ⟨S_, .f32⟩
  | 24 => ⟨S2x4096x1024, .f32⟩
  | 25 => ⟨S2x4096x1024, .f32⟩
  | 26 => ⟨S2x4096x1024, .f32⟩
  | 27 => ⟨S1x1024, .f32⟩
  | 28 => ⟨S1024, .f32⟩
  | 29 => ⟨S1x1x1024, .f32⟩
  | 30 => ⟨S2x4096x1024, .f32⟩
  | 31 => ⟨S2x4096x1024, .f32⟩
  | 32 => ⟨S2x4096x1024, .f32⟩
  | 33 => ⟨S2x4096x1024, .f32⟩
  | 34 => ⟨S1x1024, .f32⟩
  | 35 => ⟨S1024, .f32⟩
  | 36 => ⟨S1x1x1024, .f32⟩
  | 37 => ⟨S2x4096x1024, .f32⟩
  | 38 => ⟨S2x4096x1024, .f32⟩
  | 39 => ⟨S2x4096x1024, .f32⟩
  | 40 => ⟨S2x4096x1024, .f32⟩
  | 41 => ⟨S1x1024, .f32⟩
  | 42 => ⟨S1024, .f32⟩
  | 43 => ⟨S1x1x1024, .f32⟩
  | 44 => ⟨S2x4096x1024, .f32⟩
  | 45 => ⟨S2x4096x1024, .f32⟩
  | 46 => ⟨S2x4096x1024, .f32⟩
  | 47 => ⟨S1x1x1024, .f32⟩
  | 48 => ⟨S2x4096x1024, .f32⟩
  | 49 => ⟨S2x4096x1024, .f32⟩
  | 50 => ⟨S8x128x128, .f32⟩
  | 51 => ⟨S1024, .f32⟩
  | 52 => ⟨S8x128x128, .f32⟩
  | 53 => ⟨S1024, .f32⟩
  | 54 => ⟨S1024, .f32⟩
  | 55 => ⟨S2x4096x8x128, .f32⟩
  | 56 => ⟨S8x128x2x4096, .f32⟩
  | 57 => ⟨S2x4096x8x128, .f32⟩
  | 58 => ⟨S2x4096x1024, .f32⟩
  | 59 => ⟨S1x1x1024, .f32⟩
  | 60 => ⟨S2x4096x1024, .f32⟩
  | 61 => ⟨S2x4096x1024, .f32⟩
  | 62 => ⟨S2x4096x1024, .f32⟩
  | 63 => ⟨S2x4096x1024, .f32⟩
  | 64 => ⟨S_, .f32⟩
  | 65 => ⟨S2x4096x1024, .f32⟩
  | 66 => ⟨S2x4096x1024, .f32⟩
  | 67 => ⟨S_, .f32⟩
  | 68 => ⟨S2x4096x1024, .f32⟩
  | 69 => ⟨S2x4096x1024, .f32⟩
  | 70 => ⟨S8x128x2x4096, .f32⟩
  | 71 => ⟨S2x4096x8x128, .f32⟩
  | 72 => ⟨S2x4096x1024, .f32⟩
  | 73 => ⟨S1x1x1024, .f32⟩
  | 74 => ⟨S2x4096x1024, .f32⟩
  | 75 => ⟨S2x4096x1024, .f32⟩
  | 76 => ⟨S2x4096x1024, .f32⟩
  | 77 => ⟨S2x4096x1024, .f32⟩
  | 78 => ⟨S_, .f32⟩
  | 79 => ⟨S2x4096x1024, .f32⟩
  | 80 => ⟨S2x4096x1024, .f32⟩
  | 81 => ⟨S_, .f32⟩
  | 82 => ⟨S2x4096x1024, .f32⟩
  | 83 => ⟨S2x4096x1024, .f32⟩
  | 84 => ⟨S_, .f32⟩
  | 85 => ⟨S2x4096x1024, .f32⟩
  | 86 => ⟨S2x4096x1024, .f32⟩
  | 87 => ⟨S1024, .f32⟩
  | 88 => ⟨S_, .f32⟩
  | 89 => ⟨S1024, .f32⟩
  | 90 => ⟨S1024, .f32⟩
  | 91 => ⟨S1024, .f32⟩
  | 92 => ⟨S1024, .f32⟩
  | 93 => ⟨S1024, .i1⟩
  | 94 => ⟨S1024, .f32⟩
  | 95 => ⟨S1024, .f32⟩
  | 96 => ⟨S1024, .f32⟩
  | 97 => ⟨S1024, .f32⟩
  | 98 => ⟨S1024, .f32⟩
  | 99 => ⟨S1024, .f32⟩
  | 100 => ⟨S1024, .f32⟩
  | 101 => ⟨S1024, .f32⟩
  | 102 => ⟨S1x1x1024, .f32⟩
  | 103 => ⟨S2x4096x1024, .f32⟩
  | 104 => ⟨S2x4096x1024, .f32⟩
  | 105 => ⟨S2x4096x1024, .f32⟩
  | 106 => ⟨S_, .f32⟩
  | 107 => ⟨S2x4096x1024, .f32⟩
  | 108 => ⟨S2x4096x1024, .f32⟩
  | 109 => ⟨S2x4096x1024, .f32⟩
  | 110 => ⟨S2x4096x1024, .f32⟩
  | 111 => ⟨S2x4096x1024, .f32⟩
  | 112 => ⟨S2x4096x1024, .f32⟩
  | 113 => ⟨S2x4096x1024, .f32⟩
  | 114 => ⟨S_, .f32⟩
  | 115 => ⟨S2x1024, .f32⟩
  | 116 => ⟨S4096x2x1024, .f32⟩
  | 117 => ⟨S4096x2x1024, .f32⟩
  | 118 => ⟨S_, .f32⟩
  | 119 => ⟨S4096x2x1024, .f32⟩
  | 120 => ⟨S_, .i32⟩
  | 121 => ⟨S4096x2x1024, .f32⟩
  | 122 => ⟨S4096x2x1024, .f32⟩
  | 123 => ⟨S_, .i32⟩
  | 124 => ⟨S2x1024, .f32⟩
  | 125 => ⟨S4096x2x1024, .f32⟩
  | 126 => ⟨S_, .i32⟩
  | 127 => ⟨S_, .i1⟩
  | _ => ⟨S8192x2048, .f32⟩

abbrev hbmTy0_1 (i : Nat) : BufTy := match i % 128 with
  | 0 => ⟨S_, .i32⟩
  | 1 => ⟨S_, .i32⟩
  | 2 => ⟨S1x2x1024, .f32⟩
  | 3 => ⟨S2x1024, .f32⟩
  | 4 => ⟨S_, .i32⟩
  | 5 => ⟨S_, .i32⟩
  | 6 => ⟨S1x2x1024, .f32⟩
  | 7 => ⟨S2x1024, .f32⟩
  | 8 => ⟨S2x1024, .f32⟩
  | 9 => ⟨S2x1024, .f32⟩
  | 10 => ⟨S1x2x1024, .f32⟩
  | 11 => ⟨S_, .i32⟩
  | 12 => ⟨S_, .i32⟩
  | 13 => ⟨S4096x2x1024, .f32⟩
  | 14 => ⟨S_, .i32⟩
  | 15 => ⟨S_, .i32⟩
  | 16 => ⟨S2x4096x1024, .f32⟩
  | 17 => ⟨S2x4096x1024, .f32⟩
  | 18 => ⟨S2x4096x1024, .f32⟩
  | 19 => ⟨S_, .f32⟩
  | 20 => ⟨S2x4096x1024, .f32⟩
  | 21 => ⟨S2x4096x1024, .f32⟩
  | 22 => ⟨S2x4096x1024, .f32⟩
  | 23 => ⟨S_, .f32⟩
  | 24 => ⟨S2x4096x1024, .f32⟩
  | 25 => ⟨S2x4096x1024, .f32⟩
  | 26 => ⟨S2x4096x1024, .f32⟩
  | 27 => ⟨S_, .f32⟩
  | 28 => ⟨S2x4096x1024, .f32⟩
  | 29 => ⟨S2x4096x1024, .f32⟩
  | 30 => ⟨S_, .f32⟩
  | 31 => ⟨S2x4096x1024, .f32⟩
  | 32 => ⟨S2x4096x1024, .f32⟩
  | 33 => ⟨S2x4096x1024, .f32⟩
  | 34 => ⟨S2x4096x1024, .f32⟩
  | 35 => ⟨S1024, .f32⟩
  | 36 => ⟨S2x4096x1024, .f32⟩
  | 37 => ⟨S_, .f32⟩
  | 38 => ⟨S2x4096, .f32⟩
  | 39 => ⟨S2x4096x1, .f32⟩
  | 40 => ⟨S_, .f32⟩
  | 41 => ⟨S2x4096x1, .f32⟩
  | 42 => ⟨S2x4096x1, .f32⟩
  | 43 => ⟨S_, .f32⟩
  | 44 => ⟨S2x4096x1, .f32⟩
  | 45 => ⟨S2x4096x1, .f32⟩
  | 46 => ⟨S2x4096x1, .f32⟩
  | 47 => ⟨S2x4096x1024, .f32⟩
  | 48 => ⟨S2x4096x1024, .f32⟩
  | 49 => ⟨S1x1x1024, .f32⟩
  | 50 => ⟨S2x4096x1024, .f32⟩
  | 51 => ⟨S2x4096x1024, .f32⟩
  | 52 => ⟨S8192x1024, .f32⟩
  | 53 => ⟨S8192x1024, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_0 : Ref sig .tc := ⟨.hbm, 64, rfl⟩
abbrev main_v52 : Ref sig .tc := ⟨.hbm, 65, rfl⟩
abbrev main_v53 : Ref sig .tc := ⟨.hbm, 66, rfl⟩
abbrev main_cst_1 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_2 : Ref sig .tc := ⟨.hbm, 78, rfl⟩
abbrev main_v64 : Ref sig .tc := ⟨.hbm, 79, rfl⟩
abbrev main_v65 : Ref sig .tc := ⟨.hbm, 80, rfl⟩
abbrev main_cst_3 : Ref sig .tc := ⟨.hbm, 81, rfl⟩
abbrev main_v66 : Ref sig .tc := ⟨.hbm, 82, rfl⟩
abbrev main_v67 : Ref sig .tc := ⟨.hbm, 83, rfl⟩
abbrev main_cst_4 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_call1_cst : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_v6 : Ref sig .tc := ⟨.hbm, 95, rfl⟩
abbrev main_call1_v7 : Ref sig .tc := ⟨.hbm, 96, rfl⟩
abbrev main_call1_v8 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_5 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_6 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_7 : Ref sig .tc := ⟨.hbm, 118, rfl⟩
abbrev main_v86 : Ref sig .tc := ⟨.hbm, 119, rfl⟩
abbrev main_c_8 : Ref sig .tc := ⟨.hbm, 120, rfl⟩
abbrev main_v87_0 : Ref sig .tc := ⟨.hbm, 121, rfl⟩
abbrev main_v87_1 : Ref sig .tc := ⟨.hbm, 122, rfl⟩
abbrev main_v87_2 : Ref sig .tc := ⟨.hbm, 123, rfl⟩
abbrev main_v87_3 : Ref sig .tc := ⟨.hbm, 124, rfl⟩
abbrev main_v87_4 : Ref sig .tc := ⟨.hbm, 125, rfl⟩
abbrev main_while0c_c_20 : Ref sig .tc := ⟨.hbm, 126, rfl⟩
abbrev main_while0c_v119 : Ref sig .tc := ⟨.hbm, 127, rfl⟩
abbrev main_while0b_call2_c : Ref sig .tc := ⟨.hbm, 128, rfl⟩
abbrev main_while0b_call2_c_0 : Ref sig .tc := ⟨.hbm, 129, rfl⟩
abbrev main_while0b_call2_v0 : Ref sig .tc := ⟨.hbm, 130, rfl⟩
abbrev main_while0b_v119 : Ref sig .tc := ⟨.hbm, 131, rfl⟩
abbrev main_while0b_call3_c : Ref sig .tc := ⟨.hbm, 132, rfl⟩
abbrev main_while0b_call3_c_0 : Ref sig .tc := ⟨.hbm, 133, rfl⟩
abbrev main_while0b_call3_v0 : Ref sig .tc := ⟨.hbm, 134, rfl⟩
abbrev main_while0b_v120 : Ref sig .tc := ⟨.hbm, 135, rfl⟩
abbrev main_while0b_v121 : Ref sig .tc := ⟨.hbm, 136, rfl⟩
abbrev main_while0b_v122 : Ref sig .tc := ⟨.hbm, 137, rfl⟩
abbrev main_while0b_call4_v0 : Ref sig .tc := ⟨.hbm, 138, rfl⟩
abbrev main_while0b_call4_c : Ref sig .tc := ⟨.hbm, 139, rfl⟩
abbrev main_while0b_call4_c_0 : Ref sig .tc := ⟨.hbm, 140, rfl⟩
abbrev main_while0b_v123 : Ref sig .tc := ⟨.hbm, 141, rfl⟩
abbrev main_while0b_c_20 : Ref sig .tc := ⟨.hbm, 142, rfl⟩
abbrev main_while0b_v124 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_cst_9 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_cst_10 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_cst_11 : Ref sig .tc := ⟨.hbm, 155, rfl⟩
abbrev main_v97 : Ref sig .tc := ⟨.hbm, 156, rfl⟩
abbrev main_v98 : Ref sig .tc := ⟨.hbm, 157, rfl⟩
abbrev main_cst_12 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_cst_13 : Ref sig .tc := ⟨.hbm, 165, rfl⟩
abbrev main_v105 : Ref sig .tc := ⟨.hbm, 166, rfl⟩
abbrev main_v106 : Ref sig .tc := ⟨.hbm, 167, rfl⟩
abbrev main_cst_14 : Ref sig .tc := ⟨.hbm, 168, rfl⟩
abbrev main_v107 : Ref sig .tc := ⟨.hbm, 169, rfl⟩
abbrev main_v108 : Ref sig .tc := ⟨.hbm, 170, rfl⟩
abbrev main_cst_15 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S8192x2048 : Shape := ⟨2, ![8192, 2048]⟩
abbrev S1x2048x12288 : Shape := ⟨3, ![1, 2048, 12288]⟩
abbrev S1x3x6144 : Shape := ⟨3, ![1, 3, 6144]⟩
abbrev S1x6144 : Shape := ⟨2, ![1, 6144]⟩
abbrev S1x6144x2048 : Shape := ⟨3, ![1, 6144, 2048]⟩
abbrev S2048 : Shape := ⟨1, ![2048]⟩
abbrev S2048x12288 : Shape := ⟨2, ![2048, 12288]⟩
abbrev S3x6144 : Shape := ⟨2, ![3, 6144]⟩
abbrev S6144 : Shape := ⟨1, ![6144]⟩
abbrev S6144x2048 : Shape := ⟨2, ![6144, 2048]⟩
abbrev S1x2048 : Shape := ⟨2, ![1, 2048]⟩
abbrev S512x2048 : Shape := ⟨2, ![512, 2048]⟩
abbrev S2048x1024 : Shape := ⟨2, ![2048, 1024]⟩
abbrev S3x1024 : Shape := ⟨2, ![3, 1024]⟩
abbrev S1x1024 : Shape := ⟨2, ![1, 1024]⟩
abbrev S1024x2048 : Shape := ⟨2, ![1024, 2048]⟩
abbrev S6x8x1024 : Shape := ⟨3, ![6, 8, 1024]⟩
abbrev S520x1024 : Shape := ⟨2, ![520, 1024]⟩
abbrev S512x1024 : Shape := ⟨2, ![512, 1024]⟩
abbrev S1x8x1024 : Shape := ⟨3, ![1, 8, 1024]⟩
abbrev S8x1024 : Shape := ⟨2, ![8, 1024]⟩
abbrev S512 : Shape := ⟨1, ![512]⟩
abbrev S512x1 : Shape := ⟨2, ![512, 1]⟩

abbrev nBuf : Space → Nat
  | .hbm => 16
  | .vmem => 19
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x12288, .f32⟩
  | .hbm, ⟨3, _⟩ => ⟨S1x3x6144, .f32⟩
  | .hbm, ⟨4, _⟩ => ⟨S1x6144, .f32⟩
  | .hbm, ⟨5, _⟩ => ⟨S1x6144x2048, .f32⟩
  | .hbm, ⟨6, _⟩ => ⟨S2048, .f32⟩
  | .hbm, ⟨7, _⟩ => ⟨S2048x12288, .f32⟩
  | .hbm, ⟨8, _⟩ => ⟨S2048x12288, .bf16⟩
  | .hbm, ⟨9, _⟩ => ⟨S3x6144, .f32⟩
  | .hbm, ⟨10, _⟩ => ⟨S6144, .f32⟩
  | .hbm, ⟨11, _⟩ => ⟨S1x6144, .f32⟩
  | .hbm, ⟨12, _⟩ => ⟨S6144x2048, .f32⟩
  | .hbm, ⟨13, _⟩ => ⟨S6144x2048, .bf16⟩
  | .hbm, ⟨14, _⟩ => ⟨S1x2048, .f32⟩
  | .hbm, ⟨15, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S3x1024, .f32⟩
  | .local _ .vmem, ⟨7, _⟩ => ⟨S3x1024, .f32⟩
  | .local _ .vmem, ⟨8, _⟩ => ⟨S1x1024, .f32⟩
  | .local _ .vmem, ⟨9, _⟩ => ⟨S1x1024, .f32⟩
  | .local _ .vmem, ⟨10, _⟩ => ⟨S1024x2048, .bf16⟩
  | .local _ .vmem, ⟨11, _⟩ => ⟨S1024x2048, .bf16⟩
  | .local _ .vmem, ⟨12, _⟩ => ⟨S512x2048, .f32⟩
  | .local _ .vmem, ⟨13, _⟩ => ⟨S512x2048, .f32⟩
  | .local _ .vmem, ⟨14, _⟩ => ⟨S1x2048, .f32⟩
  | .local _ .vmem, ⟨15, _⟩ => ⟨S512x2048, .f32⟩
  | .local _ .vmem, ⟨16, _⟩ => ⟨S512x2048, .f32⟩
  | .local _ .vmem, ⟨17, _⟩ => ⟨S6x8x1024, .f32⟩
  | .local _ .vmem, ⟨18, _⟩ => ⟨S520x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 6], ![false, false]⟩

def k0_off1 (i : grid0.Coords) : Fin 3 → Nat :=
  let arg1 : BitVec 32 := BitVec.ofNat 32 (i 1).val
  let v21 : Index := Scalar.indexCast arg1
  let c0_12 : Index := 0#32
  let c0_13 : Index := 0#32
  ![v21.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S8192x2048 : Shape := ⟨2, ![8192, 2048]⟩
abbrev S1x2048x12288 : Shape := ⟨3, ![1, 2048, 12288]⟩
abbrev S1x3x6144 : Shape := ⟨3, ![1, 3, 6144]⟩
abbrev S1x6144 : Shape := ⟨2, ![1, 6144]⟩
abbrev S1x6144x2048 : Shape := ⟨3, ![1, 6144, 2048]⟩
abbrev S2048 : Shape := ⟨1, ![2048]⟩
abbrev S2x4096x2048 : Shape := ⟨3, ![2, 4096, 2048]⟩
abbrev S2048x12288 : Shape := ⟨2, ![2048, 12288]⟩
abbrev S2x4096x12288 : Shape := ⟨3, ![2, 4096, 12288]⟩
abbrev S2x4096x6144 : Shape := ⟨3, ![2, 4096, 6144]⟩
abbrev S3x6144 : Shape := ⟨2, ![3, 6144]⟩
abbrev S6144 : Shape := ⟨1, ![6144]⟩
abbrev S_ : Shape := ⟨0, ![]⟩
abbrev S2x4098x6144 : Shape := ⟨3, ![2, 4098, 6144]⟩
abbrev S1x1x6144 : Shape := ⟨3, ![1, 1, 6144]⟩
abbrev S6144x2048 : Shape := ⟨2, ![6144, 2048]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 83
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x12288, .f32⟩
  | .hbm, ⟨3, _⟩ => ⟨S1x3x6144, .f32⟩
  | .hbm, ⟨4, _⟩ => ⟨S1x6144, .f32⟩
  | .hbm, ⟨5, _⟩ => ⟨S1x6144x2048, .f32⟩
  | .hbm, ⟨6, _⟩ => ⟨S2048, .f32⟩
  | .hbm, ⟨7, _⟩ => ⟨S8192x2048, .f32⟩
  | .hbm, ⟨8, _⟩ => ⟨S2x4096x2048, .f32⟩
  | .hbm, ⟨9, _⟩ => ⟨S2048x12288, .f32⟩
  | .hbm, ⟨10, _⟩ => ⟨S2x4096x12288, .f32⟩
  | .hbm, ⟨11, _⟩ => ⟨S2x4096x6144, .f32⟩
  | .hbm, ⟨12, _⟩ => ⟨S2x4096x6144, .f32⟩
  | .hbm, ⟨13, _⟩ => ⟨S3x6144, .f32⟩
  | .hbm, ⟨14, _⟩ => ⟨S6144, .f32⟩
  | .hbm, ⟨15, _⟩ => ⟨S_, .i32⟩
  | .hbm, ⟨16, _⟩ => ⟨S_, .f32⟩
  | .hbm, ⟨17, _⟩ => ⟨S2x4098x6144, .f32⟩
  | .hbm, ⟨18, _⟩ => ⟨S2x4096x6144, .f32⟩
  | .hbm, ⟨19, _⟩ => ⟨S1x6144, .f32⟩
  | .hbm, ⟨20, _⟩ => ⟨S6144, .f32⟩
  | .hbm, ⟨21, _⟩ => ⟨S1x1x6144, .f32⟩
  | .hbm, ⟨22, _⟩ => ⟨S2x4096x6144, .f32⟩
  | .hbm, ⟨23, _⟩ => ⟨S2x4096x6144, .f32⟩
  | .hbm, ⟨24, _⟩ => ⟨S_, .f32⟩
  | .hbm, ⟨25, _⟩ => ⟨S2x4096x6144, .f32⟩
  | .hbm, ⟨26, _⟩ => ⟨S2x4096x6144, .f32⟩
  | .hbm, ⟨27, _⟩ => ⟨S2x4096x6144, .f32⟩
  | .hbm, ⟨28, _⟩ => ⟨S1x6144, .f32⟩
  | .hbm, ⟨29, _⟩ => ⟨S6144, .f32⟩
  | .hbm, ⟨30, _⟩ => ⟨S1x1x6144, .f32⟩
  | .hbm, ⟨31, _⟩ => ⟨S2x4096x6144, .f32⟩
  | .hbm, ⟨32, _⟩ => ⟨S2x4096x6144, .f32⟩
  | .hbm, ⟨33, _⟩ => ⟨S2x4096x6144, .f32⟩
  | .hbm, ⟨34, _⟩ => ⟨S2x4096x6144, .f32⟩
  | .hbm, ⟨35, _⟩ => ⟨S1x6144, .f32⟩
  | .hbm, ⟨36, _⟩ => ⟨S6144, .f32⟩
  | .hbm, ⟨37, _⟩ => ⟨S1x1x6144, .f32⟩
  | .hbm, ⟨38, _⟩ => ⟨S2x4096x6144, .f32⟩
  | .hbm, ⟨39, _⟩ => ⟨S2x4096x6144, .f32⟩
  | .hbm, ⟨40, _⟩ => ⟨S2x4096x6144, .f32⟩
  | .hbm, ⟨41, _⟩ => ⟨S1x1x6144, .f32⟩
  | .hbm, ⟨42, _⟩ => ⟨S2x4096x6144, .f32⟩
  | .hbm, ⟨43, _⟩ => ⟨S2x4096x6144, .f32⟩
  | .hbm, ⟨44, _⟩ => ⟨S2x4096x2048, .f32⟩
  | .hbm, ⟨45, _⟩ => ⟨S2x4096x6144, .f32⟩
  | .hbm, ⟨46, _⟩ => ⟨S2x4096x6144, .f32⟩
  | .hbm, ⟨47, _⟩ => ⟨S_, .f32⟩
  | .hbm, ⟨48, _⟩ => ⟨S2x4096x6144, .f32⟩
  | .hbm, ⟨49, _⟩ => ⟨S2x4096x6144, .f32⟩
  | .hbm, ⟨50, _⟩ => ⟨S2x4096x6144, .f32⟩
  | .hbm, ⟨51, _⟩ => ⟨S_, .f32⟩
  | .hbm, ⟨52, _⟩ => ⟨S2x4096x6144, .f32⟩
  | .hbm, ⟨53, _⟩ => ⟨S2x4096x6144, .f32⟩
  | .hbm, ⟨54, _⟩ => ⟨S2x4096x6144, .f32⟩
  | .hbm, ⟨55, _⟩ => ⟨S_, .f32⟩
  | .hbm, ⟨56, _⟩ => ⟨S2x4096x6144, .f32⟩
  | .hbm, ⟨57, _⟩ => ⟨S2x4096x6144, .f32⟩
  | .hbm, ⟨58, _⟩ => ⟨S_, .f32⟩
  | .hbm, ⟨59, _⟩ => ⟨S2x4096x6144, .f32⟩
  | .hbm, ⟨60, _⟩ => ⟨S2x4096x6144, .f32⟩
  | .hbm, ⟨61, _⟩ => ⟨S2x4096x6144, .f32⟩
  | .hbm, ⟨62, _⟩ => ⟨S2x4096x6144, .f32⟩
  | .hbm, ⟨63, _⟩ => ⟨S6144x2048, .f32⟩
  | .hbm, ⟨64, _⟩ => ⟨S2x4096x2048, .f32⟩
  | .hbm, ⟨65, _⟩ => ⟨S2x4096x2048, .f32⟩
  | .hbm, ⟨66, _⟩ => ⟨S2x4096x2048, .f32⟩
  | .hbm, ⟨67, _⟩ => ⟨S_, .f32⟩
  | .hbm, ⟨68, _⟩ => ⟨S2x4096, .f32⟩
  | .hbm, ⟨69, _⟩ => ⟨S2x4096x1, .f32⟩
  | .hbm, ⟨70, _⟩ => ⟨S_, .f32⟩
  | .hbm, ⟨71, _⟩ => ⟨S2x4096x1, .f32⟩
  | .hbm, ⟨72, _⟩ => ⟨S2x4096x1, .f32⟩
  | .hbm, ⟨73, _⟩ => ⟨S_, .f32⟩
  | .hbm, ⟨74, _⟩ => ⟨S2x4096x1, .f32⟩
  | .hbm, ⟨75, _⟩ => ⟨S2x4096x1, .f32⟩
  | .hbm, ⟨76, _⟩ => ⟨S2x4096x1, .f32⟩
  | .hbm, ⟨77, _⟩ => ⟨S2x4096x2048, .f32⟩
  | .hbm, ⟨78, _⟩ => ⟨S2x4096x2048, .f32⟩
  | .hbm, ⟨79, _⟩ => ⟨S1x1x2048, .f32⟩
  | .hbm, ⟨80, _⟩ => ⟨S2x4096x2048, .f32⟩
  | .hbm, ⟨81, _⟩ => ⟨S2x4096x2048, .f32⟩
  | .hbm, ⟨82, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_0 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_1 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_2 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_4 : Ref sig .tc := ⟨.hbm, 67, rfl⟩
abbrev main_v53 : Ref sig .tc := ⟨.hbm, 68, rfl⟩
abbrev main_v54 : Ref sig .tc := ⟨.hbm, 69, rfl⟩
abbrev main_cst_5 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S2x4096x2048 : Shape := ⟨3, ![2, 4096, 2048]⟩
abbrev S1x2048x2048 : Shape := ⟨3, ![1, 2048, 2048]⟩
abbrev S1x2048 : Shape := ⟨2, ![1, 2048]⟩
abbrev S1024 : Shape := ⟨1, ![1024]⟩
abbrev S8192x2048 : Shape := ⟨2, ![8192, 2048]⟩
abbrev S2048x2048 : Shape := ⟨2, ![2048, 2048]⟩
abbrev S2048 : Shape := ⟨1, ![2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x2048 : Shape := ⟨2, ![1024, 2048]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024, .f32⟩
  | .hbm, ⟨3, _⟩ => ⟨S2x4096x2048, .f32⟩
  | .hbm, ⟨4, _⟩ => ⟨S1x2048x2048, .f32⟩
  | .hbm, ⟨5, _⟩ => ⟨S1x2048, .f32⟩
  | .hbm, ⟨6, _⟩ => ⟨S1024, .f32⟩
  | .hbm, ⟨7, _⟩ => ⟨S1x1024, .f32⟩
  | .hbm, ⟨8, _⟩ => ⟨S8192x2048, .f32⟩
  | .hbm, ⟨9, _⟩ => ⟨S2048x2048, .f32⟩
  | .hbm, ⟨10, _⟩ => ⟨S2048x2048, .bf16⟩
  | .hbm, ⟨11, _⟩ => ⟨S2048, .f32⟩
  | .hbm, ⟨12, _⟩ => ⟨S1x2048, .f32⟩
  | .hbm, ⟨13, _⟩ => ⟨S8192x2048, .f32⟩
  | .hbm, ⟨14, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x2048, .f32⟩
  | .local _ .vmem, ⟨6, _⟩ => ⟨S512x2048, .f32⟩
  | .local _ .vmem, ⟨7, _⟩ => ⟨S2048x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel3Ideal.lean ====
variable {F : FTy → Type} [FloatOps F] [Named F]
def κ : String → Option EReal := fun
  | "eps" => some ((8796093 / 8796093022208 : ℝ) : EReal)
  | _ => none
-- ==== Reference3Ideal.lean ====
abbrev S8192x1024 : Shape := ⟨2, ![8192, 1024]⟩
abbrev S1x1024 : Shape := ⟨2, ![1, 1024]⟩
abbrev S2x4096x2048 : Shape := ⟨3, ![2, 4096, 2048]⟩
abbrev S1x2048x2048 : Shape := ⟨3, ![1, 2048, 2048]⟩
abbrev S1x2048 : Shape := ⟨2, ![1, 2048]⟩
abbrev S2x4096x1024 : Shape := ⟨3, ![2, 4096, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2048x2048 : Shape := ⟨2, ![2048, 2048]⟩
abbrev S8192x2048 : Shape := ⟨2, ![8192, 2048]⟩
abbrev S2048 : Shape := ⟨1, ![2048]⟩
abbrev S1x1x2048 : Shape := ⟨3, ![1, 1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024, .f32⟩
  | .hbm, ⟨3, _⟩ => ⟨S2x4096x2048, .f32⟩
  | .hbm, ⟨4, _⟩ => ⟨S1x2048x2048, .f32⟩
  | .hbm, ⟨5, _⟩ => ⟨S1x2048, .f32⟩
  | .hbm, ⟨6, _⟩ => ⟨S8192x1024, .f32⟩
  | .hbm, ⟨7, _⟩ => ⟨S2x4096x1024, .f32⟩
  | .hbm, ⟨8, _⟩ => ⟨S8192x1024, .f32⟩
  | .hbm, ⟨9, _⟩ => ⟨S2x4096x1024, .f32⟩
  | .hbm, ⟨10, _⟩ => ⟨S1024, .f32⟩
  | .hbm, ⟨11, _⟩ => ⟨S2x4096x1024, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1, .f32⟩
  | .hbm, ⟨22, _⟩ => ⟨S2x4096x1024, .f32⟩
  | .hbm, ⟨23, _⟩ => ⟨S2x4096x1024, .f32⟩
  | .hbm, ⟨24, _⟩ => ⟨S1x1x1024, .f32⟩
  | .hbm, ⟨25, _⟩ => ⟨S2x4096x1024, .f32⟩
  | .hbm, ⟨26, _⟩ => ⟨S2x4096x1024, .f32⟩
  | .hbm, ⟨27, _⟩ => ⟨S2x4096x2048, .f32⟩
  | .hbm, ⟨28, _⟩ => ⟨S2048x2048, .f32⟩
  | .hbm, ⟨29, _⟩ => ⟨S2x4096x2048, .f32⟩
  | .hbm, ⟨30, _⟩ => ⟨S2x4096x2048, .f32⟩
  | .hbm, ⟨31, _⟩ => ⟨S8192x2048, .f32⟩
  | .hbm, ⟨32, _⟩ => ⟨S2048, .f32⟩
  | .hbm, ⟨33, _⟩ => ⟨S2x4096x2048, .f32⟩
  | .hbm, ⟨34, _⟩ => ⟨S_, .f32⟩
  | .hbm, ⟨35, _⟩ => ⟨S2x4096, .f32⟩
  | .hbm, ⟨36, _⟩ => ⟨S2x4096x1, .f32⟩
  | .hbm, ⟨37, _⟩ => ⟨S_, .f32⟩
  | .hbm, ⟨38, _⟩ => ⟨S2x4096x1, .f32⟩
  | .hbm, ⟨39, _⟩ => ⟨S2x4096x1, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S2x4096x1, .f32⟩
  | .hbm, ⟨44, _⟩ => ⟨S2x4096x2048, .f32⟩
  | .hbm, ⟨45, _⟩ => ⟨S2x4096x2048, .f32⟩
  | .hbm, ⟨46, _⟩ => ⟨S1x1x2048, .f32⟩
  | .hbm, ⟨47, _⟩ => ⟨S2x4096x2048, .f32⟩
  | .hbm, ⟨48, _⟩ => ⟨S2x4096x2048, .f32⟩
  | .hbm, ⟨49, _⟩ => ⟨S8192x2048, .f32⟩
  | .hbm, ⟨50, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel4.lean ====
abbrev S2x4096x2048 : Shape := ⟨3, ![2, 4096, 2048]⟩
abbrev S1x2048 : Shape := ⟨2, ![1, 2048]⟩
abbrev S1x2048x4632 : Shape := ⟨3, ![1, 2048, 4632]⟩
abbrev S8192x2048 : Shape := ⟨2, ![8192, 2048]⟩
abbrev S2048x4632 : Shape := ⟨2, ![2048, 4632]⟩
abbrev S_ : Shape := ⟨0, ![]⟩
abbrev S2048x116 : Shape := ⟨2, ![2048, 116]⟩
abbrev S2048x12 : Shape := ⟨2, ![2048, 12]⟩
abbrev S2048x256 : Shape := ⟨2, ![2048, 256]⟩
abbrev S2048 : Shape := ⟨1, ![2048]⟩
abbrev S8192x1024 : Shape := ⟨2, ![8192, 1024]⟩
abbrev S8192x512 : Shape := ⟨2, ![8192, 512]⟩
abbrev S8192x256 : Shape := ⟨2, ![8192, 256]⟩
abbrev S512x2048 : Shape := ⟨2, ![512, 2048]⟩
abbrev S2048x4608 : Shape := ⟨2, ![2048, 4608]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S2048x2048 : Shape := ⟨2, ![2048, 2048]⟩
abbrev S2048x1024 : Shape := ⟨2, ![2048, 1024]⟩
abbrev S2048x512 : Shape := ⟨2, ![2048, 512]⟩

abbrev nBuf : Space → Nat
  | .hbm => 21
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x4632, .f32⟩
  | .hbm, ⟨3, _⟩ => ⟨S8192x2048, .f32⟩
  | .hbm, ⟨4, _⟩ => ⟨S2048x4632, .f32⟩
  | .hbm, ⟨5, _⟩ => ⟨S2048x4632, .bf16⟩
  | .hbm, ⟨6, _⟩ => ⟨S_, .f32⟩
  | .hbm, ⟨7, _⟩ => ⟨S2048x116, .f32⟩
  | .hbm, ⟨8, _⟩ => ⟨S2048x4632, .f32⟩
  | .hbm, ⟨9, _⟩ => ⟨S2048x12, .f32⟩
  | .hbm, ⟨10, _⟩ => ⟨S2048x4632, .f32⟩
  | .hbm, ⟨11, _⟩ => ⟨S2048x12, .f32⟩
  | .hbm, ⟨12, _⟩ => ⟨S2048x256, .f32⟩
  | .hbm, ⟨13, _⟩ => ⟨S2048x256, .bf16⟩
  | .hbm, ⟨14, _⟩ => ⟨S2048, .f32⟩
  | .hbm, ⟨15, _⟩ => ⟨S1x2048, .f32⟩
  | .hbm, ⟨16, _⟩ => ⟨S8192x2048, .f32⟩
  | .hbm, ⟨17, _⟩ => ⟨S8192x1024, .bf16⟩
  | .hbm, ⟨18, _⟩ => ⟨S8192x512, .f32⟩
  | .hbm, ⟨19, _⟩ => ⟨S8192x1024, .bf16⟩
  | .hbm, ⟨20, _⟩ => ⟨S8192x256, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4608, .bf16⟩
  | .local _ .vmem, ⟨4, _⟩ => ⟨S2048x256, .bf16⟩
  | .local _ .vmem, ⟨5, _⟩ => ⟨S512x2048, .f32⟩
  | .local _ .vmem, ⟨6, _⟩ => ⟨S512x2048, .f32⟩
  | .local _ .vmem, ⟨7, _⟩ => ⟨S512x1024, .bf16⟩
  | .local _ .vmem, ⟨8, _⟩ => ⟨S512x1024, .bf16⟩
  | .local _ .vmem, ⟨9, _⟩ => ⟨S512x512, .f32⟩
  | .local _ .vmem, ⟨10, _⟩ => ⟨S512x512, .f32⟩
  | .local _ .vmem, ⟨11, _⟩ => ⟨S512x1024, .bf16⟩
  | .local _ .vmem, ⟨12, _⟩ => ⟨S512x1024, .bf16⟩
  | .local _ .vmem, ⟨13, _⟩ => ⟨S512x256, .f32⟩
  | .local _ .vmem, ⟨14, _⟩ => ⟨S512x256, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev main_v12_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S2x4096x2048 : Shape := ⟨3, ![2, 4096, 2048]⟩
abbrev S1x2048 : Shape := ⟨2, ![1, 2048]⟩
abbrev S1x2048x4632 : Shape := ⟨3, ![1, 2048, 4632]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x4632 : Shape := ⟨2, ![2048, 4632]⟩
abbrev S2x4096x4632 : Shape := ⟨3, ![2, 4096, 4632]⟩
abbrev S8192x4632 : Shape := ⟨2, ![8192, 4632]⟩
abbrev S8192x2048 : Shape := ⟨2, ![8192, 2048]⟩
abbrev S8192x1024 : Shape := ⟨2, ![8192, 1024]⟩
abbrev S8192x512 : Shape := ⟨2, ![8192, 512]⟩
abbrev S8192x24 : Shape := ⟨2, ![8192, 24]⟩
abbrev S8192x2x12 : Shape := ⟨3, ![8192, 2, 12]⟩
abbrev S8192x2x128 : Shape := ⟨3, ![8192, 2, 128]⟩
abbrev S8192x256 : Shape := ⟨2, ![8192, 256]⟩

abbrev nBuf : Space → Nat
  | .hbm => 38
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x4632, .f32⟩
  | .hbm, ⟨3, _⟩ => ⟨S2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2048x4632, .f32⟩
  | .hbm, ⟨21, _⟩ => ⟨S2x4096x4632, .f32⟩
  | .hbm, ⟨22, _⟩ => ⟨S8192x4632, .f32⟩
  | .hbm, ⟨23, _⟩ => ⟨S8192x2048, .f32⟩
  | .hbm, ⟨24, _⟩ => ⟨S8192x1024, .f32⟩
  | .hbm, ⟨25, _⟩ => ⟨S8192x512, .f32⟩
  | .hbm, ⟨26, _⟩ => ⟨S8192x1024, .f32⟩
  | .hbm, ⟨27, _⟩ => ⟨S8192x24, .f32⟩
  | .hbm, ⟨28, _⟩ => ⟨S8192x2x12, .f32⟩
  | .hbm, ⟨29, _⟩ => ⟨S_, .i32⟩
  | .hbm, ⟨30, _⟩ => ⟨S_, .f32⟩
  | .hbm, ⟨31, _⟩ => ⟨S8192x2x128, .f32⟩
  | .hbm, ⟨32, _⟩ => ⟨S8192x256, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .bf16⟩
  | .hbm, ⟨37, _⟩ => ⟨S8192x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.Ffn.Body.lean ====
/- The conv-gated MLP call, one grid point: what the body leaves in its output block and in the halo scratch, as
   functions of the blocks it is handed, and the body's triple saying so. A grid point is (i, j): row tile `i`, hidden
   tile `j`. -/
module

public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import Idealize.ShloMosaic.Lib.VecWindow
public import Idealize.ShloMosaic.Lib.Pipeline.ValueKit

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-- The body starts a row tile: the output block is set to the residual first. -/
abbrev isFirst (i : grid0.Coords) : Prop := (Scalar.cmpi .ne (Scalar.extui (Scalar.cmpi .eq (BitVec.ofNat 32 (i 1).val) 0#32)) 0#32) = 1#1
/-- The body ends a row tile: the output block is normalised last. -/
abbrev isLast (i : grid0.Coords) : Prop := (Scalar.cmpi .ne (Scalar.extui (Scalar.cmpi .eq (BitVec.ofNat 32 (i 1).val) 5#32)) 0#32) = 1#1

theorem isFirst_iff : ∀ t : Fin cfg0.N, isFirst (grid0.coords t) ↔ t.val % 6 = 0 :=
  (fun t => by
    have ht : t.val < 96 := Nat.lt_of_lt_of_eq t.isLt N_0
    have e1 : (grid0.coords t 1).val = t.val / 1 % 6 := Pipeline.Grid.coords_val t 1 (by decide) rfl
    simp only [isFirst, e1]
    word_cmp
   : ∀ t : Fin grid0.N, isFirst (grid0.coords t) ↔ t.val % 6 = 0)

theorem isLast_iff : ∀ t : Fin cfg0.N, isLast (grid0.coords t) ↔ t.val % 6 = 5 :=
  (fun t => by
    have ht : t.val < 96 := Nat.lt_of_lt_of_eq t.isLt N_0
    have e1 : (grid0.coords t 1).val = t.val / 1 % 6 := Pipeline.Grid.coords_val t 1 (by decide) rfl
    simp only [isLast, e1]
    word_cmp
   : ∀ t : Fin grid0.N, isLast (grid0.coords t) ↔ t.val % 6 = 5)

/-- The halo slot of hidden tile `j`, as the body loads it. -/
def slot (i : grid0.Coords) (h : Vec F S6x8x1024 .f32) : Vec F S1x8x1024 .f32 :=
  View.ld h (Rect.unit (s := S6x8x1024) (k0_off1 i) S1x8x1024.size (k0_off1_inb i))

/-- The padded rows the convolution reads: the eight rows `top` over the tile's own rows. -/
def padded (top : Vec F S8x1024 .f32) (x0 : Vec F S512x2048 .bf16) (x1 : Vec F S2048x1024 .bf16) : Vec F S520x1024 .f32 :=
  View.canon (Val := Elt F) [⟨Rect.unit (s := S520x1024) ![8, 0] S512x1024.size inb_S520x1024_S512x1024_8_0, k0_pay6 x0 x1⟩,
    ⟨Rect.unit (s := S520x1024) ![0, 0] S8x1024.size inb_S520x1024_S8x1024_0_0, top⟩]

/-- The gated activation of the tile. -/
def gated (top : Vec F S8x1024 .f32) (x0 : Vec F S512x2048 .bf16) (x1 x2 : Vec F S2048x1024 .bf16)
    (x3 : Vec F S3x1024 .f32) (x4 : Vec F S1x1024 .f32) : Vec F S512x1024 .bf16 :=
  k0_pay8 (k0_pay3 x0 x1) (k0_pay4 x0 x2) x4
    (View.ld x3 (Rect.unit (s := S3x1024) ![2, 0] S1x1024.size inb_S3x1024_S1x1024_2_0))
    (View.ld x3 (Rect.unit (s := S3x1024) ![0, 0] S1x1024.size inb_S3x1024_S1x1024_0_0))
    (View.ld (padded top x0 x1) (Rect.unit (s := S520x1024) ![6, 0] S512x1024.size inb_S520x1024_S512x1024_6_0))
    (View.ld x3 (Rect.unit (s := S3x1024) ![1, 0] S1x1024.size inb_S3x1024_S1x1024_1_0))
    (View.ld (padded top x0 x1) (Rect.unit (s := S520x1024) ![7, 0] S512x1024.size inb_S520x1024_S512x1024_7_0))

open Classical in
/-- What the body leaves in the output block, `o` being what it held. -/
def outStep (i : grid0.Coords) (x0 : Vec F S512x2048 .bf16) (x1 x2 : Vec F S2048x1024 .bf16)
    (x3 : Vec F S3x1024 .f32) (x4 : Vec F S1x1024 .f32) (x5 : Vec F S1024x2048 .bf16) (x6 : Vec F S512x2048 .f32)
    (x7 : Vec F S1x2048 .f32) (top : Vec F S8x1024 .f32) (o : Vec F S512x2048 .f32) : Vec F S512x2048 .f32 :=
  let acc := k0_pay1 (gated top x0 x1 x2 x3 x4) (if isFirst i then x6 else o) x5
  if isLast i then k0_pay2 acc x7 else acc

/-- What the body leaves in the halo scratch: slot `j` at the last eight rows of the tile. -/
def haloStep (i : grid0.Coords) (x0 : Vec F S512x2048 .bf16) (x1 : Vec F S2048x1024 .bf16) (h : Vec F S6x8x1024 .f32) : Vec F S6x8x1024 .f32 :=
  VecWindow.put h (k0_off1 i) S1x8x1024.size (k0_pay7 (k0_pay3 x0 x1))

/-- A load of what this body's own stores left, as a load of their closed form. -/
theorem readCov_ld {κ : Kind} {sp : Space} {s : Shape} {e : EltTy} (v : View sig κ sp s e) (L : List (View.Piece (Elt F) s e)) (r : Rect s) :
    v.readCov L r.toLoadRect = View.ld (View.canon L) r := View.readCov_eq_canon' v L _

set_option maxHeartbeats 1000000 in
/-- The body on whole memrefs: the inputs stay, the output block and the halo scratch go to `outStep` and `haloStep`. -/
theorem body_triple (c : Dev nD) (i : grid0.Coords) (arg2 : Memref sig .tc .vmem S512x2048 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S3x1024 .f32) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S512x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S6x8x1024 .f32) (harg11 : arg11.IsWhole) (arg12 : Memref sig .tc .vmem S520x1024 .f32) (harg12 : arg12.IsWhole)
    (hj : isFirst i → ¬ isLast i)
    (x0 : Vec F S512x2048 .bf16) (x1 : Vec F S2048x1024 .bf16) (x2 : Vec F S2048x1024 .bf16) (x3 : Vec F S3x1024 .f32) (x4 : Vec F S1x1024 .f32) (x5 : Vec F S1024x2048 .bf16) (x6 : Vec F S512x2048 .f32) (x7 : Vec F S1x2048 .f32) (o : Vec F S512x2048 .f32) (h : Vec F S6x8x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare o ∗ owns (c : Thread nD τ) arg11 fullShare h ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outStep i x0 x1 x2 x3 x4 x5 x6 x7 (k0_pay5 i (slot i h)) o) ∗ owns (c : Thread nD τ) arg11 fullShare (haloStep i x0 x1 h) ∗ (∃ d, owns (c : Thread nD τ) arg12 fullShare d)) -∗ K ⟨⟩))
      ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12) K := by
  simp only [cc0_conv_ffn_eq_skeleton]; unfold cc0_conv_ffn_skel
  simp only [k0_part1_eq_skeleton, k0_part2_eq_skeleton]
  unfold owns
  have hcases : (isFirst i ∧ ¬ isLast i) ∨ (¬ isFirst i ∧ isLast i) ∨ (¬ isFirst i ∧ ¬ isLast i) := by
    by_cases h0 : isFirst i
    · exact .inl ⟨h0, hj h0⟩
    · by_cases h1 : isLast i
      · exact .inr (.inl ⟨h0, h1⟩)
      · exact .inr (.inr ⟨h0, h1⟩)
  rcases hcases with ⟨hc0, hc1⟩ | ⟨hc0, hc1⟩ | ⟨hc0, hc1⟩
  all_goals
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr
      swap; · iexact H8
      ipureintro
      rw [View.read_writes_full]
      sl_unfold_words
      simp (disch := decide) only [View.readAt_eq_ld, Memref.IsWhole.read_unread, View.ld_unit_lit, readCov_ld, View.canon_cons_unit_lit]
      simp only [outStep, gated, padded, slot, k0_off1]
      split_ifs <;> first | contradiction | rfl
    isplitl [HS0]
    · iexists _; isplitr
      swap; · iexact HS0
      ipureintro
      rw [View.read_writes_cons_put _ _ _ _ _ rfl, View.writes_nil, harg11.read_unread]
      sl_unfold_words
      simp (disch := decide) only [View.readAt_eq_ld, Memref.IsWhole.read_unread, View.ld_unit_lit]
      simp only [haloStep, k0_off1]
    iexists _; iexists _; isplitr
    swap; · iexact HS1
    ipureintro; rfl

end Cert.Ffn

end
-- ==== Proof.Ffn.Frame.lean ====
/- The conv-gated MLP call, the run of the whole grid: the contents of the output block after each point, the invariant
   of the halo scratch (slot `j` holds the last eight rows of hidden tile `j` of the row tile before), the launch, and
   the frame claim's post for any values. -/
module

public import proofs.«01_k».proof.Proof.Ffn.Body

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Names at a point -/

abbrev ms0 (t : Fin cfg0.N) : Memref sig .tc .vmem S512x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S3x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x2048 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x2048 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x2048 .f32 := win0_8.stage (cfg0.slots t 8)
abbrev hs8 (t : Fin cfg0.N) : (ms8 t).IsWhole := hstage0_8 ((cfg0.slots t 8).cast nbuf0_8)
/-- The halo scratch and the padded-rows scratch. -/
abbrev haloM : Memref sig .tc .vmem S6x8x1024 .f32 := Memref.whole cc0_scratch0
abbrev padM : Memref sig .tc .vmem S520x1024 .f32 := Memref.whole cc0_scratch1

theorem PhiA_eq (c : Dev nD) :
    (Pipeline.ΦA spec0 c : sProp 𝕄)
      = iprop(iprop((∃ d, owns (c : Thread nD τ) haloM fullShare d) ∗ (∃ d, owns (c : Thread nD τ) padM fullShare d)) ∗ (∃ r, prngReg c r)) := by
  unfold Pipeline.ΦA; rw [scopedRest0_eq]; simp only [haloM, padM, owns_whole]; try rfl

/-! ## What the buffers hold after each point -/

/-- The last eight rows of hidden tile `j` at point `t`, under a leading unit axis. -/
def tail (c : Dev nD) (t : Fin cfg0.N) : Vec F S1x8x1024 .f32 :=
  k0_pay7 (k0_pay3 (iblk m c 0 t : Vec F S512x2048 .bf16) (iblk m c 1 t : Vec F S2048x1024 .bf16))

/-- The point of the same hidden tile in the row tile before (point 0 itself where there is none). -/
def before6 (t : Fin cfg0.N) : Fin cfg0.N := ⟨t.val - 6, lt_of_le_of_lt (Nat.sub_le _ _) t.isLt⟩

/-- The eight rows above the tile at point `t`: zeros at a sequence's start, else the tail of the row tile before. -/
def topAt (c : Dev nD) (t : Fin cfg0.N) : Vec F S8x1024 .f32 := k0_pay5 (grid0.coords t) (tail m c (before6 t))

/-- The body's effect on the output block at point `t`. -/
def outPt (c : Dev nD) (t : Fin cfg0.N) (o : Vec F S512x2048 .f32) : Vec F S512x2048 .f32 :=
  outStep (grid0.coords t) (iblk m c 0 t) (iblk m c 1 t) (iblk m c 2 t) (iblk m c 3 t) (iblk m c 4 t) (iblk m c 5 t)
    (iblk m c 6 t) (iblk m c 7 t) (topAt m c t) o

/-- The output block after point `n`. -/
def outAt (c : Dev nD) : (n : ℕ) → n < cfg0.N → Vec F S512x2048 .f32
  | 0, hn => outPt m c ⟨0, hn⟩ (iblk m c 6 ⟨0, hn⟩)
  | n + 1, hn => outPt m c ⟨n + 1, hn⟩ (outAt c n (Nat.lt_of_succ_lt hn))

/-- At a row tile's first point the output block's old contents do not matter. -/
theorem outPt_first (c : Dev nD) (t : Fin cfg0.N) (h : t.val % 6 = 0) (o o' : Vec F S512x2048 .f32) : outPt m c t o = outPt m c t o' := by
  have hf : isFirst (grid0.coords t) := (isFirst_iff t).mpr h
  unfold outPt outStep; rw [if_pos hf, if_pos hf]

theorem outAt_first (c : Dev nD) (t : Fin cfg0.N) (h : t.val % 6 = 0) (o : Vec F S512x2048 .f32) : outAt m c t.val t.isLt = outPt m c t o := by
  obtain ⟨n, hn⟩ := t
  cases n with
  | zero => exact outPt_first m c _ h _ _
  | succ n => exact outPt_first m c _ h _ _

theorem outAt_next (c : Dev nD) (t : Fin cfg0.N) (h : t.val ≠ 0) :
    outAt m c t.val t.isLt = outPt m c t (outAt m c (t.val - 1) (lt_of_le_of_lt (Nat.sub_le _ _) t.isLt)) := by
  obtain ⟨n, hn⟩ := t
  cases n with
  | zero => exact absurd rfl h
  | succ n => rfl

/-! ## The halo scratch -/

/-- A point's slot offsets. -/
theorem off_eq (t : Fin cfg0.N) : k0_off1 (grid0.coords t) = ![t.val % 6, 0, 0] := by
  have e1 : (grid0.coords t 1).val = t.val / 1 % 6 := Pipeline.Grid.coords_val t 1 (by decide) rfl
  have hlt : t.val % 6 < 6 := Nat.mod_lt _ (by decide)
  unfold k0_off1
  simp only [e1, Nat.div_one]
  generalize t.val % 6 = j at hlt
  revert hlt
  revert j
  decide

/-- At a sequence's start the halo is not read: the rows above are zeros. -/
theorem top_first (t : Fin cfg0.N) (h : t.val / 6 % 8 = 0) (v v' : Vec F S1x8x1024 .f32) :
    k0_pay5 (grid0.coords t) v = k0_pay5 (grid0.coords t) v' := by
  have ht : t.val < 96 := Nat.lt_of_lt_of_eq t.isLt N_0
  have e0 : (grid0.coords t 0).val = t.val / 6 % 16 := Pipeline.Grid.coords_val t 0 (by decide) rfl
  have hi : t.val / 6 % 16 = 0 ∨ t.val / 6 % 16 = 8 := by omega
  unfold k0_pay5
  rcases hi with hi | hi <;> · simp only [e0, hi]; rfl

/-- Before point `n`: the slot of each of the last six points holds that point's tail. -/
def haloInv (c : Dev nD) (n : ℕ) (h : Vec F S6x8x1024 .f32) : Prop :=
  ∀ t : Fin cfg0.N, t.val < n → n ≤ t.val + 6 → slot (grid0.coords t) h = tail m c t

theorem haloInv_step (c : Dev nD) (t : Fin cfg0.N) (h : Vec F S6x8x1024 .f32) (hh : haloInv m c t.val h) :
    haloInv m c (t.val + 1) (haloStep (grid0.coords t) (iblk m c 0 t) (iblk m c 1 t) h) := by
  intro k hk hk'
  by_cases hkt : k = t
  · subst hkt
    exact VecWindow.window_put_same h _ _ (k0_off1_inb _) _
  · have hne : k.val ≠ t.val := fun e => hkt (Fin.ext e)
    rw [← hh k (by omega) (by omega)]
    refine VecWindow.window_put_of_disjoint h _ _ _ _ (k0_off1_inb _) _ 0 ?_
    rw [off_eq, off_eq]
    show k.val % 6 + 1 ≤ t.val % 6 ∨ t.val % 6 + 1 ≤ k.val % 6
    omega

/-- So the rows above the tile are what `topAt` says, whatever the scratch held at the start. -/
theorem top_eq (c : Dev nD) (t : Fin cfg0.N) (h : Vec F S6x8x1024 .f32) (hh : haloInv m c t.val h) :
    k0_pay5 (grid0.coords t) (slot (grid0.coords t) h) = topAt m c t := by
  by_cases h6 : t.val < 6
  · exact top_first t (by omega) _ _
  · unfold topAt
    have hs : slot (grid0.coords t) h = slot (grid0.coords (before6 t)) h := by
      have ho : k0_off1 (grid0.coords t) = k0_off1 (grid0.coords (before6 t)) := by
        rw [off_eq, off_eq]; congr 1; show t.val % 6 = (t.val - 6) % 6; omega
      unfold slot; congr 2
    rw [hs, hh (before6 t) (by show t.val - 6 < t.val; omega) (by show t.val ≤ t.val - 6 + 6; omega)]

/-- The invariant before point `n`. -/
def Phi (c : Dev nD) (n : ℕ) : sProp 𝕄 :=
  iprop((∃ h, ⌜haloInv m c n h⌝ ∗ owns (c : Thread nD τ) haloM fullShare h) ∗ (∃ d, owns (c : Thread nD τ) padM fullShare d) ∗ (∃ r, prngReg c r))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t.val t.isLt
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6w (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- Away from a row tile's first point the output's buffer holds what the point before left. -/
theorem before8 (c : Dev nD) (t : Fin cfg0.N) (h : ¬ t.val % 6 = 0) (d) :
    (dats m 0 c).before 8 t d = outAt m c (t.val - 1) (lt_of_le_of_lt (Nat.sub_le _ _) t.isLt) := by
  have hN : t.val < 96 := lt_of_lt_of_eq t.isLt (show cfg0.N = 96 from N_0)
  rw [Dat.before_out_kept _ 8 rfl t (by omega) (Bool.eq_false_iff.mpr fun h => by have := (flush0_8 _).mp h; dsimp only at this; omega)
    (fun _ => rfl) (fun _ _ => rfl)]
  dsimp only [dats]

/-- Whatever the output's buffer held, the body leaves `outAt`. -/
theorem out_eq (c : Dev nD) (t : Fin cfg0.N) (d) : outPt m c t ((dats m 0 c).before 8 t d) = outAt m c t.val t.isLt := by
  by_cases h : t.val % 6 = 0
  · exact (outAt_first m c t h _).symm
  · rw [before8 m c t h, outAt_next m c t (by omega)]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6w, before7]
  rw [show (dats m 0 c).owesAt () t.succ = (dats m 0 c).owesAt () t.castSucc from rfl,
    after0, after1, after2, after3, after4, after5, after6, after7, after8]
  rw [show (dats m 0 c).Φ t.succ = Phi m c (t.val + 1) from rfl, show (dats m 0 c).Φ t.castSucc = Phi m c t.val from rfl]
  unfold Phi
  have hj : isFirst (grid0.coords t) → ¬ isLast (grid0.coords t) := fun h h' => by
    have := (isFirst_iff t).mp h; have := (isLast_iff t).mp h'; omega
  iintro ⟨⟨⟨%h, %hh, HS0⟩, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple c (grid0.coords t) _ _ _ _ _ _ _ _ _ _ _ _ _ _ _ _ _ _ _ _ _ _ hj (iblk m c 0 t) (iblk m c 1 t) (iblk m c 2 t) (iblk m c 3 t) (iblk m c 4 t) (iblk m c 5 t) (iblk m c 6 t) (iblk m c 7 t) ((dats m 0 c).before 8 t d8) h Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  rw [top_eq m c t h hh]
  iintro ⟨H0, H1, H2, H3, H4, H5, H6, H7, H8, HS0, HS1⟩
  isplitl [HS0 HS1 Hg]
  · isplitl [HS0]
    · iexists _; isplitr
      swap; · iexact HS0
      ipureintro; exact haloInv_step m c t h hh
    isplitl [HS1]; · iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [← out_eq m c t d8]
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, PhiA_eq]
  unfold Phi
  iintro ⟨⟨⟨%h, HS0⟩, HS1⟩, Hg⟩
  isplitl [HS0]
  · iexists h; isplitr
    swap; · iexact HS0
    ipureintro; exact fun t ht => absurd ht (Nat.not_lt_zero _)
  isplitl [HS1]; · iexact HS1
  iexact Hg

theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨⟨%h, %hh, HS0⟩, HS1, Hg⟩
  isplitl [HS0 HS1]
  · isplitl [HS0]
    · iexists h; iexact HS0
    iexact HS1
  iexact Hg

/-! ## The run -/

set_option backward.isDefEq.respectTransparency.types false in
/-- Every weakly fair execution of @main terminates, the arrays at what the proof data says, the counters at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The argument arrays end unchanged and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Ffn

end
-- ==== Proof.Idx.lean ====
/- Arrays read at natural-number positions: an entry of an array of one to three axes is named by its positions as
   numbers, so that two spellings of one position differ by arithmetic alone. -/
module

public import Idealize.ShloMosaic.Lib.Pointwise
public import Idealize.ShloMosaic.Lib.Pipeline.ValueKit

@[expose] public section

noncomputable section

namespace Cert.At

open Idealize.ShloMosaic

/-- Entry `r` of a vector, zero off it. -/
def at1 {a : ℕ} (x : (⟨1, ![a]⟩ : Shape).Idx → EReal) (r : ℕ) : EReal := if h : r < a then x (ix1 ⟨r, h⟩) else 0

/-- Entry `(r, k)` of a matrix, zero off it. -/
def at2 {a b : ℕ} (x : (⟨2, ![a, b]⟩ : Shape).Idx → EReal) (r k : ℕ) : EReal :=
  if h : r < a ∧ k < b then x (ix2 ⟨r, h.1⟩ ⟨k, h.2⟩) else 0

/-- Entry `(p, r, k)` of a box, zero off it. -/
def at3 {a b d : ℕ} (x : (⟨3, ![a, b, d]⟩ : Shape).Idx → EReal) (p r k : ℕ) : EReal :=
  if h : p < a ∧ r < b ∧ k < d then x (ix3 ⟨p, h.1⟩ ⟨r, h.2.1⟩ ⟨k, h.2.2⟩) else 0

theorem at1_eq {a : ℕ} (x : (⟨1, ![a]⟩ : Shape).Idx → EReal) (r : Fin a) : x (ix1 r) = at1 x r.val := by
  unfold at1; rw [dif_pos r.isLt]

theorem at2_eq {a b : ℕ} (x : (⟨2, ![a, b]⟩ : Shape).Idx → EReal) (r : Fin a) (k : Fin b) : x (ix2 r k) = at2 x r.val k.val := by
  unfold at2; rw [dif_pos ⟨r.isLt, k.isLt⟩]

theorem at3_eq {a b d : ℕ} (x : (⟨3, ![a, b, d]⟩ : Shape).Idx → EReal) (p : Fin a) (r : Fin b) (k : Fin d) :
    x (ix3 p r k) = at3 x p.val r.val k.val := by
  unfold at3; rw [dif_pos ⟨p.isLt, r.isLt, k.isLt⟩]

/-- A two-piece canon of rows: rows from `n` on hold the later piece, the first `n` the earlier. -/
theorem canon_rows {Val : EltTy → Type} [∀ e, Nonempty (Val e)] {e : EltTy} {n k d : ℕ}
    (hi : ∀ a, (![n, 0] : Fin 2 → ℕ) a + (![k, d] : Fin 2 → ℕ) a ≤ (⟨2, ![n + k, d]⟩ : Shape).size a)
    (hl : ∀ a, (![0, 0] : Fin 2 → ℕ) a + (![n, d] : Fin 2 → ℕ) a ≤ (⟨2, ![n + k, d]⟩ : Shape).size a)
    (wh : (⟨2, ![k, d]⟩ : Shape).Idx → Val e) (wl : (⟨2, ![n, d]⟩ : Shape).Idx → Val e) (r : Fin (n + k)) (f : Fin d) :
    View.canon (s := ⟨2, ![n + k, d]⟩) [⟨Rect.unit ![n, 0] ![k, d] hi, wh⟩, ⟨Rect.unit ![0, 0] ![n, d] hl, wl⟩] (ix2 r f)
      = if h : r.val < n then wl (ix2 ⟨r.val, h⟩ f) else wh (ix2 ⟨r.val - n, by omega⟩ f) := by
  by_cases h : r.val < n
  · rw [dif_pos h, View.canon_cons_of_not_mem]
    · have e1 : (ix2 r f : (⟨2, ![n + k, d]⟩ : Shape).Idx) = (Rect.unit (s := ⟨2, ![n + k, d]⟩) ![0, 0] ![n, d] hl).emb (ix2 ⟨r.val, h⟩ f) := by
        funext a; apply Fin.ext
        match a with
        | ⟨0, _⟩ => show r.val = 0 + 1 * r.val; omega
        | ⟨1, _⟩ => show f.val = 0 + 1 * f.val; omega
      rw [e1]; exact View.canon_cons_emb _ _ _ _
    · intro hm
      have hm' : (ix2 r f : (⟨2, ![n + k, d]⟩ : Shape).Idx) ∈ (Rect.unit (s := ⟨2, ![n + k, d]⟩) ![n, 0] ![k, d] hi).set := hm
      rw [Rect.mem_set_unit] at hm'
      exact absurd (show n ≤ r.val from (hm' 0).1) (by omega)
  · rw [dif_neg h]
    have e1 : (ix2 r f : (⟨2, ![n + k, d]⟩ : Shape).Idx) = (Rect.unit (s := ⟨2, ![n + k, d]⟩) ![n, 0] ![k, d] hi).emb (ix2 ⟨r.val - n, by omega⟩ f) := by
      funext a; apply Fin.ext
      match a with
      | ⟨0, _⟩ => show r.val = n + 1 * (r.val - n); omega
      | ⟨1, _⟩ => show f.val = 0 + 1 * f.val; omega
    rw [e1]; exact View.canon_cons_emb _ _ _ _

end Cert.At

end
-- ==== Proof.Ffn.Reads.lean ====
/- The conv-gated MLP call over the extended reals: the blocks of the operands, read at natural-number positions of the
   arguments. -/
module

public import proofs.«01_k».proof.Proof.Ffn.Frame
public import proofs.«01_k».proof.Proof.Idx

@[expose] public section

set_option maxRecDepth 16384

noncomputable section

namespace Cert.Ffn

open Idealize.ShloMosaic Idealize.ShloMosaic.TcCoe Idealize.ShloMosaic.Tactic
open Idealize.SL.Sem
open Cert.Kernel2Ideal Cert.Kernel2Ideal.Gen Cert.At

variable (m : (ℓ : Loc nD τ sig) → Buf (Elt Ideal) ℓ)

/-! ## The arguments -/

def X (c : Dev nD) (r k : ℕ) : EReal := at2 (m ((c : Thread nD τ).loc main_arg0) : S8192x2048.Idx → EReal) r k
def H (c : Dev nD) (r q : ℕ) : EReal := at2 (m ((c : Thread nD τ).loc main_arg1) : S8192x2048.Idx → EReal) r q
def WU (c : Dev nD) (k f : ℕ) : EReal := at3 (m ((c : Thread nD τ).loc main_arg2) : S1x2048x12288.Idx → EReal) 0 k f
def CW (c : Dev nD) (k f : ℕ) : EReal := at3 (m ((c : Thread nD τ).loc main_arg3) : S1x3x6144.Idx → EReal) 0 k f
def CB (c : Dev nD) (f : ℕ) : EReal := at2 (m ((c : Thread nD τ).loc main_arg4) : S1x6144.Idx → EReal) 0 f
def WD (c : Dev nD) (f q : ℕ) : EReal := at3 (m ((c : Thread nD τ).loc main_arg5) : S1x6144x2048.Idx → EReal) 0 f q
def G (c : Dev nD) (q : ℕ) : EReal := at1 (m ((c : Thread nD τ).loc main_arg6) : S2048.Idx → EReal) q

/-- The windows' block positions. -/
theorem idx (t : Fin cfg0.N) :
    (win0_0.index t 0 = t.val / 6 ∧ win0_0.index t 1 = 0) ∧ (win0_1.index t 0 = 0 ∧ win0_1.index t 1 = t.val % 6)
    ∧ (win0_2.index t 0 = 0 ∧ win0_2.index t 1 = 6 + t.val % 6) ∧ (win0_3.index t 0 = 0 ∧ win0_3.index t 1 = t.val % 6)
    ∧ (win0_4.index t 0 = 0 ∧ win0_4.index t 1 = t.val % 6) ∧ (win0_5.index t 0 = t.val % 6 ∧ win0_5.index t 1 = 0)
    ∧ (win0_6.index t 0 = t.val / 6 ∧ win0_6.index t 1 = 0) ∧ (win0_7.index t 0 = 0 ∧ win0_7.index t 1 = 0)
    ∧ (win0_8.index t 0 = t.val / 6 ∧ win0_8.index t 1 = 0) :=
  (by decide +kernel : ∀ t : Fin cfg0.N,
    (win0_0.index t 0 = t.val / 6 ∧ win0_0.index t 1 = 0) ∧ (win0_1.index t 0 = 0 ∧ win0_1.index t 1 = t.val % 6)
    ∧ (win0_2.index t 0 = 0 ∧ win0_2.index t 1 = 6 + t.val % 6) ∧ (win0_3.index t 0 = 0 ∧ win0_3.index t 1 = t.val % 6)
    ∧ (win0_4.index t 0 = 0 ∧ win0_4.index t 1 = t.val % 6) ∧ (win0_5.index t 0 = t.val % 6 ∧ win0_5.index t 1 = 0)
    ∧ (win0_6.index t 0 = t.val / 6 ∧ win0_6.index t 1 = 0) ∧ (win0_7.index t 0 = 0 ∧ win0_7.index t 1 = 0)
    ∧ (win0_8.index t 0 = t.val / 6 ∧ win0_8.index t 1 = 0)) t

theorem tlt (t : Fin cfg0.N) : t.val < 96 := Nat.lt_of_lt_of_eq t.isLt N_0

theorem rd0 (c : Dev nD) (t : Fin cfg0.N) (p : Fin 512) (k : Fin 2048) :
    (iblk m c 0 t : S512x2048.Idx → EReal) (ix2 p k) = X m c (512 * (t.val / 6) + p.val) k.val := by
  have ht := tlt t
  unfold X
  rw [← at2_eq (m ((c : Thread nD τ).loc main_arg0) : S8192x2048.Idx → EReal) ⟨512 * (t.val / 6) + p.val, by omega⟩ k]
  blk_ext! [iblk, V, idx t]

theorem rd1 (c : Dev nD) (t : Fin cfg0.N) (k : Fin 2048) (f : Fin 1024) :
    (iblk m c 1 t : S2048x1024.Idx → EReal) (ix2 k f) = WU m c k.val (1024 * (t.val % 6) + f.val) := by
  have ht := tlt t
  unfold WU
  rw [show (0 : ℕ) = (0 : Fin 1).val from rfl, ← at3_eq (m ((c : Thread nD τ).loc main_arg2) : S1x2048x12288.Idx → EReal) 0 k ⟨1024 * (t.val % 6) + f.val, by omega⟩]
  blk_ext! [iblk, V, idx t]

theorem rd2 (c : Dev nD) (t : Fin cfg0.N) (k : Fin 2048) (f : Fin 1024) :
    (iblk m c 2 t : S2048x1024.Idx → EReal) (ix2 k f) = WU m c k.val (6144 + (1024 * (t.val % 6) + f.val)) := by
  have ht := tlt t
  unfold WU
  rw [show (0 : ℕ) = (0 : Fin 1).val from rfl, ← at3_eq (m ((c : Thread nD τ).loc main_arg2) : S1x2048x12288.Idx → EReal) 0 k ⟨6144 + (1024 * (t.val % 6) + f.val), by omega⟩]
  blk_ext! [iblk, V, idx t]

theorem rd3 (c : Dev nD) (t : Fin cfg0.N) (k : Fin 3) (f : Fin 1024) :
    (iblk m c 3 t : S3x1024.Idx → EReal) (ix2 k f) = CW m c k.val (1024 * (t.val % 6) + f.val) := by
  have ht := tlt t
  unfold CW
  rw [show (0 : ℕ) = (0 : Fin 1).val from rfl, ← at3_eq (m ((c : Thread nD τ).loc main_arg3) : S1x3x6144.Idx → EReal) 0 k ⟨1024 * (t.val % 6) + f.val, by omega⟩]
  blk_ext! [iblk, V, idx t]

theorem rd4 (c : Dev nD) (t : Fin cfg0.N) (z : Fin 1) (f : Fin 1024) :
    (iblk m c 4 t : S1x1024.Idx → EReal) (ix2 z f) = CB m c (1024 * (t.val % 6) + f.val) := by
  have ht := tlt t
  unfold CB
  rw [show (0 : ℕ) = (0 : Fin 1).val from rfl, ← at2_eq (m ((c : Thread nD τ).loc main_arg4) : S1x6144.Idx → EReal) 0 ⟨1024 * (t.val % 6) + f.val, by omega⟩]
  blk_ext! [iblk, V, idx t]

theorem rd5 (c : Dev nD) (t : Fin cfg0.N) (f : Fin 1024) (q : Fin 2048) :
    (iblk m c 5 t : S1024x2048.Idx → EReal) (ix2 f q) = WD m c (1024 * (t.val % 6) + f.val) q.val := by
  have ht := tlt t
  unfold WD
  rw [show (0 : ℕ) = (0 : Fin 1).val from rfl, ← at3_eq (m ((c : Thread nD τ).loc main_arg5) : S1x6144x2048.Idx → EReal) 0 ⟨1024 * (t.val % 6) + f.val, by omega⟩ q]
  blk_ext! [iblk, V, idx t]

theorem rd6 (c : Dev nD) (t : Fin cfg0.N) (p : Fin 512) (q : Fin 2048) :
    (iblk m c 6 t : S512x2048.Idx → EReal) (ix2 p q) = H m c (512 * (t.val / 6) + p.val) q.val := by
  have ht := tlt t
  unfold H
  rw [← at2_eq (m ((c : Thread nD τ).loc main_arg1) : S8192x2048.Idx → EReal) ⟨512 * (t.val / 6) + p.val, by omega⟩ q]
  blk_ext! [iblk, V, idx t]

theorem rd7 (c : Dev nD) (t : Fin cfg0.N) (z : Fin 1) (q : Fin 2048) :
    (iblk m c 7 t : S1x2048.Idx → EReal) (ix2 z q) = G m c q.val := by
  unfold G
  rw [← at1_eq (m ((c : Thread nD τ).loc main_arg6) : S2048.Idx → EReal) q]
  blk_ext! [iblk, V, idx t]

end Cert.Ffn

end
-- ==== Proof.Ffn.Spec.lean ====
/- The conv-gated MLP with its residual and final norm, as a function of the arguments read at natural-number positions:
   rows of two sequences of 4096 tokens one after the other. -/
module

public import Idealize.ShloMosaic.Lib.Pointwise

@[expose] public section

noncomputable section

namespace Cert.Ffn

open Idealize.ShloMosaic

variable (x h wu cw : ℕ → ℕ → EReal) (cb : ℕ → EReal) (wd : ℕ → ℕ → EReal) (g : ℕ → EReal)

/-- The up projection. -/
def up (r f : ℕ) : EReal := ∑ k : Fin 2048, x r k.val * wu k.val f

/-- The up projection `d` tokens back in the same sequence, zero before its start. -/
def back (d r f : ℕ) : EReal := if r % 4096 < d then 0 else up x wu (r - d) f

/-- The causal convolution of three taps. -/
def conv (r f : ℕ) : EReal := ((cb f + cw 2 f * up x wu r f) + cw 0 f * back x wu 2 r f) + cw 1 f * back x wu 1 r f

/-- The tanh form of the Gaussian error linear unit. -/
def gelu (y : EReal) : EReal :=
  y * (Ideal.ofBits .f32 0x3F000000#32 * (1 + Ideal.tanh (Ideal.ofBits .f32 0x3F4C422A#32 * (y + Ideal.ofBits .f32 0x3D372713#32 * (y * (y * y))))))

/-- The gated hidden units. -/
def hid (r f : ℕ) : EReal := gelu (conv x wu cw cb r f) * up x wu r (6144 + f)

/-- The residual stream plus the first `n` hidden units' share of the down projection. -/
def part (n r q : ℕ) : EReal := h r q + ∑ f ∈ Finset.range n, hid x wu cw cb r f * wd f q

/-- The root-mean-square norm of a row. -/
def norm (y : ℕ → EReal) (q : ℕ) : EReal :=
  y q * Ideal.rsqrt (Ideal.div (∑ q' : Fin 2048, y q'.val * y q'.val) (Ideal.ofBits .f32 0x45000000#32) + Ideal.ofBits .f32 0x358637BD#32) * g q

/-- The result. -/
def out (r q : ℕ) : EReal := norm g (part x h wu cw cb wd 6144 r) q

theorem part_add (n k r q : ℕ) :
    part x h wu cw cb wd n r q + ∑ f : Fin k, hid x wu cw cb r (n + f.val) * wd (n + f.val) q = part x h wu cw cb wd (n + k) r q := by
  unfold part
  rw [Finset.sum_range_add, add_assoc, ← Fin.sum_univ_eq_sum_range (fun j => hid x wu cw cb r (n + j) * wd (n + j) q) k]

theorem part_zero (r q : ℕ) : part x h wu cw cb wd 0 r q = h r q := by
  unfold part; rw [Finset.range_zero, Finset.sum_empty, add_zero]

end Cert.Ffn

end
-- ==== Proof.Ffn.Value.lean ====
/- The conv-gated MLP call over the extended reals: the result array is the specification's function of the arguments. -/
module

public import proofs.«01_k».proof.Proof.Ffn.Reads
public import proofs.«01_k».proof.Proof.Ffn.Spec

@[expose] public section

set_option maxRecDepth 16384

noncomputable section

namespace Cert.Ffn

open Idealize.ShloMosaic Idealize.ShloMosaic.TcCoe Idealize.ShloMosaic.Tactic
open Idealize.SL.Sem
open Idealize.ShloMosaic.Pipeline (Dat)
open Cert.Kernel2Ideal Cert.Kernel2Ideal.Gen Cert.At

variable (m : (ℓ : Loc nD τ sig) → Buf (Elt Ideal) ℓ) (ρ : Dev nD → PrngReg)

/-- The specification at the arguments. -/
abbrev kUp (c : Dev nD) := up (X m c) (WU m c)
abbrev kBack (c : Dev nD) := back (X m c) (WU m c)
abbrev kHid (c : Dev nD) := hid (X m c) (WU m c) (CW m c) (CB m c)
abbrev kPart (c : Dev nD) := part (X m c) (H m c) (WU m c) (CW m c) (CB m c) (WD m c)
abbrev kOut (c : Dev nD) := out (X m c) (H m c) (WU m c) (CW m c) (CB m c) (WD m c) (G m c)

theorem up_tile (c : Dev nD) (t : Fin cfg0.N) (p : Fin 512) (f : Fin 1024) :
    k0_pay3 (F := Ideal) (iblk m c 0 t) (iblk m c 1 t) (ix2 p f) = kUp m c (512 * (t.val / 6) + p.val) (1024 * (t.val % 6) + f.val) := by
  pointwise [k0_pay3]
  unfold kUp up
  refine Finset.sum_congr rfl fun k _ => ?_
  rw [← rd0, ← rd1]

theorem gate_tile (c : Dev nD) (t : Fin cfg0.N) (p : Fin 512) (f : Fin 1024) :
    k0_pay4 (F := Ideal) (iblk m c 0 t) (iblk m c 2 t) (ix2 p f) = kUp m c (512 * (t.val / 6) + p.val) (6144 + (1024 * (t.val % 6) + f.val)) := by
  pointwise [k0_pay4]
  unfold kUp up
  refine Finset.sum_congr rfl fun k _ => ?_
  rw [← rd0, ← rd2]

theorem pay6_eq (x0 : Vec Ideal S512x2048 .bf16) (x1 : Vec Ideal S2048x1024 .bf16) : k0_pay6 x0 x1 = k0_pay3 x0 x1 := by
  funext j; idx_vars j; pointwise [k0_pay6]

/-- The top rows: zero at a sequence's start, else the row tile before's last eight. -/
theorem top_tile (c : Dev nD) (t : Fin cfg0.N) (p : Fin 8) (f : Fin 1024) :
    topAt m c t (ix2 p f) = if t.val / 6 % 8 = 0 then 0 else kUp m c (512 * (t.val / 6) + p.val - 8) (1024 * (t.val % 6) + f.val) := by
  have ht := tlt t
  have e0 : (grid0.coords t 0).val = t.val / 6 % 16 := Pipeline.Grid.coords_val t 0 (by decide) rfl
  have hs : ∀ n : Fin 16, ∀ a b : EReal, Scalar.select
      (Scalar.cmpi CmpIPredicate.eq
        (Scalar.select
          (Scalar.andi
            (Scalar.xori
              (Scalar.cmpi CmpIPredicate.slt
                (Scalar.remsi (BitVec.ofNat 32 n.val)
                  (Scalar.select (Scalar.cmpi CmpIPredicate.eq 8#32 0#32) 1#32 8#32))
                0#32)
              (Scalar.cmpi CmpIPredicate.slt (Scalar.select (Scalar.cmpi CmpIPredicate.eq 8#32 0#32) 1#32 8#32) 0#32))
            (Scalar.cmpi CmpIPredicate.ne
              (Scalar.remsi (BitVec.ofNat 32 n.val) (Scalar.select (Scalar.cmpi CmpIPredicate.eq 8#32 0#32) 1#32 8#32))
              0#32))
          (Scalar.addi
            (Scalar.remsi (BitVec.ofNat 32 n.val) (Scalar.select (Scalar.cmpi CmpIPredicate.eq 8#32 0#32) 1#32 8#32))
            (Scalar.select (Scalar.cmpi CmpIPredicate.eq 8#32 0#32) 1#32 8#32))
          (Scalar.remsi (BitVec.ofNat 32 n.val) (Scalar.select (Scalar.cmpi CmpIPredicate.eq 8#32 0#32) 1#32 8#32)))
        0#32) a b = if n.val % 8 = 0 then a else b := by
    intro n a b; fin_cases n <;> rfl
  unfold topAt tail
  pointwise [k0_pay5, k0_pay7]
  rw [show (grid0.coords t 0).val = (⟨t.val / 6 % 16, Nat.mod_lt _ (by decide)⟩ : Fin 16).val from e0, hs]
  show (if t.val / 6 % 16 % 8 = 0 then _ else _) = _
  by_cases h : t.val / 6 % 8 = 0
  · rw [if_pos h, if_pos (by omega)]
  · rw [if_neg h, if_neg (by omega), up_tile]
    show kUp m c (512 * ((t.val - 6) / 6) + (504 + p.val)) (1024 * ((t.val - 6) % 6) + f.val) = _
    congr 1 <;> omega

theorem padded_rows (top : Vec Ideal S8x1024 .f32) (x0 : Vec Ideal S512x2048 .bf16) (x1 : Vec Ideal S2048x1024 .bf16) (r : Fin 520) (f : Fin 1024) :
    padded top x0 x1 (ix2 r f) = if h : r.val < 8 then top (ix2 ⟨r.val, h⟩ f) else k0_pay6 x0 x1 (ix2 ⟨r.val - 8, by omega⟩ f) := by
  unfold padded
  generalize k0_pay6 x0 x1 = y
  exact canon_rows (Val := Elt Ideal) (e := .f32) (n := 8) (k := 512) (d := 1024) inb_S520x1024_S512x1024_8_0 inb_S520x1024_S8x1024_0_0 y top r f

/-- The padded rows, shifted `8 - d` down. -/
theorem padded_tile (c : Dev nD) (t : Fin cfg0.N) (d : ℕ) (hd : 0 < d ∧ d ≤ 8) (p : Fin 512) (f : Fin 1024) (r : Fin 520) (hr : r.val = 8 - d + p.val) :
    padded (F := Ideal) (topAt m c t) (iblk m c 0 t) (iblk m c 1 t) (ix2 r f) = kBack m c d (512 * (t.val / 6) + p.val) (1024 * (t.val % 6) + f.val) := by
  have ht := tlt t
  rw [padded_rows]
  unfold kBack back
  by_cases h : r.val < 8
  · rw [dif_pos h, top_tile]
    by_cases h0 : t.val / 6 % 8 = 0
    · rw [if_pos h0, if_pos (by omega)]
    · rw [if_neg h0, if_neg (by omega)]
      congr 1; show 512 * (t.val / 6) + r.val - 8 = _; omega
  · rw [dif_neg h, pay6_eq, up_tile, if_neg (by omega)]
    congr 1; show 512 * (t.val / 6) + (r.val - 8) = _; omega

/-- The gated hidden units of a tile. -/
theorem gated_tile (c : Dev nD) (t : Fin cfg0.N) (p : Fin 512) (f : Fin 1024) :
    gated (F := Ideal) (topAt m c t) (iblk m c 0 t) (iblk m c 1 t) (iblk m c 2 t) (iblk m c 3 t) (iblk m c 4 t) (ix2 p f)
      = kHid m c (512 * (t.val / 6) + p.val) (1024 * (t.val % 6) + f.val) := by
  unfold gated
  pointwise [k0_pay8]
  rw [up_tile, gate_tile, rd4, rd3, rd3, rd3,
    padded_tile m c t 2 (by omega) p f _ (by show 6 + p.val = _; omega), padded_tile m c t 1 (by omega) p f _ (by show 7 + p.val = _; omega)]
  rfl

theorem acc_tile (c : Dev nD) (t : Fin cfg0.N) (o : Vec Ideal S512x2048 .f32) (p : Fin 512) (q : Fin 2048) :
    k0_pay1 (F := Ideal) (gated (topAt m c t) (iblk m c 0 t) (iblk m c 1 t) (iblk m c 2 t) (iblk m c 3 t) (iblk m c 4 t)) o (iblk m c 5 t) (ix2 p q)
      = o (ix2 p q) + ∑ f : Fin 1024, kHid m c (512 * (t.val / 6) + p.val) (1024 * (t.val % 6) + f.val) * WD m c (1024 * (t.val % 6) + f.val) q.val := by
  pointwise [k0_pay1]
  refine congrArg _ (Finset.sum_congr rfl fun f _ => ?_)
  rw [gated_tile, rd5]

/-- The output block after a point that is not its row tile's last. -/
theorem out_run (c : Dev nD) : ∀ (n : ℕ) (hn : n < cfg0.N), n % 6 ≠ 5 → ∀ (p : Fin 512) (q : Fin 2048),
    outAt m c n hn (ix2 p q) = kPart m c (1024 * (n % 6 + 1)) (512 * (n / 6) + p.val) q.val := by
  intro n
  induction n with
  | zero =>
    intro hn _ p q
    have hf : isFirst (grid0.coords ⟨0, hn⟩) := (isFirst_iff _).mpr rfl
    have hl : ¬ isLast (grid0.coords ⟨0, hn⟩) := fun h => by have := (isLast_iff ⟨0, hn⟩).mp h; simp at this
    show outPt m c ⟨0, hn⟩ _ _ = _
    unfold outPt outStep
    rw [if_pos hf, if_neg hl, acc_tile, rd6, ← part_zero (X m c) (H m c) (WU m c) (CW m c) (CB m c) (WD m c)]
    exact part_add _ _ _ _ _ _ 0 1024 _ _
  | succ n ih =>
    intro hn h5 p q
    have hl : ¬ isLast (grid0.coords ⟨n + 1, hn⟩) := fun h => h5 ((isLast_iff ⟨n + 1, hn⟩).mp h)
    show outPt m c ⟨n + 1, hn⟩ _ _ = _
    unfold outPt outStep
    rw [if_neg hl, acc_tile]
    by_cases h0 : (n + 1) % 6 = 0
    · have hf : isFirst (grid0.coords ⟨n + 1, hn⟩) := (isFirst_iff _).mpr h0
      rw [if_pos hf, rd6, ← part_zero (X m c) (H m c) (WU m c) (CW m c) (CB m c) (WD m c)]
      dsimp only
      rw [h0]
      exact part_add _ _ _ _ _ _ 0 1024 _ _
    · have hf : ¬ isFirst (grid0.coords ⟨n + 1, hn⟩) := fun h => h0 ((isFirst_iff _).mp h)
      rw [if_neg hf, ih _ (by omega)]
      dsimp only
      rw [show n / 6 = (n + 1) / 6 by omega, show n % 6 + 1 = (n + 1) % 6 by omega, show 1024 * ((n + 1) % 6 + 1) = 1024 * ((n + 1) % 6) + 1024 by omega]
      exact part_add _ _ _ _ _ _ _ 1024 _ _

theorem norm_tile (o : Vec Ideal S512x2048 .f32) (g : Vec Ideal S1x2048 .f32) (p : Fin 512) (q : Fin 2048) (y gg : ℕ → EReal)
    (ho : ∀ q : Fin 2048, o (ix2 p q) = y q.val) (hg : ∀ q : Fin 2048, g (ix2 0 q) = gg q.val) : k0_pay2 o g (ix2 p q) = norm gg y q.val := by
  pointwise [k0_pay2]
  unfold norm
  rw [hg, ho, Finset.sum_congr rfl fun q' _ => by rw [ho q']]

/-- What a row tile's last point leaves: the tile's rows of the result. -/
theorem out_last (c : Dev nD) (t : Fin cfg0.N) (h5 : t.val % 6 = 5) (p : Fin 512) (q : Fin 2048) :
    outAt m c t.val t.isLt (ix2 p q) = kOut m c (512 * (t.val / 6) + p.val) q.val := by
  have ht := tlt t
  have hl : isLast (grid0.coords t) := (isLast_iff t).mpr h5
  have hf : ¬ isFirst (grid0.coords t) := fun h => by have := (isFirst_iff t).mp h; omega
  rw [outAt_next m c t (by omega)]
  unfold outPt outStep
  rw [if_pos hl, if_neg hf]
  refine norm_tile _ _ p q _ _ (fun q => ?_) (fun q => rd7 m c t 0 q)
  rw [acc_tile, out_run m c _ _ (by omega), show (t.val - 1) / 6 = t.val / 6 by omega, show (t.val - 1) % 6 + 1 = 5 by omega, h5]
  exact part_add _ _ _ _ _ _ _ 1024 _ _

/-! ## The result array -/

/-- The result as contents of the result array. -/
def result (c : Dev nD) : Buf (Elt Ideal) ((c : Thread nD τ).loc main_v8) :=
  fun i : S8192x2048.Idx => kOut m c (i 0).val (i 1).val

theorem flushed_eq (c : Dev nD) (t : Fin cfg0.N) (hf : (cfg0.win 8).flush t = true) :
    (dats m 0 c).flushed 8 t = ((cfg0.win 8).blk t).view.read (Elt Ideal) (result m c) := by
  have h5 : t.val % 6 = 5 := (flush0_8 t).mp hf
  show (cfg0.win 8).cut (grid0.coords t) ((dats m 0 c).after 8 t) = _
  rw [after8]
  funext j
  have hj : ∃ (p : Fin 512) (q : Fin 2048), j = ix2 p q := ⟨j 0, j 1, eq_ix2 j⟩
  obtain ⟨p, q, rfl⟩ := hj
  refine Eq.trans (show _ = outAt m c t.val t.isLt (ix2 p q) from rfl) ?_
  rw [out_last m c t h5 p q, View.read_apply]
  show _ = kOut m c (win0_8.index t 0 * 512 + 1 * p.val) (win0_8.index t 1 * 2048 + 1 * q.val)
  have e := (idx t).2.2.2.2.2.2.2.2
  rw [e.1, e.2]
  congr 1 <;> omega

theorem mem_blk (t : Fin cfg0.N) (i : S8192x2048.Idx) :
    i ∈ ((cfg0.win 8).blk t).view.set ↔ ∀ a, win0_8.index t a * win0_8.size a ≤ (i a : ℕ) ∧ (i a : ℕ) < win0_8.index t a * win0_8.size a + win0_8.xsize (grid0.coords t) a := by
  show i ∈ ((View.whole main_v8).slice (win0_8.rect t)).set ↔ _
  rw [View.set_slice_whole, Rect.mem_set_unit]

theorem cover (i : S8192x2048.Idx) : ∃ t : Fin cfg0.N, (cfg0.win 8).flush t = true ∧ i ∈ ((cfg0.win 8).blk t).view.set := by
  have h0 : (i 0 : ℕ) < 8192 := (i 0).isLt
  have h1 : (i 1 : ℕ) < 2048 := (i 1).isLt
  have hN : cfg0.N = 96 := N_0
  refine ⟨⟨6 * ((i 0 : ℕ) / 512) + 5, by omega⟩, (flush0_8 _).mpr (by dsimp only; omega), ?_⟩
  rw [mem_blk]
  generalize ht : (⟨6 * ((i 0 : ℕ) / 512) + 5, _⟩ : Fin cfg0.N) = t
  have e := (idx t).2.2.2.2.2.2.2.2
  have hv : t.val = 6 * ((i 0 : ℕ) / 512) + 5 := by rw [← ht]
  intro a
  match a with
  | ⟨0, _⟩ => show win0_8.index t 0 * 512 ≤ (i 0 : ℕ) ∧ (i 0 : ℕ) < win0_8.index t 0 * 512 + 512
              rw [e.1]; omega
  | ⟨1, _⟩ => show win0_8.index t 1 * 2048 ≤ (i 1 : ℕ) ∧ (i 1 : ℕ) < win0_8.index t 1 * 2048 + 2048
              rw [e.2]; omega

theorem final (c : Dev nD) : (dats m 0 c).arrAt 8 cfg0.N = result m c :=
  (dats m 0 c).arrAt_eq_of_cover 8 (result m c) (flushed_eq m c) cover

/-- The run, read: the result array at the specification, the arguments unchanged. -/
theorem run : θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have h := θ_run_and (run_main m ρ) (frame_run m ρ)
  refine (θ_run defs _ _).mono (fun r h c => ?_) h
  exact ⟨((h.1.1 c).1 8).trans (final m c), h.2.1 c⟩

end Cert.Ffn

end
-- ==== Proof.Ffn.Ref.lean ====
/- The conv-gated MLP's reference over the extended reals: its result is the specification's function of the arguments.
   The reference's operations are named in the stages of the layer, each stage read entry by entry. -/
module

public import proofs.«01_k».proof.Proof.Gen.Reference2Ideal.Run
public import proofs.«01_k».proof.Proof.Idx
public import proofs.«01_k».proof.Proof.Ffn.Spec

@[expose] public section

set_option maxRecDepth 16384

noncomputable section

namespace Cert.Ffn.Ref

open Idealize.ShloMosaic Idealize.ShloMosaic.TcCoe Idealize.ShloMosaic.Tactic Idealize.ShloMosaic.StableHlo
open Idealize.SL.Sem
open Cert.Reference2Ideal Cert.Reference2Ideal.Gen Cert.Reference2Ideal.Value Cert.At

/-! ## The stages -/

/-- Both halves of the up projection. -/
def upS (x : FVec Ideal S8192x2048 .bf16) (wu : FVec Ideal S1x2048x12288 .f32) : FVec Ideal S2x4096x12288 .f32 :=
  Host.dotGeneral dot_S2x4096x2048_S2048x12288_S2x4096x12288_2_0_01_1_n_n none
    (shapeCast _ (extf .f32 x bitsLt_bf16_f32) shapeCasts_S8192x2048_S2x4096x2048) (shapeCast _ wu shapeCasts_S1x2048x12288_S2048x12288)

/-- The convolved half, two zero tokens before it. -/
def padS (u : FVec Ideal S2x4096x12288 .f32) : FVec Ideal S2x4098x6144 .f32 :=
  pad S2x4098x6144 ![0, 2, 0] ![0, 0, 0] ![0, 0, 0] (extractStridedSlice S2x4096x6144 ![0, 0, 0] u slices_S2x4096x12288_S2x4096x6144_0_0_0)
    (sitofp .f32 (constantI S_ 32 0#32)) pads_S2x4096x6144_S2x4098x6144_000_200_000 h_S_

/-- One tap, spread over the tokens. -/
def tapS (k : Fin 2 → ℕ) (h : S3x6144.Slices k S1x6144) (cw : FVec Ideal S1x3x6144 .f32) : FVec Ideal S2x4096x6144 .f32 :=
  broadcastInDim S2x4096x6144 ![0, 1, 2] bcast_S1x1x6144_S2x4096x6144_0_1_2 (broadcastInDim S1x1x6144 ![2] bcast_S6144_S1x1x6144_2
    (shapeCast _ (extractStridedSlice S1x6144 k (shapeCast _ cw shapeCasts_S1x3x6144_S3x6144) h) shapeCasts_S1x6144_S6144))

/-- The convolution. -/
def convS (p : FVec Ideal S2x4098x6144 .f32) (cw : FVec Ideal S1x3x6144 .f32) (cb : FVec Ideal S1x6144 .f32) : FVec Ideal S2x4096x6144 .f32 :=
  addf (addf (addf (addf (broadcastInDim S2x4096x6144 ![] bcast_S_S2x4096x6144 (constant S_ .f32 0x00000000#32))
    (mulf (extractStridedSlice S2x4096x6144 ![0, 0, 0] p slices_S2x4098x6144_S2x4096x6144_0_0_0) (tapS ![0, 0] slices_S3x6144_S1x6144_0_0 cw)))
    (mulf (extractStridedSlice S2x4096x6144 ![0, 1, 0] p slices_S2x4098x6144_S2x4096x6144_0_1_0) (tapS ![1, 0] slices_S3x6144_S1x6144_1_0 cw)))
    (mulf (extractStridedSlice S2x4096x6144 ![0, 2, 0] p slices_S2x4098x6144_S2x4096x6144_0_2_0) (tapS ![2, 0] slices_S3x6144_S1x6144_2_0 cw)))
    (broadcastInDim S2x4096x6144 ![0, 1, 2] bcast_S1x1x6144_S2x4096x6144_0_1_2 (broadcastInDim S1x1x6144 ![2] bcast_S6144_S1x1x6144_2
      (shapeCast _ cb shapeCasts_S1x6144_S6144)))

/-- The gated hidden units. -/
def hidS (y : FVec Ideal S2x4096x6144 .f32) (u : FVec Ideal S2x4096x12288 .f32) : FVec Ideal S2x4096x6144 .f32 :=
  mulf (mulf y (mulf (broadcastInDim S2x4096x6144 ![] bcast_S_S2x4096x6144 (constant S_ .f32 0x3F000000#32))
    (addf (broadcastInDim S2x4096x6144 ![] bcast_S_S2x4096x6144 (constant S_ .f32 0x3F800000#32))
      (Host.tanh (mulf (broadcastInDim S2x4096x6144 ![] bcast_S_S2x4096x6144 (constant S_ .f32 0x3F4C422A#32))
        (addf y (mulf (broadcastInDim S2x4096x6144 ![] bcast_S_S2x4096x6144 (constant S_ .f32 0x3D372713#32)) (mulf (mulf y y) y))))))))
    (extractStridedSlice S2x4096x6144 ![0, 0, 6144] u slices_S2x4096x12288_S2x4096x6144_0_0_6144)

/-- The residual stream with the down projection added. -/
def resS (a : FVec Ideal S2x4096x6144 .f32) (h : FVec Ideal S8192x2048 .f32) (wd : FVec Ideal S1x6144x2048 .f32) : FVec Ideal S2x4096x2048 .f32 :=
  addf (shapeCast _ h shapeCasts_S8192x2048_S2x4096x2048)
    (Host.dotGeneral dot_S2x4096x6144_S6144x2048_S2x4096x2048_2_0_01_1_n_n none a (shapeCast _ wd shapeCasts_S1x6144x2048_S6144x2048))

/-- The final norm. -/
def normS (r : FVec Ideal S2x4096x2048 .f32) (g : FVec Ideal S2048 .f32) : FVec Ideal S8192x2048 .f32 :=
  shapeCast _ (mulf (mulf r (broadcastInDim S2x4096x2048 ![0, 1, 2] bcast_S2x4096x1_S2x4096x2048_0_1_2
    (Host.rsqrt (addf (Host.divf (broadcastInDim S2x4096x1 ![0, 1] bcast_S2x4096_S2x4096x1_0_1
      (Host.reduceAdd (mulf r r) (constant S_ .f32 0x00000000#32) reducesTo_S2x4096x2048_S2x4096_d2 h_S_))
      (broadcastInDim S2x4096x1 ![] bcast_S_S2x4096x1 (constant S_ .f32 0x45000000#32)))
      (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2 g)))
    shapeCasts_S2x4096x2048_S8192x2048

variable (m : (ℓ : Loc nD τ sig) → Buf (Elt Ideal) ℓ) (c : Dev nD)

/-- The arguments by position. -/
abbrev X (i j : ℕ) : EReal := at2 (m ((c.tc : Thread nD τ).loc main_arg0) : S8192x2048.Idx → EReal) i j
abbrev H (i j : ℕ) : EReal := at2 (m ((c.tc : Thread nD τ).loc main_arg1) : S8192x2048.Idx → EReal) i j
abbrev WU (i j : ℕ) : EReal := at3 (m ((c.tc : Thread nD τ).loc main_arg2) : S1x2048x12288.Idx → EReal) 0 i j
abbrev CW (i j : ℕ) : EReal := at3 (m ((c.tc : Thread nD τ).loc main_arg3) : S1x3x6144.Idx → EReal) 0 i j
abbrev CB (i : ℕ) : EReal := at2 (m ((c.tc : Thread nD τ).loc main_arg4) : S1x6144.Idx → EReal) 0 i
abbrev WD (i j : ℕ) : EReal := at3 (m ((c.tc : Thread nD τ).loc main_arg5) : S1x6144x2048.Idx → EReal) 0 i j
abbrev G (i : ℕ) : EReal := at1 (m ((c.tc : Thread nD τ).loc main_arg6) : S2048.Idx → EReal) i

abbrev mUp := upS (m ((c.tc : Thread nD τ).loc main_arg0)) (m ((c.tc : Thread nD τ).loc main_arg2))
abbrev mConv := convS (padS (mUp m c)) (m ((c.tc : Thread nD τ).loc main_arg3)) (m ((c.tc : Thread nD τ).loc main_arg4))
abbrev mRes := resS (hidS (mConv m c) (mUp m c)) (m ((c.tc : Thread nD τ).loc main_arg1)) (m ((c.tc : Thread nD τ).loc main_arg5))

theorem stages : res_main_v65 m c = normS (mRes m c) (m ((c.tc : Thread nD τ).loc main_arg6)) := rfl

abbrev rUp := up (X m c) (WU m c)
abbrev rBack := back (X m c) (WU m c)
abbrev rHid := hid (X m c) (WU m c) (CW m c) (CB m c)
abbrev rPart := part (X m c) (H m c) (WU m c) (CW m c) (CB m c) (WD m c)
abbrev rOut := out (X m c) (H m c) (WU m c) (CW m c) (CB m c) (WD m c) (G m c)

theorem upS_eq (b : Fin 2) (s : Fin 4096) (f : Fin 12288) : mUp m c (ix3 b s f) = rUp m c (b.val * 4096 + s.val) f.val := by
  pointwise [upS]
  unfold rUp up
  refine Finset.sum_congr rfl fun k _ => ?_
  rw [at2_eq (m ((c.tc : Thread nD τ).loc main_arg0) : S8192x2048.Idx → EReal), at3_eq (m ((c.tc : Thread nD τ).loc main_arg2) : S1x2048x12288.Idx → EReal)]
  rfl

theorem padS_eq (b : Fin 2) (s : Fin 4096) (f : Fin 6144) (d : ℕ) (hd : d ≤ 2) (r : Fin 4098) (hr : r.val = 2 - d + s.val) :
    padS (mUp m c) (ix3 b r f) = rBack m c d (b.val * 4096 + s.val) f.val := by
  have hz : FloatOps.sitofp (F := Ideal) FTy.f32 (0#32 : BitVec 32) = (0 : EReal) := by
    show (((0#32 : BitVec 32).toInt : ℝ) : EReal) = 0
    norm_num
  pointwise [padS]
  unfold rBack back
  by_cases h : s.val < d
  · rw [dif_neg (by omega), if_pos (by omega)]; exact hz
  · rw [dif_pos ⟨by omega, by omega⟩, if_neg (by omega), upS_eq]
    congr 1; show b.val * 4096 + (r.val - 2) = _; omega

theorem tapS_eq (k : ℕ) (hk : k < 3) (h : S3x6144.Slices ![k, 0] S1x6144) (b : Fin 2) (s : Fin 4096) (f : Fin 6144) :
    tapS ![k, 0] h (m ((c.tc : Thread nD τ).loc main_arg3)) (ix3 b s f) = CW m c k f.val := by
  pointwise [tapS]
  exact at3_eq (m ((c.tc : Thread nD τ).loc main_arg3) : S1x3x6144.Idx → EReal) 0 ⟨k, hk⟩ f

theorem back_zero (r f : ℕ) : rBack m c 0 r f = rUp m c r f := by
  unfold rBack back; rw [if_neg (by omega), Nat.sub_zero]

theorem convS_eq (b : Fin 2) (s : Fin 4096) (f : Fin 6144) :
    mConv m c (ix3 b s f) = conv (X m c) (WU m c) (CW m c) (CB m c) (b.val * 4096 + s.val) f.val := by
  pointwise [convS]
  rw [tapS_eq m c 0 (by omega), tapS_eq m c 1 (by omega), tapS_eq m c 2 (by omega), at2_eq (m ((c.tc : Thread nD τ).loc main_arg4) : S1x6144.Idx → EReal),
    padS_eq m c b s f 2 (by omega) _ (by show s.val = _; omega), padS_eq m c b s f 1 (by omega) _ (by show 1 + s.val = _; omega),
    padS_eq m c b s f 0 (by omega) _ (by show 2 + s.val = _; omega), back_zero]
  unfold conv
  rw [mul_comm (CW m c 2 _), mul_comm (CW m c 0 _), mul_comm (CW m c 1 _)]
  show _ + _ + _ + CB m c f.val = _
  ac_rfl

theorem hidS_eq (b : Fin 2) (s : Fin 4096) (f : Fin 6144) :
    hidS (mConv m c) (mUp m c) (ix3 b s f) = rHid m c (b.val * 4096 + s.val) f.val := by
  pointwise [hidS]
  rw [convS_eq, upS_eq]
  unfold rHid hid gelu
  rw [mul_assoc (conv _ _ _ _ _ _) (conv _ _ _ _ _ _) (conv _ _ _ _ _ _)]

theorem resS_eq (b : Fin 2) (s : Fin 4096) (q : Fin 2048) : mRes m c (ix3 b s q) = rPart m c 6144 (b.val * 4096 + s.val) q.val := by
  pointwise [resS]
  unfold rPart part
  rw [at2_eq (m ((c.tc : Thread nD τ).loc main_arg1) : S8192x2048.Idx → EReal), ← Fin.sum_univ_eq_sum_range (fun f => hid (X m c) (WU m c) (CW m c) (CB m c) (b.val * 4096 + s.val) f * WD m c f q.val) 6144]
  refine congrArg _ (Finset.sum_congr rfl fun f _ => ?_)
  rw [hidS_eq, at3_eq (m ((c.tc : Thread nD τ).loc main_arg5) : S1x6144x2048.Idx → EReal)]
  rfl

theorem result_eq (r : Fin 8192) (q : Fin 2048) : res_main_v65 m c (ix2 r q) = rOut m c r.val q.val := by
  rw [stages]
  pointwise [normS]
  have e : r.val / 4096 * 4096 + r.val % 4096 = r.val := by omega
  have hr : ∀ (q : Fin 2048) (h : r.val / 4096 < 2) (h' : r.val % 4096 < 4096),
      mRes m c (ix3 ⟨r.val / 4096, h⟩ ⟨r.val % 4096, h'⟩ q) = rPart m c 6144 r.val q.val := by
    intro q h h'; rw [resS_eq]; dsimp only; rw [e]
  unfold rOut out norm
  rw [at1_eq (m ((c.tc : Thread nD τ).loc main_arg6) : S2048.Idx → EReal), hr, Finset.sum_congr rfl fun q' _ => by rw [hr q']]

end Cert.Ffn.Ref

end
-- ==== Proof.Ffn.Claims.lean ====
/- The claims about the conv-gated MLP call. -/
module

public import proofs.«01_k».proof.Defs
public import proofs.«01_k».proof.Proof.Gen.Kernel2
public import proofs.«01_k».proof.Proof.Ffn.Value
public import proofs.«01_k».proof.Proof.Ffn.Ref

@[expose] public section

set_option maxRecDepth 16384

noncomputable section

namespace Cert.Ffn

open Idealize.ShloMosaic Idealize.ShloMosaic.TcCoe Idealize.SL.Sem Cert.At

/-- The two programs' bodies agree, label by label. -/
theorem bodies_eq : Cert.Kernel2.defs₀ (F := Bits) = Cert.Kernel2Ideal.defs₀ (F := Bits) := by
  unfold Cert.Kernel2.defs₀ Cert.Kernel2Ideal.defs₀
  refine congrArg (Defs.onTc (nD := Cert.Kernel2Ideal.nD) (τ := Cert.Kernel2Ideal.τ) (sig := Cert.Kernel2Ideal.sig) (Val := Elt Bits) (Λ := Cert.Kernel2Ideal.Λ₀)) ?_
  funext l a
  match l with
  | ⟨0, _⟩ => obtain ⟨t, s⟩ := a; rfl

theorem defs_eq : Cert.Kernel2.defs (F := Bits) = Cert.Kernel2Ideal.defs (F := Bits) :=
  congrArg (Pipeline.defs (Cert.Kernel2Ideal.pcfgs (F := Bits))) bodies_eq

/-- The printed program's frame: the idealized program's run, at bits. -/
theorem frame_kernel : Cert.quiescent_Kernel2 := fun m ρ _ => by
  rw [defs_eq]
  exact frame_run (F := Bits) m ρ

theorem frame_ideal : Cert.quiescent_Kernel2Ideal := fun m ρ _ => frame_run m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- Both results are the specification's function of the same arguments. -/
theorem value : Cert.algebraic_Kernel2Ideal_Reference2Ideal := by
  intro m ρ m' ρ' _ hargs
  refine ⟨result m, run m ρ, (θ_run Cert.Reference2Ideal.defs _ _).mono (fun r h c => ⟨(h c).1.trans ?_, (h c).2⟩) (Cert.Reference2Ideal.Value.run m' ρ')⟩
  obtain ⟨h0, h1, h2, h3, h4, h5, h6⟩ := hargs c
  funext i
  have hi : ∃ (p : Fin 8192) (q : Fin 2048), i = ix2 p q := ⟨i 0, i 1, eq_ix2 i⟩
  obtain ⟨p, q, rfl⟩ := hi
  refine (Ref.result_eq m' c p q).trans ?_
  show Ref.rOut m' c p.val q.val = kOut m c p.val q.val
  have e0 : Ref.X m' c = X m c := by funext i j; unfold Ref.X X; rw [h0]
  have e1 : Ref.H m' c = H m c := by funext i j; unfold Ref.H H; rw [h1]
  have e2 : Ref.WU m' c = WU m c := by funext i j; unfold Ref.WU WU; rw [h2]
  have e3 : Ref.CW m' c = CW m c := by funext i j; unfold Ref.CW CW; rw [h3]
  have e4 : Ref.CB m' c = CB m c := by funext i; unfold Ref.CB CB; rw [h4]
  have e5 : Ref.WD m' c = WD m c := by funext i j; unfold Ref.WD WD; rw [h5]
  have e6 : Ref.G m' c = G m c := by funext i; unfold Ref.G G; rw [h6]
  unfold Ref.rOut kOut
  rw [e0, e1, e2, e3, e4, e5, e6]

end Cert.Ffn

end
-- ==== Proof.Lru.Step.lean ====
/- The recurrence call, one grid point: what the body leaves in its output block and in its two carried scratches (the
   last rows of the tile and the state after its last row), as functions of the blocks it is handed, over the
   generated loop. A grid point is (b, i): batch row `b`, tile `i` of 256 positions. -/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.VecWindow
public import Idealize.ShloMosaic.Lib.Pipeline.ValueKit
public import Idealize.ShloMosaic.Lib.Pointwise

@[expose] public section

set_option maxRecDepth 16384

noncomputable section

namespace Cert.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body starts a batch row: the halo rows and the state are zeroed first. -/
abbrev isFirst (i : grid0.Coords) : Prop := (Scalar.cmpi .ne (Scalar.extui (Scalar.cmpi .eq (BitVec.ofNat 32 (i 1).val) 0#32)) 0#32) = 1#1

theorem isFirst_iff : ∀ t : Fin cfg0.N, isFirst (grid0.coords t) ↔ t.val % 16 = 0 :=
  (fun t => by
    have ht : t.val < 32 := Nat.lt_of_lt_of_eq t.isLt N_0
    have e1 : (grid0.coords t 1).val = t.val / 1 % 16 := Pipeline.Grid.coords_val t 1 (by decide) rfl
    simp only [isFirst, e1]
    word_cmp
   : ∀ t : Fin grid0.N, isFirst (grid0.coords t) ↔ t.val % 16 = 0)

/-- The eight rows trip `k` of the scan works on. -/
abbrev rows (k : Fin k0_t1_loop.trips) : Rect S256x1024 := Rect.unit (s := S256x1024) (k0_off1 k) S8x1024.size (k0_off1_inb k)

/-- The scan before trip `k`: the state after the rows done, and the array with those rows replaced by their states. -/
def scan (a b : Vec F S256x1024 .f32) (s0 : Vec F S8x1024 .f32) : ℕ → Vec F S8x1024 .f32 × Vec F S256x1024 .f32
  | 0 => (s0, b)
  | k + 1 =>
    if h : k < k0_t1_loop.trips then
      (k0_pay41 (scan a b s0 k).1 (View.ld a (rows ⟨k, h⟩)) (View.ld (scan a b s0 k).2 (rows ⟨k, h⟩)),
       VecWindow.put (scan a b s0 k).2 (k0_off1 ⟨k, h⟩) S8x1024.size
        (k0_pay40 (scan a b s0 k).1 (View.ld a (rows ⟨k, h⟩)) (View.ld (scan a b s0 k).2 (rows ⟨k, h⟩))))
    else scan a b s0 k

theorem scan_succ (a b : Vec F S256x1024 .f32) (s0 : Vec F S8x1024 .f32) (k : Fin k0_t1_loop.trips) :
    scan a b s0 (k.val + 1) =
      (k0_pay41 (scan a b s0 k.val).1 (View.ld a (rows k)) (View.ld (scan a b s0 k.val).2 (rows k)),
       VecWindow.put (scan a b s0 k.val).2 (k0_off1 k) S8x1024.size
        (k0_pay40 (scan a b s0 k.val).1 (View.ld a (rows k)) (View.ld (scan a b s0 k.val).2 (rows k)))) := by
  rw [scan]; exact dif_pos k.isLt

section loop

variable (𝒱 : Variants) (c : Dev nD) (bd : Option 𝒱.V) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S264x1024 .f32) (harg13 : arg13.IsWhole) (arg14 : Memref sig .tc .vmem S8x1024 .f32) (harg14 : arg14.IsWhole) (arg15 : Memref sig .tc .vmem S256x1024 .f32) (harg15 : arg15.IsWhole) (arg16 : Memref sig .tc .vmem S256x1024 .f32) (harg16 : arg16.IsWhole) (v37 : FVec F S256x1024 .f32) (v106 : FVec F S256x1024 .f32) (v123 : FVec F S256x1024 .f32) (v127 : FVec F S256x1024 .f32) (v128 : FVec F S256x1024 .f32)

/-- What one trip yields. -/
theorem trip_result (X : BufTy.Contents (Elt F) arg15.view.ty) (k : Fin k0_t1_loop.trips) (acc : Vec F S8x1024 .f32) (f : BufTy.Contents (Elt F) arg16.view.ty) :
    tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v37 v106 v123 v127 v128 X k acc f
      = k0_pay41 acc (arg15.view.readAt (Elt F) (rows k).toLoadRect X) (arg16.view.readAt (Elt F) (rows k).toLoadRect f) := by
  unfold tripR_k0_t1 trip_k0_t1
  rfl

/-- What one trip writes. -/
theorem trip_pieces (X : BufTy.Contents (Elt F) arg15.view.ty) (k : Fin k0_t1_loop.trips) (acc : Vec F S8x1024 .f32) (f : BufTy.Contents (Elt F) arg16.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v37 v106 v123 v127 v128 X k acc f
      = [⟨rows k, k0_pay40 acc (arg15.view.readAt (Elt F) (rows k).toLoadRect X) (arg16.view.readAt (Elt F) (rows k).toLoadRect f)⟩] := by
  unfold tripL_k0_t1 trip_k0_t1
  rfl

/-- The loop's state is the scan. -/
theorem loop_eq (a b : Vec F S256x1024 .f32) (s0 : Vec F S8x1024 .f32) : ∀ k : ℕ, k ≤ k0_t1_loop.trips →
    (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v37 v106 v123 v127 v128 (harg15.unread a) (harg16.unread b) s0 k).1 = (scan a b s0 k).1
    ∧ arg16.view.read (Elt F) (arg16.view.writes (Elt F) (harg16.unread b) (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v37 v106 v123 v127 v128 (harg15.unread a) (harg16.unread b) s0 k).2) = (scan a b s0 k).2
  | 0, _ => ⟨rfl, by rw [show (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v37 v106 v123 v127 v128 (harg15.unread a) (harg16.unread b) s0 0).2 = [] from rfl, View.writes_nil, harg16.read_unread]; rfl⟩
  | k + 1, hk => by
    obtain ⟨h1, h2⟩ := loop_eq a b s0 k (Nat.le_of_succ_le hk)
    have e := st_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v37 v106 v123 v127 v128 (harg15.unread a) (harg16.unread b) s0 ⟨k, hk⟩
    have es := scan_succ a b s0 ⟨k, hk⟩
    simp only at e es
    rw [e, es, h1, trip_result, trip_pieces]
    refine ⟨?_, ?_⟩
    · simp only [View.readAt_eq_ld, h2, harg15.read_unread]
    · simp only [List.singleton_append]
      rw [View.read_writes_cons_put _ _ _ _ _ rfl, h2]
      simp only [View.readAt_eq_ld, h2, harg15.read_unread]

end loop

/-- The eight rows before the tile: none at the start of a batch row, else the last rows of the tile before. -/
def topOf (i : grid0.Coords) (xp : Vec F S264x1024 .f32) : Vec F S8x1024 .f32 :=
  open Classical in View.ld (if isFirst i then k0_pay2 (F := F) else xp) (Rect.unit (s := S264x1024) ![256, 0] S8x1024.size inb_S264x1024_S8x1024_256_0)

/-- The state before the tile: zero at the start of a batch row. -/
def stateOf (i : grid0.Coords) (s : Vec F S8x1024 .f32) : Vec F S8x1024 .f32 :=
  open Classical in if isFirst i then k0_pay3 (F := F) else s

/-- The padded rows the convolution reads: the eight rows `top` over the tile's own rows. -/
def padded (top : Vec F S8x1024 .f32) (x : Vec F S256x1024 .f32) : Vec F S264x1024 .f32 :=
  fun j => if h : (j 0).val < 8 then k0_pay4 top (ix2 ⟨(j 0).val, h⟩ (j 1))
    else k0_pay5 x (ix2 ⟨(j 0).val - 8, by have : (j 0).val < 264 := (j 0).isLt; omega⟩ (j 1))

/-- The two stores leave the padded rows, whatever was in the scratch before. -/
theorem padded_put (top : Vec F S8x1024 .f32) (x : Vec F S256x1024 .f32) (old : Vec F S264x1024 .f32) :
    VecWindow.put (VecWindow.put old ![0, 0] S8x1024.size (k0_pay4 top)) ![8, 0] S256x1024.size (k0_pay5 x) = padded top x := by
  funext j
  have h0 : (j 0).val < 264 := (j 0).isLt
  have h1 : (j 1).val < 1024 := (j 1).isLt
  unfold VecWindow.put padded
  generalize k0_pay4 top = p4
  generalize k0_pay5 x = p5
  by_cases h : (j 0).val < 8
  · rw [dif_neg (fun hh => absurd (show 8 ≤ (j 0).val from (hh 0).1) (by omega)), dif_pos h, dif_pos]
    · congr 1; funext a; apply Fin.ext
      match a with
      | ⟨0, _⟩ => show (j 0).val - 0 = (j 0).val; omega
      | ⟨1, _⟩ => show (j 1).val - 0 = (j 1).val; omega
    · intro a
      match a with
      | ⟨0, _⟩ => show 0 ≤ (j 0).val ∧ (j 0).val < 0 + 8; omega
      | ⟨1, _⟩ => show 0 ≤ (j 1).val ∧ (j 1).val < 0 + 1024; omega
  · rw [dif_neg h, dif_pos]
    · congr 1; funext a; apply Fin.ext
      match a with
      | ⟨0, _⟩ => rfl
      | ⟨1, _⟩ => show (j 1).val - 0 = (j 1).val; omega
    · intro a
      match a with
      | ⟨0, _⟩ => show 8 ≤ (j 0).val ∧ (j 0).val < 8 + 256; omega
      | ⟨1, _⟩ => show 0 ≤ (j 1).val ∧ (j 1).val < 0 + 1024; omega

/-- The convolution's bias and its taps 3 and 0. -/
def conv3 (P : Vec F S264x1024 .f32) (x : Vec F S256x1024 .f32) (cw : Vec F S4x1024 .f32) (cb : Vec F S1x1024 .f32) : FVec F S256x1024 .f32 :=
  k0_pay6 cb (View.ld cw (Rect.unit (s := S4x1024) ![3, 0] S1x1024.size inb_S4x1024_S1x1024_3_0)) x (View.ld cw (Rect.unit (s := S4x1024) ![0, 0] S1x1024.size inb_S4x1024_S1x1024_0_0)) (View.ld P (Rect.unit (s := S264x1024) ![5, 0] S256x1024.size inb_S264x1024_S256x1024_5_0))

/-- The convolution's tap 1. -/
def conv1 (P : Vec F S264x1024 .f32) (cw : Vec F S4x1024 .f32) : FVec F S256x1024 .f32 :=
  k0_pay7 (View.ld cw (Rect.unit (s := S4x1024) ![1, 0] S1x1024.size inb_S4x1024_S1x1024_1_0)) (View.ld P (Rect.unit (s := S264x1024) ![6, 0] S256x1024.size inb_S264x1024_S256x1024_6_0))

/-- The convolution of the tile. -/
def conv (P : Vec F S264x1024 .f32) (x : Vec F S256x1024 .f32) (cw : Vec F S4x1024 .f32) (cb : Vec F S1x1024 .f32) : FVec F S256x1024 .f32 :=
  k0_pay8 (conv3 P x cw cb) (conv1 P cw) (View.ld cw (Rect.unit (s := S4x1024) ![2, 0] S1x1024.size inb_S4x1024_S1x1024_2_0)) (View.ld P (Rect.unit (s := S264x1024) ![7, 0] S256x1024.size inb_S264x1024_S256x1024_7_0))

/-- The convolution, narrowed for the gates' products. -/
def convBf (P : Vec F S264x1024 .f32) (x : Vec F S256x1024 .f32) (cw : Vec F S4x1024 .f32) (cb : Vec F S1x1024 .f32) : FVec F S256x1024 .bf16 :=
  k0_pay9 (conv3 P x cw cb) (conv1 P cw) (View.ld cw (Rect.unit (s := S4x1024) ![2, 0] S1x1024.size inb_S4x1024_S1x1024_2_0)) (View.ld P (Rect.unit (s := S264x1024) ![7, 0] S256x1024.size inb_S264x1024_S256x1024_7_0))

/-- The input gate of the tile. -/
def gateX (P : Vec F S264x1024 .f32) (x : Vec F S256x1024 .f32) (cw : Vec F S4x1024 .f32) (cb : Vec F S1x1024 .f32) (wx : Vec F S8x128x128 .bf16) (bx : Vec F S1x1024 .f32) : FVec F S256x1024 .f32 :=
  k0_pay32 (k0_pay12 (conv3 P x cw cb) (conv1 P cw) (View.ld cw (Rect.unit (s := S4x1024) ![2, 0] S1x1024.size inb_S4x1024_S1x1024_2_0)) (View.ld P (Rect.unit (s := S264x1024) ![7, 0] S256x1024.size inb_S264x1024_S256x1024_7_0)) (View.ld wx (Rect.unit (s := S8x128x128) ![0, 0, 0] S1x128x128.size inb_S8x128x128_S1x128x128_0_0_0))) (k0_pay15 (conv3 P x cw cb) (conv1 P cw) (View.ld cw (Rect.unit (s := S4x1024) ![2, 0] S1x1024.size inb_S4x1024_S1x1024_2_0)) (View.ld P (Rect.unit (s := S264x1024) ![7, 0] S256x1024.size inb_S264x1024_S256x1024_7_0)) (View.ld wx (Rect.unit (s := S8x128x128) ![1, 0, 0] S1x128x128.size inb_S8x128x128_S1x128x128_1_0_0))) (k0_pay18 (conv3 P x cw cb) (conv1 P cw) (View.ld cw (Rect.unit (s := S4x1024) ![2, 0] S1x1024.size inb_S4x1024_S1x1024_2_0)) (View.ld P (Rect.unit (s := S264x1024) ![7, 0] S256x1024.size inb_S264x1024_S256x1024_7_0)) (View.ld wx (Rect.unit (s := S8x128x128) ![2, 0, 0] S1x128x128.size inb_S8x128x128_S1x128x128_2_0_0))) (k0_pay21 (k0_pay19 (conv3 P x cw cb) (conv1 P cw) (View.ld cw (Rect.unit (s := S4x1024) ![2, 0] S1x1024.size inb_S4x1024_S1x1024_2_0)) (View.ld P (Rect.unit (s := S264x1024) ![7, 0] S256x1024.size inb_S264x1024_S256x1024_7_0))) (View.ld wx (Rect.unit (s := S8x128x128) ![3, 0, 0] S1x128x128.size inb_S8x128x128_S1x128x128_3_0_0))) (k0_pay24 (convBf P x cw cb) (View.ld wx (Rect.unit (s := S8x128x128) ![4, 0, 0] S1x128x128.size inb_S8x128x128_S1x128x128_4_0_0))) (k0_pay27 (convBf P x cw cb) (View.ld wx (Rect.unit (s := S8x128x128) ![5, 0, 0] S1x128x128.size inb_S8x128x128_S1x128x128_5_0_0))) (k0_pay30 (convBf P x cw cb) (View.ld wx (Rect.unit (s := S8x128x128) ![6, 0, 0] S1x128x128.size inb_S8x128x128_S1x128x128_6_0_0))) (k0_pay31 (convBf P x cw cb)) (View.ld wx (Rect.unit (s := S8x128x128) ![7, 0, 0] S1x128x128.size inb_S8x128x128_S1x128x128_7_0_0)) bx

/-- The decay of the tile. -/
def decay (P : Vec F S264x1024 .f32) (x : Vec F S256x1024 .f32) (cw : Vec F S4x1024 .f32) (cb : Vec F S1x1024 .f32) (wa : Vec F S8x128x128 .bf16) (ba : Vec F S1x1024 .f32) (lam : Vec F S1x1024 .f32) : FVec F S256x1024 .f32 :=
  k0_pay34 (k0_pay11 (conv3 P x cw cb) (conv1 P cw) (View.ld cw (Rect.unit (s := S4x1024) ![2, 0] S1x1024.size inb_S4x1024_S1x1024_2_0)) (View.ld P (Rect.unit (s := S264x1024) ![7, 0] S256x1024.size inb_S264x1024_S256x1024_7_0)) (View.ld wa (Rect.unit (s := S8x128x128) ![0, 0, 0] S1x128x128.size inb_S8x128x128_S1x128x128_0_0_0))) (k0_pay14 (conv3 P x cw cb) (conv1 P cw) (View.ld cw (Rect.unit (s := S4x1024) ![2, 0] S1x1024.size inb_S4x1024_S1x1024_2_0)) (View.ld P (Rect.unit (s := S264x1024) ![7, 0] S256x1024.size inb_S264x1024_S256x1024_7_0)) (View.ld wa (Rect.unit (s := S8x128x128) ![1, 0, 0] S1x128x128.size inb_S8x128x128_S1x128x128_1_0_0))) (k0_pay17 (conv3 P x cw cb) (conv1 P cw) (View.ld cw (Rect.unit (s := S4x1024) ![2, 0] S1x1024.size inb_S4x1024_S1x1024_2_0)) (View.ld P (Rect.unit (s := S264x1024) ![7, 0] S256x1024.size inb_S264x1024_S256x1024_7_0)) (View.ld wa (Rect.unit (s := S8x128x128) ![2, 0, 0] S1x128x128.size inb_S8x128x128_S1x128x128_2_0_0))) (k0_pay20 (k0_pay19 (conv3 P x cw cb) (conv1 P cw) (View.ld cw (Rect.unit (s := S4x1024) ![2, 0] S1x1024.size inb_S4x1024_S1x1024_2_0)) (View.ld P (Rect.unit (s := S264x1024) ![7, 0] S256x1024.size inb_S264x1024_S256x1024_7_0))) (View.ld wa (Rect.unit (s := S8x128x128) ![3, 0, 0] S1x128x128.size inb_S8x128x128_S1x128x128_3_0_0))) (k0_pay23 (convBf P x cw cb) (View.ld wa (Rect.unit (s := S8x128x128) ![4, 0, 0] S1x128x128.size inb_S8x128x128_S1x128x128_4_0_0))) (k0_pay26 (convBf P x cw cb) (View.ld wa (Rect.unit (s := S8x128x128) ![5, 0, 0] S1x128x128.size inb_S8x128x128_S1x128x128_5_0_0))) (k0_pay29 (convBf P x cw cb) (View.ld wa (Rect.unit (s := S8x128x128) ![6, 0, 0] S1x128x128.size inb_S8x128x128_S1x128x128_6_0_0))) (k0_pay31 (convBf P x cw cb)) (View.ld wa (Rect.unit (s := S8x128x128) ![7, 0, 0] S1x128x128.size inb_S8x128x128_S1x128x128_7_0_0)) ba lam

/-- The decay of the tile, as stored. -/
def decaySt (P : Vec F S264x1024 .f32) (x : Vec F S256x1024 .f32) (cw : Vec F S4x1024 .f32) (cb : Vec F S1x1024 .f32) (wa : Vec F S8x128x128 .bf16) (ba : Vec F S1x1024 .f32) (lam : Vec F S1x1024 .f32) : FVec F S256x1024 .f32 :=
  k0_pay35 (k0_pay11 (conv3 P x cw cb) (conv1 P cw) (View.ld cw (Rect.unit (s := S4x1024) ![2, 0] S1x1024.size inb_S4x1024_S1x1024_2_0)) (View.ld P (Rect.unit (s := S264x1024) ![7, 0] S256x1024.size inb_S264x1024_S256x1024_7_0)) (View.ld wa (Rect.unit (s := S8x128x128) ![0, 0, 0] S1x128x128.size inb_S8x128x128_S1x128x128_0_0_0))) (k0_pay14 (conv3 P x cw cb) (conv1 P cw) (View.ld cw (Rect.unit (s := S4x1024) ![2, 0] S1x1024.size inb_S4x1024_S1x1024_2_0)) (View.ld P (Rect.unit (s := S264x1024) ![7, 0] S256x1024.size inb_S264x1024_S256x1024_7_0)) (View.ld wa (Rect.unit (s := S8x128x128) ![1, 0, 0] S1x128x128.size inb_S8x128x128_S1x128x128_1_0_0))) (k0_pay17 (conv3 P x cw cb) (conv1 P cw) (View.ld cw (Rect.unit (s := S4x1024) ![2, 0] S1x1024.size inb_S4x1024_S1x1024_2_0)) (View.ld P (Rect.unit (s := S264x1024) ![7, 0] S256x1024.size inb_S264x1024_S256x1024_7_0)) (View.ld wa (Rect.unit (s := S8x128x128) ![2, 0, 0] S1x128x128.size inb_S8x128x128_S1x128x128_2_0_0))) (k0_pay20 (k0_pay19 (conv3 P x cw cb) (conv1 P cw) (View.ld cw (Rect.unit (s := S4x1024) ![2, 0] S1x1024.size inb_S4x1024_S1x1024_2_0)) (View.ld P (Rect.unit (s := S264x1024) ![7, 0] S256x1024.size inb_S264x1024_S256x1024_7_0))) (View.ld wa (Rect.unit (s := S8x128x128) ![3, 0, 0] S1x128x128.size inb_S8x128x128_S1x128x128_3_0_0))) (k0_pay23 (convBf P x cw cb) (View.ld wa (Rect.unit (s := S8x128x128) ![4, 0, 0] S1x128x128.size inb_S8x128x128_S1x128x128_4_0_0))) (k0_pay26 (convBf P x cw cb) (View.ld wa (Rect.unit (s := S8x128x128) ![5, 0, 0] S1x128x128.size inb_S8x128x128_S1x128x128_5_0_0))) (k0_pay29 (convBf P x cw cb) (View.ld wa (Rect.unit (s := S8x128x128) ![6, 0, 0] S1x128x128.size inb_S8x128x128_S1x128x128_6_0_0))) (k0_pay31 (convBf P x cw cb)) (View.ld wa (Rect.unit (s := S8x128x128) ![7, 0, 0] S1x128x128.size inb_S8x128x128_S1x128x128_7_0_0)) ba lam

/-- The hyperbolic tangent of the decay's logarithm. -/
def decayTanh (P : Vec F S264x1024 .f32) (x : Vec F S256x1024 .f32) (cw : Vec F S4x1024 .f32) (cb : Vec F S1x1024 .f32) (wa : Vec F S8x128x128 .bf16) (ba : Vec F S1x1024 .f32) (lam : Vec F S1x1024 .f32) : FVec F S256x1024 .f32 :=
  k0_pay36 (k0_pay11 (conv3 P x cw cb) (conv1 P cw) (View.ld cw (Rect.unit (s := S4x1024) ![2, 0] S1x1024.size inb_S4x1024_S1x1024_2_0)) (View.ld P (Rect.unit (s := S264x1024) ![7, 0] S256x1024.size inb_S264x1024_S256x1024_7_0)) (View.ld wa (Rect.unit (s := S8x128x128) ![0, 0, 0] S1x128x128.size inb_S8x128x128_S1x128x128_0_0_0))) (k0_pay14 (conv3 P x cw cb) (conv1 P cw) (View.ld cw (Rect.unit (s := S4x1024) ![2, 0] S1x1024.size inb_S4x1024_S1x1024_2_0)) (View.ld P (Rect.unit (s := S264x1024) ![7, 0] S256x1024.size inb_S264x1024_S256x1024_7_0)) (View.ld wa (Rect.unit (s := S8x128x128) ![1, 0, 0] S1x128x128.size inb_S8x128x128_S1x128x128_1_0_0))) (k0_pay17 (conv3 P x cw cb) (conv1 P cw) (View.ld cw (Rect.unit (s := S4x1024) ![2, 0] S1x1024.size inb_S4x1024_S1x1024_2_0)) (View.ld P (Rect.unit (s := S264x1024) ![7, 0] S256x1024.size inb_S264x1024_S256x1024_7_0)) (View.ld wa (Rect.unit (s := S8x128x128) ![2, 0, 0] S1x128x128.size inb_S8x128x128_S1x128x128_2_0_0))) (k0_pay20 (k0_pay19 (conv3 P x cw cb) (conv1 P cw) (View.ld cw (Rect.unit (s := S4x1024) ![2, 0] S1x1024.size inb_S4x1024_S1x1024_2_0)) (View.ld P (Rect.unit (s := S264x1024) ![7, 0] S256x1024.size inb_S264x1024_S256x1024_7_0))) (View.ld wa (Rect.unit (s := S8x128x128) ![3, 0, 0] S1x128x128.size inb_S8x128x128_S1x128x128_3_0_0))) (k0_pay23 (convBf P x cw cb) (View.ld wa (Rect.unit (s := S8x128x128) ![4, 0, 0] S1x128x128.size inb_S8x128x128_S1x128x128_4_0_0))) (k0_pay26 (convBf P x cw cb) (View.ld wa (Rect.unit (s := S8x128x128) ![5, 0, 0] S1x128x128.size inb_S8x128x128_S1x128x128_5_0_0))) (k0_pay29 (convBf P x cw cb) (View.ld wa (Rect.unit (s := S8x128x128) ![6, 0, 0] S1x128x128.size inb_S8x128x128_S1x128x128_6_0_0))) (k0_pay31 (convBf P x cw cb)) (View.ld wa (Rect.unit (s := S8x128x128) ![7, 0, 0] S1x128x128.size inb_S8x128x128_S1x128x128_7_0_0)) ba lam

/-- What drives the state at each position of the tile. -/
def drive (P : Vec F S264x1024 .f32) (x : Vec F S256x1024 .f32) (cw : Vec F S4x1024 .f32) (cb : Vec F S1x1024 .f32) (wa : Vec F S8x128x128 .bf16) (ba : Vec F S1x1024 .f32) (lam : Vec F S1x1024 .f32) (wx : Vec F S8x128x128 .bf16) (bx : Vec F S1x1024 .f32) : FVec F S256x1024 .f32 :=
  k0_pay38 (conv P x cw cb) (gateX P x cw cb wx bx) (decay P x cw cb wa ba lam) (decayTanh P x cw cb wa ba lam) (k0_pay37 (F := F))

/-- The scan of the whole tile. -/
def scanned (P : Vec F S264x1024 .f32) (x : Vec F S256x1024 .f32) (cw : Vec F S4x1024 .f32) (cb : Vec F S1x1024 .f32) (wa : Vec F S8x128x128 .bf16) (ba : Vec F S1x1024 .f32) (lam : Vec F S1x1024 .f32) (wx : Vec F S8x128x128 .bf16) (bx : Vec F S1x1024 .f32) (s : Vec F S8x1024 .f32) : Vec F S8x1024 .f32 × Vec F S256x1024 .f32 :=
  scan (decaySt P x cw cb wa ba lam) (drive P x cw cb wa ba lam wx bx) s k0_t1_loop.trips

/-- The padded rows after the point. -/
def padStep (i : grid0.Coords) (x : Vec F S256x1024 .f32) (xp : Vec F S264x1024 .f32) : Vec F S264x1024 .f32 := padded (topOf i xp) x

/-- The state after the point. -/
def stateStep (i : grid0.Coords) (x : Vec F S256x1024 .f32) (y : Vec F S256x1024 .f32) (cw : Vec F S4x1024 .f32) (cb : Vec F S1x1024 .f32) (wa : Vec F S8x128x128 .bf16) (ba : Vec F S1x1024 .f32) (wx : Vec F S8x128x128 .bf16) (bx : Vec F S1x1024 .f32) (lam : Vec F S1x1024 .f32) (g : Vec F S1x1024 .f32) (xp : Vec F S264x1024 .f32) (s : Vec F S8x1024 .f32) : Vec F S8x1024 .f32 :=
  k0_pay42 (scanned (padStep i x xp) x cw cb wa ba lam wx bx (stateOf i s)).1

/-- The output block after the point. -/
def outStep (i : grid0.Coords) (x : Vec F S256x1024 .f32) (y : Vec F S256x1024 .f32) (cw : Vec F S4x1024 .f32) (cb : Vec F S1x1024 .f32) (wa : Vec F S8x128x128 .bf16) (ba : Vec F S1x1024 .f32) (wx : Vec F S8x128x128 .bf16) (bx : Vec F S1x1024 .f32) (lam : Vec F S1x1024 .f32) (g : Vec F S1x1024 .f32) (xp : Vec F S264x1024 .f32) (s : Vec F S8x1024 .f32) : Vec F S256x1024 .bf16 :=
  k0_pay1 (scanned (padStep i x xp) x cw cb wa ba lam wx bx (stateOf i s)).2 y (k0_pay43 y) g

/-- A load of what this body's own stores left, as a load of their closed form. -/
theorem readCov_ld {κ : Kind} {sp : Space} {s : Shape} {e : EltTy} (v : View sig κ sp s e) (L : List (View.Piece (Elt F) s e)) (r : Rect s) :
    v.readCov L r.toLoadRect = View.ld (View.canon L) r := View.readCov_eq_canon' v L _

/-- What the two stores leave, read. -/
theorem pads_read {κ : Kind} {sp : Space} (v : View sig κ sp S264x1024 .f32) (f : v.ty.Contents (Elt F)) (L : List (View.Piece (Elt F) S264x1024 .f32))
    (top : Vec F S8x1024 .f32) (x : Vec F S256x1024 .f32) :
    v.read (Elt F) (v.writes (Elt F) f (⟨Rect.unit (s := S264x1024) ![8, 0] S256x1024.size inb_S264x1024_S256x1024_8_0, k0_pay5 x⟩ ::
      ⟨Rect.unit (s := S264x1024) ![0, 0] S8x1024.size inb_S264x1024_S8x1024_0_0, k0_pay4 top⟩ :: L)) = padded top x := by
  rw [View.read_writes_cons_put _ _ _ _ _ rfl, View.read_writes_cons_put _ _ _ _ _ rfl, padded_put]

/-- What the two stores leave, loaded. -/
theorem pads_cov {κ : Kind} {sp : Space} (v : View sig κ sp S264x1024 .f32) (L : List (View.Piece (Elt F) S264x1024 .f32))
    (top : Vec F S8x1024 .f32) (x : Vec F S256x1024 .f32) (r : Rect S264x1024) :
    v.readCov (⟨Rect.unit (s := S264x1024) ![8, 0] S256x1024.size inb_S264x1024_S256x1024_8_0, k0_pay5 x⟩ ::
      ⟨Rect.unit (s := S264x1024) ![0, 0] S8x1024.size inb_S264x1024_S8x1024_0_0, k0_pay4 top⟩ :: L) r.toLoadRect = View.ld (padded top x) r := by
  unfold View.readCov
  rw [View.readAt_eq_ld, pads_read]

/-- A buffer stored whole holds the payload. -/
theorem writes_whole {sp : Space} {s : Shape} {e : EltTy} (a : Memref sig .tc sp s e) (ha : a.IsWhole) (f : a.view.ty.Contents (Elt F)) {off : Fin s.rank → ℕ}
    (inb : ∀ d, off d + s.size d ≤ s.size d) (w : s.Idx → Elt F e) (L : List (View.Piece (Elt F) s e)) :
    a.view.writes (Elt F) f (⟨Rect.unit off s.size inb, w⟩ :: L) = ha.unread w :=
  ha.eq_unread (View.read_writes_full a.view f inb w L)

/-- What the two stores leave, in closed form. -/
theorem canon_pads (h8 : ∀ a, (![8, 0] : Fin 2 → ℕ) a + (![256, 1024] : Fin 2 → ℕ) a ≤ S264x1024.size a) (h0 : ∀ a, (![0, 0] : Fin 2 → ℕ) a + (![8, 1024] : Fin 2 → ℕ) a ≤ S264x1024.size a)
    (L : List (View.Piece (Elt F) S264x1024 .f32)) (top : Vec F S8x1024 .f32) (x : Vec F S256x1024 .f32) :
    View.canon ((⟨Rect.unit (s := S264x1024) ![8, 0] ![256, 1024] h8, k0_pay5 x⟩ : View.Piece (Elt F) S264x1024 .f32) ::
      (⟨Rect.unit (s := S264x1024) ![0, 0] ![8, 1024] h0, k0_pay4 top⟩ : View.Piece (Elt F) S264x1024 .f32) :: L) = padded top x := by
  funext j
  unfold padded
  generalize k0_pay4 top = p4
  generalize k0_pay5 x = p5
  have h0' : (j 0).val < 264 := (j 0).isLt
  have h1' : (j 1).val < 1024 := (j 1).isLt
  by_cases h : (j 0).val < 8
  · rw [dif_pos h, View.canon_cons_of_not_mem]
    · have e1 : j = (Rect.unit (s := S264x1024) ![0, 0] ![8, 1024] h0).emb (ix2 ⟨(j 0).val, h⟩ (j 1)) := by
        funext a; apply Fin.ext
        match a with
        | ⟨0, _⟩ => show (j 0).val = 0 + 1 * (j 0).val; omega
        | ⟨1, _⟩ => show (j 1).val = 0 + 1 * (j 1).val; omega
      conv_lhs => rw [e1]
      exact View.canon_cons_emb _ _ _ _
    · intro hm
      have hm' : j ∈ (Rect.unit (s := S264x1024) ![8, 0] ![256, 1024] h8).set := hm
      rw [Rect.mem_set_unit] at hm'
      exact absurd (show 8 ≤ (j 0).val from (hm' 0).1) (by omega)
  · rw [dif_neg h]
    have e1 : j = (Rect.unit (s := S264x1024) ![8, 0] ![256, 1024] h8).emb (ix2 ⟨(j 0).val - 8, by omega⟩ (j 1)) := by
      funext a; apply Fin.ext
      match a with
      | ⟨0, _⟩ => show (j 0).val = 8 + 1 * ((j 0).val - 8); omega
      | ⟨1, _⟩ => show (j 1).val = 0 + 1 * (j 1).val; omega
    conv_lhs => rw [e1]
    exact View.canon_cons_emb _ _ _ _

/-- What the loop leaves in the scanned array, in closed form. -/
theorem loop_canon (𝒱 : Variants) (c : Dev nD) (bd : Option 𝒱.V) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S264x1024 .f32) (harg13 : arg13.IsWhole) (arg14 : Memref sig .tc .vmem S8x1024 .f32) (harg14 : arg14.IsWhole) (arg15 : Memref sig .tc .vmem S256x1024 .f32) (harg15 : arg15.IsWhole) (arg16 : Memref sig .tc .vmem S256x1024 .f32) (harg16 : arg16.IsWhole) (v37 : FVec F S256x1024 .f32) (v106 : FVec F S256x1024 .f32) (v123 : FVec F S256x1024 .f32) (v127 : FVec F S256x1024 .f32) (v128 : FVec F S256x1024 .f32) (a b : Vec F S256x1024 .f32) (s0 : Vec F S8x1024 .f32)
    (inb : ∀ d, (![0, 0] : Fin 2 → ℕ) d + (![256, 1024] : Fin 2 → ℕ) d ≤ S256x1024.size d) :
    View.canon ((st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v37 v106 v123 v127 v128 (harg15.unread a) (harg16.unread b) s0 k0_t1_loop.trips).2
      ++ [(⟨Rect.unit (s := S256x1024) ![0, 0] ![256, 1024] inb, b⟩ : View.Piece (Elt F) S256x1024 .f32)]) = (scan a b s0 k0_t1_loop.trips).2 := by
  rw [← View.read_writes_eq_canon arg16.view arg16.view.junk _ (fun y => ⟨_, List.mem_append_right _ (List.mem_singleton.mpr rfl), ?_⟩), View.writes_append]
  · have e : arg16.view.writes (Elt F) arg16.view.junk [(⟨Rect.unit (s := S256x1024) ![0, 0] ![256, 1024] inb, b⟩ : View.Piece (Elt F) S256x1024 .f32)] = harg16.unread b :=
      harg16.eq_unread (View.read_writes_full arg16.view _ inb b [])
    rw [e]
    exact (loop_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v37 v106 v123 v127 v128 a b s0 k0_t1_loop.trips le_rfl).2
  · show y ∈ (Rect.unit (s := S256x1024) ![0, 0] ![256, 1024] inb).set
    rw [Rect.mem_set_unit]
    have h0 : (y 0).val < 256 := (y 0).isLt
    have h1 : (y 1).val < 1024 := (y 1).isLt
    intro d
    match d with
    | ⟨0, _⟩ => show 0 ≤ (y 0).val ∧ (y 0).val < 0 + 256; omega
    | ⟨1, _⟩ => show 0 ≤ (y 1).val ∧ (y 1).val < 0 + 1024; omega

end Cert.Lru

end
-- ==== Proof.Lru.Body.lean ====
/- The recurrence call, one grid point: the body's triple, over the functions of Step.lean. A grid point is (b, i): batch row `b`, tile `i` of 256 positions. -/
module

public import proofs.«01_k».proof.Proof.Lru.Step
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.VecWindow
public import Idealize.ShloMosaic.Lib.Pipeline.ValueKit
public import Idealize.ShloMosaic.Lib.Pointwise

@[expose] public section

set_option maxRecDepth 16384

noncomputable section

namespace Cert.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option pp.maxSteps 400 in
set_option maxHeartbeats 1000000 in
/-- The body on whole memrefs: the inputs stay, the output block, the padded rows and the state go to `outStep`,
    `padStep` and `stateStep`. -/
theorem body_triple (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S264x1024 .f32) (harg13 : arg13.IsWhole) (arg14 : Memref sig .tc .vmem S8x1024 .f32) (harg14 : arg14.IsWhole) (arg15 : Memref sig .tc .vmem S256x1024 .f32) (harg15 : arg15.IsWhole) (arg16 : Memref sig .tc .vmem S256x1024 .f32) (harg16 : arg16.IsWhole)
    (x : Vec F S256x1024 .f32) (y : Vec F S256x1024 .f32) (cw : Vec F S4x1024 .f32) (cb : Vec F S1x1024 .f32) (wa : Vec F S8x128x128 .bf16) (ba : Vec F S1x1024 .f32) (wx : Vec F S8x128x128 .bf16) (bx : Vec F S1x1024 .f32) (lam : Vec F S1x1024 .f32) (g : Vec F S1x1024 .f32) (xp : Vec F S264x1024 .f32) (s : Vec F S8x1024 .f32)
    (E : Set ℕ) (K : PUnit → sProp 𝕄) :
    iprop(owns (c : Thread nD τ) arg2 fullShare x ∗ owns (c : Thread nD τ) arg3 fullShare y ∗ owns (c : Thread nD τ) arg4 fullShare cw ∗ owns (c : Thread nD τ) arg5 fullShare cb ∗ owns (c : Thread nD τ) arg6 fullShare wa ∗ owns (c : Thread nD τ) arg7 fullShare ba ∗ owns (c : Thread nD τ) arg8 fullShare wx ∗ owns (c : Thread nD τ) arg9 fullShare bx ∗ owns (c : Thread nD τ) arg10 fullShare lam ∗ owns (c : Thread nD τ) arg11 fullShare g ∗ (∃ d, owns (c : Thread nD τ) arg12 fullShare d) ∗ owns (c : Thread nD τ) arg13 fullShare xp ∗ owns (c : Thread nD τ) arg14 fullShare s ∗ (∃ d, owns (c : Thread nD τ) arg15 fullShare d) ∗ (∃ d, owns (c : Thread nD τ) arg16 fullShare d)
        ∗ (iprop(owns (c : Thread nD τ) arg2 fullShare x ∗ owns (c : Thread nD τ) arg3 fullShare y ∗ owns (c : Thread nD τ) arg4 fullShare cw ∗ owns (c : Thread nD τ) arg5 fullShare cb ∗ owns (c : Thread nD τ) arg6 fullShare wa ∗ owns (c : Thread nD τ) arg7 fullShare ba ∗ owns (c : Thread nD τ) arg8 fullShare wx ∗ owns (c : Thread nD τ) arg9 fullShare bx ∗ owns (c : Thread nD τ) arg10 fullShare lam ∗ owns (c : Thread nD τ) arg11 fullShare g ∗ owns (c : Thread nD τ) arg12 fullShare (outStep i x y cw cb wa ba wx bx lam g xp s) ∗ owns (c : Thread nD τ) arg13 fullShare (padStep i x xp) ∗ owns (c : Thread nD τ) arg14 fullShare (stateStep i x y cw cb wa ba wx bx lam g xp s) ∗ (∃ d, owns (c : Thread nD τ) arg15 fullShare d) ∗ (∃ d, owns (c : Thread nD τ) arg16 fullShare d)) -∗ K ⟨⟩))
      ⊢ wp frame (wpE (defs₀ (F := F)) Variants.none c none) E (cc0_rg_lru i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rg_lru_eq_skeleton]; unfold cc0_rg_lru_skel
  simp only [k0_part1_eq_skeleton, k0_part2_eq_skeleton, k0_part3_eq_skeleton, k0_part4_eq_skeleton, k0_part5_eq_skeleton]
  unfold owns
  by_cases hc0 : isFirst i
  all_goals
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%d15, %f15, -, H15⟩, ⟨%d16, %f16, -, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14
    sl_exec (disch := sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr
      swap; · iexact H12
      ipureintro
      rw [View.read_writes_full]
      sl_unfold_words
      simp (disch := decide) only [View.readAt_eq_ld, Memref.IsWhole.read_unread, View.ld_unit_lit, pads_cov]
      simp (disch := decide) only [readCov_ld, canon_pads, View.canon_cons_unit_lit, View.ld_unit_lit]
      rw [writes_whole arg15 harg15, writes_whole arg16 harg16]
      erw [loop_canon Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16]
      unfold outStep padStep topOf stateOf
      first | rw [if_pos hc0, if_pos hc0] | rw [if_neg hc0, if_neg hc0]
      simp only [scanned, decaySt, drive, gateX, decay, decayTanh, conv, convBf, conv3, conv1]
      try rfl
    isplitl [H13]
    · iexists _; isplitr
      swap; · iexact H13
      ipureintro
      sl_unfold_words
      rw [pads_read]
      simp (disch := decide) only [View.readAt_eq_ld, Memref.IsWhole.read_unread, View.ld_unit_lit, pads_cov, readCov_ld, View.canon_cons_unit_lit]
      unfold padStep topOf
      first | rw [if_pos hc0] | rw [if_neg hc0]
    isplitl [H14]
    · iexists _; isplitr
      swap; · iexact H14
      ipureintro
      rw [View.read_writes_full]
      sl_unfold_words
      simp (disch := decide) only [View.readAt_eq_ld, Memref.IsWhole.read_unread, View.ld_unit_lit, pads_cov]
      simp (disch := decide) only [readCov_ld, canon_pads, View.canon_cons_unit_lit, View.ld_unit_lit]
      rw [writes_whole arg15 harg15, writes_whole arg16 harg16]
      rw [(loop_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ k0_t1_loop.trips le_rfl).1]
      unfold stateStep padStep topOf stateOf
      first | rw [if_pos hc0, if_pos hc0] | rw [if_neg hc0, if_neg hc0]
      simp only [scanned, decaySt, drive, gateX, decay, decayTanh, conv, convBf, conv3, conv1]
      try rfl
    isplitl [H15]
    · iexists _; iexists _; isplitr
      swap; · iexact H15
      ipureintro; rfl
    iexists _; iexists _; isplitr
    swap; · iexact H16
    ipureintro; rfl

end Cert.Lru

end
-- ==== Proof.Lru.Frame.lean ====
/- The recurrence call, the run of the whole grid: the padded rows and the state before each point, the contents of the
   output block after it, the launch, and the frame claim's post for any values. -/
module

public import proofs.«01_k».proof.Proof.Lru.Body

@[expose] public section

set_option maxRecDepth 16384

noncomputable section

namespace Cert.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Names at a point -/

abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x128x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x128x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1024 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x1024 .bf16 := win0_10.stage (cfg0.slots t 10)
abbrev hs10 (t : Fin cfg0.N) : (ms10 t).IsWhole := hstage0_10 ((cfg0.slots t 10).cast nbuf0_10)
/-- The scratches: the padded rows, the state, the decay and the scanned array. -/
abbrev padM : Memref sig .tc .vmem S264x1024 .f32 := Memref.whole cc0_scratch0
abbrev stateM : Memref sig .tc .vmem S8x1024 .f32 := Memref.whole cc0_scratch1
abbrev decayM : Memref sig .tc .vmem S256x1024 .f32 := Memref.whole cc0_scratch2
abbrev scanM : Memref sig .tc .vmem S256x1024 .f32 := Memref.whole cc0_scratch3

theorem PhiA_eq (c : Dev nD) :
    (Pipeline.ΦA spec0 c : sProp 𝕄)
      = iprop(iprop((∃ d, owns (c : Thread nD τ) padM fullShare d) ∗ (∃ d, owns (c : Thread nD τ) stateM fullShare d) ∗ (∃ d, owns (c : Thread nD τ) decayM fullShare d) ∗ (∃ d, owns (c : Thread nD τ) scanM fullShare d)) ∗ (∃ r, prngReg c r)) := by
  unfold Pipeline.ΦA; rw [scopedRest0_eq]; simp only [padM, stateM, decayM, scanM, owns_whole]; try rfl

/-! ## What the scratches and the output block hold -/

/-- The padded rows and the state after point `t`, from those before. -/
def stepPt (c : Dev nD) (t : Fin cfg0.N) (q : Vec F S264x1024 .f32 × Vec F S8x1024 .f32) : Vec F S264x1024 .f32 × Vec F S8x1024 .f32 :=
  (padStep (grid0.coords t) (iblk m c 0 t) q.1,
   stateStep (grid0.coords t) (iblk m c 0 t) (iblk m c 1 t) (iblk m c 2 t) (iblk m c 3 t) (iblk m c 4 t) (iblk m c 5 t) (iblk m c 6 t) (iblk m c 7 t) (iblk m c 8 t) (iblk m c 9 t) q.1 q.2)

/-- The padded rows and the state before point `n`. -/
def carried (c : Dev nD) : ℕ → Vec F S264x1024 .f32 × Vec F S8x1024 .f32
  | 0 => (k0_pay2, k0_pay3)
  | n + 1 => if h : n < cfg0.N then stepPt m c ⟨n, h⟩ (carried c n) else carried c n

theorem carried_succ (c : Dev nD) (t : Fin cfg0.N) : carried m c (t.val + 1) = stepPt m c t (carried m c t.val) := by
  rw [carried]; exact dif_pos t.isLt

/-- The output block after point `t`, from the padded rows and the state before. -/
def outPt (c : Dev nD) (t : Fin cfg0.N) (q : Vec F S264x1024 .f32 × Vec F S8x1024 .f32) : Vec F S256x1024 .bf16 :=
  outStep (grid0.coords t) (iblk m c 0 t) (iblk m c 1 t) (iblk m c 2 t) (iblk m c 3 t) (iblk m c 4 t) (iblk m c 5 t) (iblk m c 6 t) (iblk m c 7 t) (iblk m c 8 t) (iblk m c 9 t) q.1 q.2

/-- The output block after point `t`. -/
def outAt (c : Dev nD) (t : Fin cfg0.N) : Vec F S256x1024 .bf16 := outPt m c t (carried m c t.val)

/-- Where a batch row starts nothing carried matters. -/
theorem first_irrel (i : grid0.Coords) (h : isFirst i) (xp xp' : Vec F S264x1024 .f32) (s s' : Vec F S8x1024 .f32) :
    topOf i xp = topOf i xp' ∧ stateOf i s = stateOf i s' := by
  unfold topOf stateOf; simp only [if_pos h, and_self]

/-- What is carried agrees with `carried`, save before the first point. -/
def agrees (c : Dev nD) (n : ℕ) (xp : Vec F S264x1024 .f32) (s : Vec F S8x1024 .f32) : Prop :=
  n ≠ 0 → (xp, s) = carried m c n

theorem agrees_pt (c : Dev nD) (t : Fin cfg0.N) (xp : Vec F S264x1024 .f32) (s : Vec F S8x1024 .f32) (h : agrees m c t.val xp s) :
    topOf (grid0.coords t) xp = topOf (grid0.coords t) (carried m c t.val).1 ∧ stateOf (grid0.coords t) s = stateOf (grid0.coords t) (carried m c t.val).2 := by
  by_cases h0 : t.val = 0
  · exact first_irrel _ ((isFirst_iff t).mpr (by omega)) _ _ _ _
  · rw [← h h0]; exact ⟨rfl, rfl⟩

theorem agrees_out (c : Dev nD) (t : Fin cfg0.N) (xp : Vec F S264x1024 .f32) (s : Vec F S8x1024 .f32) (h : agrees m c t.val xp s) :
    outStep (grid0.coords t) (iblk m c 0 t) (iblk m c 1 t) (iblk m c 2 t) (iblk m c 3 t) (iblk m c 4 t) (iblk m c 5 t) (iblk m c 6 t) (iblk m c 7 t) (iblk m c 8 t) (iblk m c 9 t) xp s = outAt m c t := by
  unfold outAt outPt outStep padStep
  rw [(agrees_pt m c t xp s h).1, (agrees_pt m c t xp s h).2]

theorem agrees_step (c : Dev nD) (t : Fin cfg0.N) (xp : Vec F S264x1024 .f32) (s : Vec F S8x1024 .f32) (h : agrees m c t.val xp s) :
    agrees m c (t.val + 1) (padStep (grid0.coords t) (iblk m c 0 t) xp) (stateStep (grid0.coords t) (iblk m c 0 t) (iblk m c 1 t) (iblk m c 2 t) (iblk m c 3 t) (iblk m c 4 t) (iblk m c 5 t) (iblk m c 6 t) (iblk m c 7 t) (iblk m c 8 t) (iblk m c 9 t) xp s) := fun _ => by
  rw [carried_succ]
  unfold stepPt stateStep padStep
  rw [(agrees_pt m c t xp s h).1, (agrees_pt m c t xp s h).2]

/-- The invariant before point `n`. -/
def Phi (c : Dev nD) (n : ℕ) : sProp 𝕄 :=
  iprop((∃ xp s, ⌜agrees m c n xp s⌝ ∗ owns (c : Thread nD τ) padM fullShare xp ∗ owns (c : Thread nD τ) stateM fullShare s) ∗ (∃ d, owns (c : Thread nD τ) decayM fullShare d) ∗ (∃ d, owns (c : Thread nD τ) scanM fullShare d) ∗ (∃ r, prngReg c r))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl,
    after0, after1, after2, after3, after4, after5, after6, after7, after8, after9, after10]
  rw [show (dats m 0 c).Φ t.succ = Phi m c (t.val + 1) from rfl, show (dats m 0 c).Φ t.castSucc = Phi m c t.val from rfl]
  unfold Phi
  iintro ⟨⟨⟨%xp, %s, %hh, HP, HS⟩, HD, HC, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_triple c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) xp s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HP]; · iexact HP
  isplitl [HS]; · iexact HS
  isplitl [HD]; · iexact HD
  isplitl [HC]; · iexact HC
  rw [agrees_out m c t xp s hh]
  iintro ⟨H0, H1, H2, H3, H4, H5, H6, H7, H8, H9, H10, HP, HS, HD, HC⟩
  isplitl [HP HS HD HC Hg]
  · isplitl [HP HS]
    · iexists _; iexists _; isplitr
      swap
      · isplitl [HP]; · iexact HP
        iexact HS
      ipureintro; exact agrees_step m c t xp s hh
    isplitl [HD]; · iexact HD
    isplitl [HC]; · iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, PhiA_eq]
  unfold Phi
  iintro ⟨⟨⟨%xp, HP⟩, ⟨%s, HS⟩, HD, HC⟩, Hg⟩
  isplitl [HP HS]
  · iexists xp; iexists s; isplitr
    swap
    · isplitl [HP]; · iexact HP
      iexact HS
    ipureintro; exact fun h => absurd rfl h
  isplitl [HD]; · iexact HD
  isplitl [HC]; · iexact HC
  iexact Hg

theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨⟨%xp, %s, %hh, HP, HS⟩, HD, HC, Hg⟩
  isplitl [HP HS HD HC]
  · isplitl [HP]
    · iexists xp; iexact HP
    isplitl [HS]
    · iexists s; iexact HS
    isplitl [HD]; · iexact HD
    iexact HC
  iexact Hg

/-! ## The run -/

set_option backward.isDefEq.respectTransparency.types false in
/-- Every weakly fair execution of @main terminates, the arrays at what the proof data says, the counters at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The argument arrays end unchanged and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Lru

end
-- ==== Proof.Lru.RefRun.lean ====
/- The recurrence call's reference, the run: no operation writes an argument, so the arguments end as they began. -/
module

public import proofs.«01_k».proof.Proof.Gen.ReferenceIdeal
public import proofs.«01_k».proof.Proof.Gen.ReferenceIdeal.Run

@[expose] public section

set_option maxRecDepth 16384

noncomputable section

namespace Cert.Lru.Ref

open Idealize.ShloMosaic Idealize.ShloMosaic.TcCoe Idealize.ShloMosaic.StableHlo
open Idealize.SL.Sem
open Cert.ReferenceIdeal Cert.ReferenceIdeal.Gen Cert.ReferenceIdeal.Value

variable {F : FTy → Type} [FloatOps F]
variable (m : (ℓ : Loc nD τ sig) → Buf (Elt F) ℓ) (ρ : Dev nD → PrngReg)

/-- The argument references. -/
abbrev argRefs : List (Ref sig .tc) :=
  [main_arg0, main_arg1, main_arg2, main_arg3, main_arg4, main_arg5, main_arg6, main_arg7, main_arg8]

/-- The references the operations after the loop write, in order. -/
abbrev tailRefs : List (Ref sig .tc) := [main_v88, main_v89, main_v90, main_cst_9, main_v91, main_v92, main_v93, main_cst_10, main_v94, main_v95, main_v96, main_cst_11, main_v97, main_v98, main_cst_12, main_v99, main_v100, main_v101, main_v102, main_v103, main_v104, main_cst_13, main_v105, main_v106, main_cst_14, main_v107, main_v108, main_cst_15, main_v109, main_v110, main_v111, main_v112, main_v113, main_v114, main_v115, main_v116, main_v117, main_v118]

theorem tail_writes : (hostOps0_5 : List (HloOp τ sig (Elt F))).Forall fun op => op.writes ⊆ (tailRefs.map (Proc.devRef (τ := τ) .tc)).toFinset :=
  forall_writes_sub_of_map rfl

/-- A list of references none of which is an argument. -/
theorem notMem {W : List (Ref sig .tc)} (h : ∀ b ∈ argRefs, b ∉ W) (b : Ref sig .tc) (hb : b ∈ argRefs) : b ∉ W := h b hb

section Keeps
variable (V : Valuation τ sig (Elt F)) (b : Ref sig .tc) (hb : b ∈ argRefs)
include hb

theorem keep0 : after hostOps0 V (Proc.devRef .tc b) = V (Proc.devRef .tc b) :=
  after_of_writes_sub hostOps0 V hostOps0_writes (notMem (by decide +kernel) b hb)
theorem keep1 : after hostOps0_1 V (Proc.devRef .tc b) = V (Proc.devRef .tc b) :=
  after_of_writes_sub hostOps0_1 V hostOps0_1_writes (notMem (by decide +kernel) b hb)
theorem keep2 : after hostOps0_2 V (Proc.devRef .tc b) = V (Proc.devRef .tc b) :=
  after_of_writes_sub hostOps0_2 V hostOps0_2_writes (notMem (by decide +kernel) b hb)
theorem keep3 : after hostOps0_3 V (Proc.devRef .tc b) = V (Proc.devRef .tc b) :=
  after_of_writes_sub hostOps0_3 V hostOps0_3_writes (notMem (by decide +kernel) b hb)
theorem keep4 : after hostOps0_4 V (Proc.devRef .tc b) = V (Proc.devRef .tc b) :=
  after_of_writes_sub hostOps0_4 V hostOps0_4_writes (notMem (by decide +kernel) b hb)
theorem keep5 : after hostOps0_5 V (Proc.devRef .tc b) = V (Proc.devRef .tc b) :=
  after_of_writes_sub hostOps0_5 V tail_writes (notMem (by decide +kernel) b hb)
theorem keepC : after condOps V (Proc.devRef .tc b) = V (Proc.devRef .tc b) :=
  after_of_writes_sub condOps V condOps_writes (notMem (by decide +kernel) b hb)
theorem keepW0 : after while0Ops0 V (Proc.devRef .tc b) = V (Proc.devRef .tc b) :=
  after_of_writes_sub while0Ops0 V while0Ops0_writes (notMem (by decide +kernel) b hb)
theorem keepW1 : after while0Ops0_1 V (Proc.devRef .tc b) = V (Proc.devRef .tc b) :=
  after_of_writes_sub while0Ops0_1 V while0Ops0_1_writes (notMem (by decide +kernel) b hb)
theorem keepW2 : after while0Ops0_2 V (Proc.devRef .tc b) = V (Proc.devRef .tc b) :=
  after_of_writes_sub while0Ops0_2 V while0Ops0_2_writes (notMem (by decide +kernel) b hb)
theorem keepW3 : after while0Ops0_3 V (Proc.devRef .tc b) = V (Proc.devRef .tc b) :=
  after_of_writes_sub while0Ops0_3 V while0Ops0_3_writes (notMem (by decide +kernel) b hb)
theorem keepW4 : after while0Ops0_4 V (Proc.devRef .tc b) = V (Proc.devRef .tc b) :=
  after_of_writes_sub while0Ops0_4 V while0Ops0_4_writes (notMem (by decide +kernel) b hb)

end Keeps

/-- An argument is as launched at the loop's entry. -/
theorem entry_arg (c : Dev nD) (b : Ref sig .tc) (hb : b ∈ argRefs) :
    entryContents preI m c (Proc.devRef .tc b) = m ((c.tc : Thread nD τ).loc b) := by
  simp only [entryContents, afterL_cons, afterL_nil]
  rw [keep4 _ b hb, keep3 _ b hb, keep2 _ b hb, keep1 _ b hb, keep0 _ b hb]

/-- An argument is as launched before each trip. -/
theorem atK_arg (c : Dev nD) (b : Ref sig .tc) (hb : b ∈ argRefs) :
    ∀ k, atK m k c (Proc.devRef .tc b) = m ((c.tc : Thread nD τ).loc b)
  | 0 => entry_arg m c b hb
  | k + 1 => by
    rw [show atK m (k + 1) c = afterL bodyI (after condOps (atK m k c)) from rfl]
    simp only [afterL_cons, afterL_nil]
    rw [keepW4 _ b hb, keepW3 _ b hb, keepW2 _ b hb, keepW1 _ b hb, keepW0 _ b hb, keepC _ b hb, atK_arg c b hb k]

/-- An argument is as launched at the end. -/
theorem final_arg (c : Dev nD) (b : Ref sig .tc) (hb : b ∈ argRefs) :
    finalContents condOps preI bodyI postI 4096 m c (Proc.devRef .tc b) = m ((c.tc : Thread nD τ).loc b) := by
  simp only [finalContents, afterL_cons, afterL_nil]
  rw [keep5 _ b hb, keepC _ b hb]
  exact atK_arg m c b hb 4096

/-- The run: the result buffer holds what the operations after the loop make of the last trip's contents, and the
    arguments are as launched. -/
theorem run : θ_run (defs (F := F)) (onTc (τ := τ) (main (F := F))) ⟨m, fun _ => 0, ρ⟩ (fun r => ∀ c : Dev nD,
      r.2.mem ((c.tc : Thread nD τ).loc main_v118) = after hostOps0_5 (after condOps (atK m 4096 c)) (Proc.devRef .tc main_v118)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c main_v118 rfl).trans (by simp only [finalContents, afterL_cons, afterL_nil]),
      (h c main_arg0 rfl).trans (final_arg m c main_arg0 (by decide)),
      (h c main_arg1 rfl).trans (final_arg m c main_arg1 (by decide)),
      (h c main_arg2 rfl).trans (final_arg m c main_arg2 (by decide)),
      (h c main_arg3 rfl).trans (final_arg m c main_arg3 (by decide)),
      (h c main_arg4 rfl).trans (final_arg m c main_arg4 (by decide)),
      (h c main_arg5 rfl).trans (final_arg m c main_arg5 (by decide)),
      (h c main_arg6 rfl).trans (final_arg m c main_arg6 (by decide)),
      (h c main_arg7 rfl).trans (final_arg m c main_arg7 (by decide)),
      (h c main_arg8 rfl).trans (final_arg m c main_arg8 (by decide))⟩) (run_fold m ρ)

end Cert.Lru.Ref

end
-- ==== Proof.Lru.Spec.lean ====
/- The recurrence call as plain mathematics over the extended reals: the convolution, the gates, the decay, the drive, the
   state and the normed result, by position; and the laws that bring the two programs' ways of computing them together. -/
module

public import Idealize.ShloMosaic.PureOps.Ideal
public import proofs.«01_k».proof.Proof.Idx

@[expose] public section

noncomputable section

namespace Cert.Lru

open Idealize.ShloMosaic

/-- Entry `(p, q, r, k)` of an array of four axes, zero off it. -/
def at4 {a b c d : ℕ} (x : (⟨4, ![a, b, c, d]⟩ : Shape).Idx → EReal) (p q r k : ℕ) : EReal :=
  if h : p < a ∧ q < b ∧ r < c ∧ k < d then x (ix4 ⟨p, h.1⟩ ⟨q, h.2.1⟩ ⟨r, h.2.2.1⟩ ⟨k, h.2.2.2⟩) else 0

theorem at4_eq {a b c d : ℕ} (x : (⟨4, ![a, b, c, d]⟩ : Shape).Idx → EReal) (p : Fin a) (q : Fin b) (r : Fin c) (k : Fin d) :
    x (ix4 p q r k) = at4 x p.val q.val r.val k.val := by
  unfold at4; rw [dif_pos ⟨p.isLt, q.isLt, r.isLt, k.isLt⟩]

/-! ## The formulas -/

section Formulas
variable (x : ℕ → ℕ → EReal) (cw : ℕ → ℕ → EReal) (cb : ℕ → EReal) (wa : ℕ → ℕ → ℕ → EReal) (ba : ℕ → EReal)
  (wx : ℕ → ℕ → ℕ → EReal) (bx lam g : ℕ → EReal)

/-- The input `d` tokens back in the same sequence, zero before its start. -/
def back (d r j : ℕ) : EReal := if r % 4096 < d then 0 else x (r - d) j

/-- The causal convolution of four taps. -/
def cv (r j : ℕ) : EReal := ((cb j + cw 3 j * x r j) + cw 0 j * back x 3 r j) + cw 1 j * back x 2 r j + cw 2 j * back x 1 r j

/-- A gate: the block-diagonal projection of the convolution, its bias, the logistic function. -/
def gate (w : ℕ → ℕ → ℕ → EReal) (b : ℕ → EReal) (r j : ℕ) : EReal :=
  Ideal.logistic ((∑ k : Fin 128, cv x cw cb r (128 * (j / 128) + k.val) * w (j / 128) k.val (j % 128)) + b j)

/-- The logarithm of one plus the exponential. -/
def softplus (y : EReal) : EReal := max y 0 + Ideal.log1p (Ideal.exp (-(max y (-y))))

/-- The logarithm of the decay. -/
def logDecay (r j : ℕ) : EReal := (Ideal.ofBits .f32 0xC1000000#32 * gate x cw cb wa ba r j) * softplus (-lam j)

/-- The decay. -/
def dec (r j : ℕ) : EReal := Ideal.exp (logDecay x cw cb wa ba lam r j)

/-- The root of one less the squared decay, of the decay's logarithm. -/
def rootOf (l : EReal) : EReal := Ideal.sqrt (-(Ideal.exp (Ideal.ofBits .f32 0x40000000#32 * l) - 1))

/-- What drives the state. -/
def drv (r j : ℕ) : EReal := rootOf (logDecay x cw cb wa ba lam r j) * (gate x cw cb wx bx r j * cv x cw cb r j)

/-- The state after row `r`. -/
def st (j : ℕ) : ℕ → EReal
  | 0 => drv x cw cb wa ba wx bx lam 0 j
  | r + 1 => if (r + 1) % 4096 = 0 then drv x cw cb wa ba wx bx lam (r + 1) j
      else dec x cw cb wa ba lam (r + 1) j * st j r + drv x cw cb wa ba wx bx lam (r + 1) j

/-- The tanh form of the Gaussian error linear unit. -/
def gelu (y : EReal) : EReal :=
  y * (Ideal.ofBits .f32 0x3F000000#32 * (1 + Ideal.tanh (Ideal.ofBits .f32 0x3F4C422A#32 * (y + Ideal.ofBits .f32 0x3D372713#32 * (y * (y * y))))))

/-- The gated state. -/
def gated (r j : ℕ) : EReal := st x cw cb wa ba wx bx lam j r * gelu (x r (1024 + j))

/-- The root-mean-square norm of a row. -/
def norm (y : ℕ → EReal) (j : ℕ) : EReal :=
  y j * Ideal.rsqrt (Ideal.div (∑ q : Fin 1024, y q.val * y q.val) (Ideal.ofBits .f32 0x44800000#32) + Ideal.ofBits .f32 0x358637BD#32) * g j

/-- The result. -/
def out (r j : ℕ) : EReal := norm g (gated x cw cb wa ba wx bx lam r) j

theorem st_reset (j r : ℕ) (h : r % 4096 = 0) : st x cw cb wa ba wx bx lam j r = drv x cw cb wa ba wx bx lam r j := by
  cases r with
  | zero => rfl
  | succ r => rw [st, if_pos h]

theorem st_step (j r : ℕ) (h : r % 4096 ≠ 0) : st x cw cb wa ba wx bx lam j r
    = dec x cw cb wa ba lam r j * st x cw cb wa ba wx bx lam j (r - 1) + drv x cw cb wa ba wx bx lam r j := by
  cases r with
  | zero => exact absurd rfl h
  | succ r => rw [st, if_neg h]; rfl

end Formulas

/-! ## The laws -/

theorem neg_eight : Ideal.ofBits .f32 0xC1000000#32 = ((-8 : ℝ) : EReal) := by
  simp only [Ideal.ofBits, Ideal.ieee]
  simp
  exact (EReal.coe_mul _ _).symm.trans (by norm_num)
theorem two : Ideal.ofBits .f32 0x40000000#32 = ((2 : ℝ) : EReal) := by
  simp only [Ideal.ofBits, Ideal.ieee]
  simp
  exact (EReal.coe_mul _ _).symm.trans (by norm_num)

theorem exp_nonneg (x : EReal) : 0 ≤ Ideal.exp x := by
  induction x using EReal.rec with
  | bot => simp
  | top => simp
  | coe r => simp only [Ideal.exp_coe]; exact_mod_cast (Real.exp_pos r).le

theorem logistic_nonneg (x : EReal) : 0 ≤ Ideal.logistic x := by
  unfold Ideal.logistic Ideal.div
  have h : 0 ≤ 1 + Ideal.exp (-x) := add_nonneg zero_le_one (exp_nonneg _)
  split
  · simp
  · rw [one_mul]; exact EReal.inv_nonneg_of_nonneg h

theorem log_nonneg (x : EReal) (h : 1 ≤ x) : 0 ≤ Ideal.log x := by
  induction x using EReal.rec with
  | bot => exact absurd (le_bot_iff.mp h) (EReal.coe_ne_bot 1)
  | top => simp
  | coe r =>
    have h1 : (1 : ℝ) ≤ r := by exact_mod_cast h
    show 0 ≤ (if r ≤ 0 then (⊥ : EReal) else (Real.log r : EReal))
    rw [if_neg (by linarith)]
    exact_mod_cast Real.log_nonneg h1

theorem softplus_nonneg (y : EReal) : 0 ≤ softplus y := by
  unfold softplus Ideal.log1p
  exact add_nonneg (le_max_right _ _) (log_nonneg _ (le_add_of_nonneg_right (exp_nonneg _)))

theorem neg_mul_nonneg (c : EReal) (h : 0 ≤ c) : Ideal.ofBits .f32 0xC1000000#32 * c ≤ 0 := by
  rw [neg_eight, show ((-8 : ℝ) : EReal) = -((8 : ℝ) : EReal) from rfl, EReal.neg_mul, EReal.neg_le_zero]
  exact mul_nonneg (by norm_num) h

theorem nonpos_mul_nonneg (a b : EReal) (ha : a ≤ 0) (hb : 0 ≤ b) : a * b ≤ 0 := by
  have h : 0 ≤ (-a) * b := mul_nonneg (by rw [EReal.neg_nonneg]; exact ha) hb
  rw [EReal.neg_mul, EReal.neg_nonneg] at h
  exact h

theorem logDecay_nonpos (x cw cb wa ba lam) (r j : ℕ) : logDecay x cw cb wa ba lam r j ≤ 0 := by
  unfold logDecay
  exact nonpos_mul_nonneg _ _ (neg_mul_nonneg _ (logistic_nonneg _)) (softplus_nonneg _)

/-- The exponential of what is at most zero is a nonnegative real. -/
theorem exp_of_nonpos (l : EReal) (h : l ≤ 0) : 0 ≤ Ideal.exp l ∧ Ideal.exp l ≠ ⊤ := by
  refine ⟨exp_nonneg l, ?_⟩
  induction l using EReal.rec with
  | bot => simp
  | top => simp at h
  | coe r => simp

/-- The root of one less the squared decay by the hyperbolic tangent. -/
def rootTanh (z : EReal) : EReal := if 0 < z then z * Ideal.rsqrt z else 0

theorem rootTanh_coe (z : ℝ) (h : 0 ≤ z) : rootTanh (z : EReal) = Ideal.sqrt (z : EReal) := by
  unfold rootTanh
  show (if 0 < (z : EReal) then (z : EReal) * (if z < 0 then (⊥ : EReal) else if z = 0 then ⊤ else ((Real.sqrt z)⁻¹ : ℝ)) else 0) = if z < 0 then (⊥ : EReal) else (Real.sqrt z : EReal)
  rw [if_neg (not_lt.mpr h), if_neg (not_lt.mpr h)]
  by_cases h0 : z = 0
  · subst h0; simp
  · have hp : 0 < z := lt_of_le_of_ne h (Ne.symm h0)
    rw [if_pos (by exact_mod_cast hp), if_neg h0, ← EReal.coe_mul]
    congr 1
    have hs : Real.sqrt z ≠ 0 := (Real.sqrt_pos.mpr hp).ne'
    field_simp
    exact (Real.sq_sqrt h).symm

theorem root_eq (l : EReal) (h : l ≤ 0) :
    rootTanh ((0 - Ideal.tanh l) * (Ideal.exp l * Ideal.exp l + 1)) = rootOf l := by
  unfold rootOf
  rw [two]
  induction l using EReal.rec with
  | top => simp at h
  | bot =>
    rw [EReal.coe_mul_bot_of_pos (by norm_num)]
    simp only [Ideal.tanh_bot, Ideal.exp_bot]
    rw [show ((0 : EReal) - -1) * (0 * 0 + 1) = ((1 : ℝ) : EReal) by simp, show -((0 : EReal) - 1) = ((1 : ℝ) : EReal) by simp]
    exact rootTanh_coe 1 zero_le_one
  | coe r =>
    have hr : r ≤ 0 := by exact_mod_cast h
    rw [← EReal.coe_mul]
    simp only [Ideal.tanh_coe, Ideal.exp_coe]
    have e : Real.exp (2 * r) = Real.exp r * Real.exp r := by rw [two_mul, Real.exp_add]
    have e1 : Real.exp r * Real.exp r ≤ 1 := by
      rw [← Real.exp_add]; exact Real.exp_le_one_iff.mpr (by linarith)
    have z1 : ((0 : EReal) - (Real.tanh r : EReal)) * ((Real.exp r : EReal) * (Real.exp r : EReal) + 1) = ((1 - Real.exp r * Real.exp r : ℝ) : EReal) := by
      rw [show (0 : EReal) = ((0 : ℝ) : EReal) from rfl, show (1 : EReal) = ((1 : ℝ) : EReal) from rfl, ← EReal.coe_sub, ← EReal.coe_mul, ← EReal.coe_add, ← EReal.coe_mul]
      congr 1
      rw [Real.tanh_eq_sinh_div_cosh, Real.sinh_eq, Real.cosh_eq, Real.exp_neg]
      have hp := Real.exp_pos r
      field_simp
      ring
    have z2 : -((Real.exp (2 * r) : EReal) - 1) = ((1 - Real.exp r * Real.exp r : ℝ) : EReal) := by
      rw [show (1 : EReal) = ((1 : ℝ) : EReal) from rfl, ← EReal.coe_sub, ← EReal.coe_neg]
      congr 1; rw [e]; ring
    rw [z1, z2]
    exact rootTanh_coe _ (by linarith)

/-! ## The recurrence in doubling steps -/

section Doubling
variable (a b : ℕ → EReal)

/-- The recurrence over the `m` rows from row `n` on. -/
def runFrom (n : ℕ) (s : EReal) : ℕ → EReal
  | 0 => s
  | m + 1 => a (n + m) * runFrom n s m + b (n + m)

theorem runFrom_add (n : ℕ) (s : EReal) (m k : ℕ) : runFrom a b n s (m + k) = runFrom a b (n + m) (runFrom a b n s m) k := by
  induction k with
  | zero => rfl
  | succ k ih =>
    show a (n + (m + k)) * runFrom a b n s (m + k) + b (n + (m + k)) = a (n + m + k) * _ + b (n + m + k)
    rw [ih, add_assoc n m k]

/-- One doubling step on the coefficients. -/
def dblA (d : ℕ) (A : ℕ → EReal) (r : ℕ) : EReal := if d ≤ r then A r * A (r - d) else A r
def dblB (d : ℕ) (A B : ℕ → EReal) (r : ℕ) : EReal := if d ≤ r then A r * B (r - d) + B r else B r

/-- The coefficients are the recurrence over the last `d` rows. -/
def Covers (d : ℕ) (A B : ℕ → EReal) : Prop :=
  ∀ r, (0 ≤ A r ∧ A r ≠ ⊤) ∧ ∀ s, A r * s + B r = runFrom a b (r + 1 - d) s (min d (r + 1))

theorem covers_one (ha : ∀ r, 0 ≤ a r ∧ a r ≠ ⊤) : Covers a b 1 a b := fun r => ⟨ha r, fun s => by
  rw [Nat.add_sub_cancel, show min 1 (r + 1) = 0 + 1 by omega]; rfl⟩

theorem covers_dbl (d : ℕ) (A B : ℕ → EReal) (h : Covers a b d A B) : Covers a b (d + d) (dblA d A) (dblB d A B) := fun r => by
  unfold dblA dblB
  by_cases hd : d ≤ r
  · rw [if_pos hd, if_pos hd]
    refine ⟨⟨mul_nonneg (h r).1.1 (h (r - d)).1.1, EReal.mul_ne_top _ _ |>.mpr ⟨?_, ?_, ?_, ?_⟩⟩, fun s => ?_⟩
    · exact Or.inr (h (r - d)).1.1
    · exact Or.inl (h r).1.1
    · exact Or.inl (h r).1.2
    · exact Or.inr (h (r - d)).1.2
    · rw [mul_assoc, ← add_assoc, ← EReal.left_distrib_of_nonneg_of_ne_top (h r).1.1 (h r).1.2, (h (r - d)).2, (h r).2]
      rw [show min (d + d) (r + 1) = min d (r - d + 1) + d by omega, show min d (r + 1) = d by omega, runFrom_add]
      congr 1
      · omega
      · congr 1; omega
  · rw [if_neg hd, if_neg hd]
    refine ⟨(h r).1, fun s => ?_⟩
    rw [(h r).2, show r + 1 - d = r + 1 - (d + d) by omega, show min d (r + 1) = min (d + d) (r + 1) by omega]

/-- Three doubling steps do eight rows. -/
theorem dbl_eight (ha : ∀ r, 0 ≤ a r ∧ a r ≠ ⊤) (s : EReal) (r : ℕ) (hr : r < 8) :
    dblA 4 (dblA 2 (dblA 1 a)) r * s + dblB 4 (dblA 2 (dblA 1 a)) (dblB 2 (dblA 1 a) (dblB 1 a b)) r = runFrom a b 0 s (r + 1) := by
  have h := covers_dbl a b 4 _ _ (covers_dbl a b 2 _ _ (covers_dbl a b 1 _ _ (covers_one a b ha)))
  rw [(h r).2 s, show r + 1 - (4 + 4) = 0 by omega, show min (4 + 4) (r + 1) = r + 1 by omega]

end Doubling

end Cert.Lru

end
-- ==== Proof.Lru.RefStage.lean ====
/- The recurrence's reference over the extended reals: its operations named in the stages of the layer, each stage read
   entry by entry. -/
module

public import proofs.«01_k».proof.Proof.Gen.ReferenceIdeal.Run
public import proofs.«01_k».proof.Proof.Idx
public import proofs.«01_k».proof.Proof.Lru.Spec

@[expose] public section

set_option maxRecDepth 16384

noncomputable section

namespace Cert.Lru.Ref

open Idealize.ShloMosaic Idealize.ShloMosaic.TcCoe Idealize.ShloMosaic.Tactic Idealize.ShloMosaic.StableHlo
open Idealize.SL.Sem
open Cert.ReferenceIdeal Cert.ReferenceIdeal.Gen Cert.ReferenceIdeal.Value Cert.At

/-! ## The stages -/

/-- The recurrence's branch of the projection. -/
def xS (x : FVec Ideal S8192x2048 .f32) : FVec Ideal S2x4096x1024 .f32 :=
  extractStridedSlice S2x4096x1024 ![0, 0, 0] (shapeCast _ x shapeCasts_S8192x2048_S2x4096x2048) slices_S2x4096x2048_S2x4096x1024_0_0_0

/-- The gate's branch of the projection. -/
def yS (x : FVec Ideal S8192x2048 .f32) : FVec Ideal S2x4096x1024 .f32 :=
  extractStridedSlice S2x4096x1024 ![0, 0, 1024] (shapeCast _ x shapeCasts_S8192x2048_S2x4096x2048) slices_S2x4096x2048_S2x4096x1024_0_0_1024

/-- Three zero tokens before a branch. -/
def padS (x : FVec Ideal S2x4096x1024 .f32) : FVec Ideal S2x4099x1024 .f32 :=
  pad S2x4099x1024 ![0, 3, 0] ![0, 0, 0] ![0, 0, 0] x (sitofp .f32 (constantI S_ 32 0#32)) pads_S2x4096x1024_S2x4099x1024_000_300_000 h_S_

/-- A vector over the channels, spread over the tokens. -/
def spread (v : FVec Ideal S1024 .f32) : FVec Ideal S2x4096x1024 .f32 :=
  broadcastInDim S2x4096x1024 ![0, 1, 2] bcast_S1x1x1024_S2x4096x1024_0_1_2 (broadcastInDim S1x1x1024 ![2] bcast_S1024_S1x1x1024_2 v)

/-- A constant, spread over everything. -/
def allS (w : BitVec 32) : FVec Ideal S2x4096x1024 .f32 := broadcastInDim S2x4096x1024 ![] bcast_S_S2x4096x1024 (constant S_ .f32 w)

/-- One tap. -/
def tapS (k : Fin 2 → ℕ) (h : S4x1024.Slices k S1x1024) (cw : FVec Ideal S4x1024 .f32) : FVec Ideal S2x4096x1024 .f32 :=
  spread (shapeCast _ (extractStridedSlice S1x1024 k cw h) shapeCasts_S1x1024_S1024)

/-- The convolution. -/
def convS (p : FVec Ideal S2x4099x1024 .f32) (cw : FVec Ideal S4x1024 .f32) (cb : FVec Ideal S1024 .f32) : FVec Ideal S2x4096x1024 .f32 :=
  addf (addf (addf (addf (addf (allS 0x00000000#32)
    (mulf (extractStridedSlice S2x4096x1024 ![0, 0, 0] p slices_S2x4099x1024_S2x4096x1024_0_0_0) (tapS ![0, 0] slices_S4x1024_S1x1024_0_0 cw)))
    (mulf (extractStridedSlice S2x4096x1024 ![0, 1, 0] p slices_S2x4099x1024_S2x4096x1024_0_1_0) (tapS ![1, 0] slices_S4x1024_S1x1024_1_0 cw)))
    (mulf (extractStridedSlice S2x4096x1024 ![0, 2, 0] p slices_S2x4099x1024_S2x4096x1024_0_2_0) (tapS ![2, 0] slices_S4x1024_S1x1024_2_0 cw)))
    (mulf (extractStridedSlice S2x4096x1024 ![0, 3, 0] p slices_S2x4099x1024_S2x4096x1024_0_3_0) (tapS ![3, 0] slices_S4x1024_S1x1024_3_0 cw)))
    (spread cb)

/-- A gate's block-diagonal projection. -/
def projS (u : FVec Ideal S2x4096x1024 .f32) (w : FVec Ideal S1x8x128x128 .f32) : FVec Ideal S2x4096x1024 .f32 :=
  shapeCast _ (transpose S2x4096x8x128 [2, 3, 0, 1] (Host.dotGeneral dot_S8x128x128_S2x4096x8x128_S8x128x2x4096_1_3_2_01_0_2 none
    (shapeCast _ w shapeCasts_S1x8x128x128_S8x128x128) (shapeCast _ u shapeCasts_S2x4096x1024_S2x4096x8x128))
    transposes_S8x128x2x4096_S2x4096x8x128_2_3_0_1) shapeCasts_S2x4096x8x128_S2x4096x1024

/-- A gate. -/
def gateS (u : FVec Ideal S2x4096x1024 .f32) (w : FVec Ideal S1x8x128x128 .f32) (b : FVec Ideal S1x1024 .f32) : FVec Ideal S2x4096x1024 .f32 :=
  Host.divf (allS 0x3F800000#32) (addf (allS 0x3F800000#32) (Host.exp (Host.negf (addf (projS u w) (spread (shapeCast _ b shapeCasts_S1x1024_S1024))))))

/-- The logarithm of one plus the exponential. -/
def softS (y : FVec Ideal S1024 .f32) : FVec Ideal S1024 .f32 :=
  select (cmpf .une (subf y (broadcastInDim S1024 ![] bcast_S_S1024 (constant S_ .f32 0x00000000#32))) (subf y (broadcastInDim S1024 ![] bcast_S_S1024 (constant S_ .f32 0x00000000#32))))
    (addf y (broadcastInDim S1024 ![] bcast_S_S1024 (constant S_ .f32 0x00000000#32)))
    (addf (maximumf y (broadcastInDim S1024 ![] bcast_S_S1024 (constant S_ .f32 0x00000000#32)))
      (Host.log1p (Host.exp (Host.negf (Host.absf (subf y (broadcastInDim S1024 ![] bcast_S_S1024 (constant S_ .f32 0x00000000#32))))))))

/-- The decays, token first. -/
def decT (l : FVec Ideal S2x4096x1024 .f32) : FVec Ideal S4096x2x1024 .f32 :=
  transpose S4096x2x1024 [1, 0, 2] (Host.exp l) transposes_S2x4096x1024_S4096x2x1024_1_0_2

/-- What drives the states, token first. -/
def drvT (l gx u : FVec Ideal S2x4096x1024 .f32) : FVec Ideal S4096x2x1024 .f32 :=
  transpose S4096x2x1024 [1, 0, 2] (mulf (Host.sqrt (Host.negf (Host.expm1 (mulf (allS 0x40000000#32) l)))) (mulf gx u)) transposes_S2x4096x1024_S4096x2x1024_1_0_2

/-- The gated states. -/
def gatedS (h : FVec Ideal S4096x2x1024 .f32) (y : FVec Ideal S2x4096x1024 .f32) : FVec Ideal S2x4096x1024 .f32 :=
  mulf (transpose S2x4096x1024 [1, 0, 2] h transposes_S4096x2x1024_S2x4096x1024_1_0_2)
    (mulf y (mulf (allS 0x3F000000#32) (addf (allS 0x3F800000#32) (Host.tanh (mulf (allS 0x3F4C422A#32)
      (addf y (mulf (allS 0x3D372713#32) (mulf (mulf y y) y))))))))

/-- The norm. -/
def normS (r : FVec Ideal S2x4096x1024 .f32) (g : FVec Ideal S1x1024 .f32) : FVec Ideal S8192x1024 .bf16 :=
  truncf .bf16 (shapeCast S8192x1024 (mulf (mulf r (broadcastInDim S2x4096x1024 ![0, 1, 2] bcast_S2x4096x1_S2x4096x1024_0_1_2
    (Host.rsqrt (addf (Host.divf (broadcastInDim S2x4096x1 ![0, 1] bcast_S2x4096_S2x4096x1_0_1
      (Host.reduceAdd (mulf r r) (constant S_ .f32 0x00000000#32) reducesTo_S2x4096x1024_S2x4096_d2 h_S_))
      (broadcastInDim S2x4096x1 ![] bcast_S_S2x4096x1 (constant S_ .f32 0x44800000#32)))
      (broadcastInDim S2x4096x1 ![] bcast_S_S2x4096x1 (constant S_ .f32 0x358637BD#32))))))
    (spread (shapeCast _ g shapeCasts_S1x1024_S1024))) shapeCasts_S2x4096x1024_S8192x1024) bitsLt_bf16_f32

/-! ## The stages, entry by entry -/

theorem allS_at (w : BitVec 32) (i : S2x4096x1024.Idx) : allS w i = Ideal.ofBits .f32 w := rfl

theorem xS_at (x : FVec Ideal S8192x2048 .f32) (b : Fin 2) (r : Fin 4096) (j : Fin 1024) :
    xS x (ix3 b r j) = at2 (x : S8192x2048.Idx → EReal) (4096 * b.val + r.val) j.val := by
  rw [← at2_eq (x : S8192x2048.Idx → EReal) ⟨4096 * b.val + r.val, by omega⟩ ⟨j.val, by omega⟩]
  pointwise [xS]
  simp only [Nat.mul_comm b.val 4096]

theorem yS_at (x : FVec Ideal S8192x2048 .f32) (b : Fin 2) (r : Fin 4096) (j : Fin 1024) :
    yS x (ix3 b r j) = at2 (x : S8192x2048.Idx → EReal) (4096 * b.val + r.val) (1024 + j.val) := by
  rw [← at2_eq (x : S8192x2048.Idx → EReal) ⟨4096 * b.val + r.val, by omega⟩ ⟨1024 + j.val, by omega⟩]
  pointwise [yS]
  simp only [Nat.mul_comm b.val 4096]

theorem padS_at (x : FVec Ideal S2x4096x1024 .f32) (b : Fin 2) (r : Fin 4099) (j : Fin 1024) :
    padS x (ix3 b r j) = if h : r.val < 3 then 0 else x (ix3 b ⟨r.val - 3, by omega⟩ j) := by
  have hz : FloatOps.sitofp (F := Ideal) FTy.f32 (0#32 : BitVec 32) = (0 : EReal) := by
    show (((0#32 : BitVec 32).toInt : ℝ) : EReal) = 0
    norm_num
  pointwise [padS]
  by_cases h : r.val < 3
  · rw [dif_neg (by omega), dif_pos h]; exact hz
  · rw [dif_pos ⟨by omega, by omega⟩, dif_neg h]

theorem tapS_at (k : ℕ) (hk : k < 4) (h : S4x1024.Slices ![k, 0] S1x1024) (cw : FVec Ideal S4x1024 .f32) (b : Fin 2) (r : Fin 4096) (j : Fin 1024) :
    tapS ![k, 0] h cw (ix3 b r j) = cw (ix2 ⟨k, hk⟩ j) := by
  pointwise [tapS, spread]

theorem convS_at (p : FVec Ideal S2x4099x1024 .f32) (cw : FVec Ideal S4x1024 .f32) (cb : FVec Ideal S1024 .f32) (b : Fin 2) (r : Fin 4096) (j : Fin 1024) :
    convS p cw cb (ix3 b r j) = p (ix3 b ⟨r.val, by omega⟩ j) * cw (ix2 0 j) + p (ix3 b ⟨1 + r.val, by omega⟩ j) * cw (ix2 1 j)
      + p (ix3 b ⟨2 + r.val, by omega⟩ j) * cw (ix2 2 j) + p (ix3 b ⟨3 + r.val, by omega⟩ j) * cw (ix2 3 j) + cb (ix1 j) := by
  pointwise [convS, spread]
  rw [tapS_at 0 (by omega), tapS_at 1 (by omega), tapS_at 2 (by omega), tapS_at 3 (by omega)]
  rw [allS_at, show Ideal.ofBits .f32 0x00000000#32 = 0 by simp [Ideal.ofBits, Ideal.ieee], zero_add]
  rfl

theorem projS_at (u : FVec Ideal S2x4096x1024 .f32) (w : FVec Ideal S1x8x128x128 .f32) (b : Fin 2) (r : Fin 4096) (j : Fin 1024) :
    projS u w (ix3 b r j) = ∑ k : Fin 128, w (ix4 0 ⟨j.val / 128, by omega⟩ k ⟨j.val % 128, by omega⟩) * u (ix3 b r ⟨128 * (j.val / 128) + k.val, by omega⟩) := by
  pointwise [projS]
  simp only [Nat.mul_comm (j.val / 128) 128]

theorem gateS_at (u : FVec Ideal S2x4096x1024 .f32) (w : FVec Ideal S1x8x128x128 .f32) (bs : FVec Ideal S1x1024 .f32) (b : Fin 2) (r : Fin 4096) (j : Fin 1024) :
    gateS u w bs (ix3 b r j) = Ideal.logistic (projS u w (ix3 b r j) + bs (ix2 0 j)) := by
  pointwise [gateS, allS, spread]
  rfl

theorem softS_at (y : FVec Ideal S1024 .f32) (j : Fin 1024) : softS y (ix1 j) = softplus (y (ix1 j)) := by
  pointwise [softS]
  rw [if_neg (fun h => h rfl)]
  rfl

theorem decT_at (l : FVec Ideal S2x4096x1024 .f32) (r : Fin 4096) (b : Fin 2) (j : Fin 1024) : decT l (ix3 r b j) = Ideal.exp (l (ix3 b r j)) := by
  pointwise [decT]

theorem drvT_at (l gx u : FVec Ideal S2x4096x1024 .f32) (r : Fin 4096) (b : Fin 2) (j : Fin 1024) :
    drvT l gx u (ix3 r b j) = rootOf (l (ix3 b r j)) * (gx (ix3 b r j) * u (ix3 b r j)) := by
  pointwise [drvT, allS]
  rfl

theorem gatedS_at (h : FVec Ideal S4096x2x1024 .f32) (y : FVec Ideal S2x4096x1024 .f32) (b : Fin 2) (r : Fin 4096) (j : Fin 1024) :
    gatedS h y (ix3 b r j) = h (ix3 r b j) * gelu (y (ix3 b r j)) := by
  pointwise [gatedS, allS]
  unfold gelu
  rw [mul_assoc (y _) (y _) (y _)]

theorem normS_at (r : FVec Ideal S2x4096x1024 .f32) (g : FVec Ideal S1x1024 .f32) (b : Fin 2) (s : Fin 4096) (j : Fin 1024) (i : Fin 8192) (hi : i.val = 4096 * b.val + s.val) :
    normS r g (ix2 i j) = r (ix3 b s j) * Ideal.rsqrt (Ideal.div (∑ q : Fin 1024, r (ix3 b s q) * r (ix3 b s q)) (Ideal.ofBits .f32 0x44800000#32) + Ideal.ofBits .f32 0x358637BD#32) * g (ix2 0 j) := by
  have e0 : ∀ h, (⟨i.val / 4096, h⟩ : Fin 2) = b := fun h => Fin.ext (by show i.val / 4096 = b.val; omega)
  have e1 : ∀ h, (⟨i.val % 4096, h⟩ : Fin 4096) = s := fun h => Fin.ext (by show i.val % 4096 = s.val; omega)
  pointwise [normS, spread]
  simp only [e0, e1]

end Cert.Lru.Ref

end
-- ==== Proof.Lru.RefRead.lean ====
/- The recurrence's reference, its operations read back: what each stretch of them leaves in the buffers later ones read,
   as the stages of the layer. -/
module

public import proofs.«01_k».proof.Proof.Lru.RefRun
public import proofs.«01_k».proof.Proof.Lru.RefStage

@[expose] public section

set_option maxRecDepth 16384

noncomputable section

namespace Cert.Lru.Ref

open Idealize.ShloMosaic Idealize.ShloMosaic.TcCoe Idealize.ShloMosaic.Tactic Idealize.ShloMosaic.StableHlo
open Idealize.SL.Sem
open Cert.ReferenceIdeal Cert.ReferenceIdeal.Gen Cert.ReferenceIdeal.Value Cert.At

variable (V : Valuation τ sig (Elt Ideal))

/-! ## Before the loop -/

theorem read_v1 : after hostOps0 V (Proc.devRef .tc main_v1) = xS (V (Proc.devRef .tc main_arg0)) := by
  after_reads_simp
  rfl
theorem read_v2 : after hostOps0 V (Proc.devRef .tc main_v2) = yS (V (Proc.devRef .tc main_arg0)) := by
  after_reads_simp
  rfl
theorem read_v3 : after hostOps0 V (Proc.devRef .tc main_v3) = (shapeCast S4x1024 (V (Proc.devRef .tc main_arg1) : FVec Ideal S1x4x1024 .f32) shapeCasts_S1x4x1024_S4x1024 : FVec Ideal S4x1024 .f32) := by
  after_reads_simp
  rfl
theorem read_v4 : after hostOps0 V (Proc.devRef .tc main_v4) = (shapeCast S1024 (V (Proc.devRef .tc main_arg2) : FVec Ideal S1x1024 .f32) shapeCasts_S1x1024_S1024 : FVec Ideal S1024 .f32) := by
  after_reads_simp
  rfl
theorem read_c : after hostOps0 V (Proc.devRef .tc main_c) = constantI S_ 32 0#32 := by
  after_reads_simp
theorem read_v5 (hc : V (Proc.devRef .tc main_c) = constantI S_ 32 0#32) : after hostOps0_1 V (Proc.devRef .tc main_v5) = padS (V (Proc.devRef .tc main_v1)) := by
  after_reads_simp
  rw [hc]
  rfl
theorem read_v37 : after hostOps0_2 V (Proc.devRef .tc main_v37)
    = convS (V (Proc.devRef .tc main_v5)) (V (Proc.devRef .tc main_v3)) (V (Proc.devRef .tc main_v4)) := by
  after_reads_simp
  rfl
theorem read_v69 : after hostOps0_2 V (Proc.devRef .tc main_v69)
    = mulf (allS 0xC1000000#32) (gateS (convS (V (Proc.devRef .tc main_v5)) (V (Proc.devRef .tc main_v3)) (V (Proc.devRef .tc main_v4)))
      (V (Proc.devRef .tc main_arg3)) (V (Proc.devRef .tc main_arg4))) := by
  after_reads_simp
  rfl
theorem read_v67 : after hostOps0_2 V (Proc.devRef .tc main_v67)
    = gateS (convS (V (Proc.devRef .tc main_v5)) (V (Proc.devRef .tc main_v3)) (V (Proc.devRef .tc main_v4)))
      (V (Proc.devRef .tc main_arg5)) (V (Proc.devRef .tc main_arg6)) := by
  after_reads_simp
  rfl
theorem read_v70 : after hostOps0_2 V (Proc.devRef .tc main_v70)
    = Host.negf (shapeCast S1024 (V (Proc.devRef .tc main_arg7) : FVec Ideal S1x1024 .f32) shapeCasts_S1x1024_S1024 : FVec Ideal S1024 .f32) := by
  after_reads_simp
  rfl
theorem read_v71 : after hostOps0_3 V (Proc.devRef .tc main_v71) = softS (V (Proc.devRef .tc main_v70)) := by
  after_reads_simp
  rfl
/-- The logarithm of the decay. -/
def logS (g : FVec Ideal S2x4096x1024 .f32) (s : FVec Ideal S1024 .f32) : FVec Ideal S2x4096x1024 .f32 := mulf g (spread s)
theorem read_v87_0 : after hostOps0_4 V (Proc.devRef .tc main_v87_0) = decT (logS (V (Proc.devRef .tc main_v69)) (V (Proc.devRef .tc main_v71))) := by
  after_reads_simp
  rfl
theorem read_v87_1 : after hostOps0_4 V (Proc.devRef .tc main_v87_1) = drvT (logS (V (Proc.devRef .tc main_v69)) (V (Proc.devRef .tc main_v71)))
    (V (Proc.devRef .tc main_v67)) (V (Proc.devRef .tc main_v37)) := by
  after_reads_simp
  rfl
theorem read_v87_3 : after hostOps0_4 V (Proc.devRef .tc main_v87_3) = (broadcastInDim S2x1024 ![] bcast_S_S2x1024 (constant S_ .f32 0x00000000#32 : FVec Ideal S_ .f32) : FVec Ideal S2x1024 .f32) := by
  after_reads_simp
  rfl
theorem read_v118 : after hostOps0_5 V (Proc.devRef .tc main_v118)
    = normS (gatedS (V (Proc.devRef .tc main_v87_4)) (V (Proc.devRef .tc main_v2))) (V (Proc.devRef .tc main_arg8)) := by
  after_reads_simp
  rfl

/-! ## The buffers kept -/

/-- The buffers the operations before the loop leave as they are. -/
theorem keep_v2_1 : after hostOps0_1 V (Proc.devRef .tc main_v2) = V (Proc.devRef .tc main_v2) :=
  after_of_writes_sub hostOps0_1 V hostOps0_1_writes (by decide +kernel)
theorem keep_v3_1 : after hostOps0_1 V (Proc.devRef .tc main_v3) = V (Proc.devRef .tc main_v3) :=
  after_of_writes_sub hostOps0_1 V hostOps0_1_writes (by decide +kernel)
theorem keep_v4_1 : after hostOps0_1 V (Proc.devRef .tc main_v4) = V (Proc.devRef .tc main_v4) :=
  after_of_writes_sub hostOps0_1 V hostOps0_1_writes (by decide +kernel)
theorem keep_v2_2 : after hostOps0_2 V (Proc.devRef .tc main_v2) = V (Proc.devRef .tc main_v2) :=
  after_of_writes_sub hostOps0_2 V hostOps0_2_writes (by decide +kernel)
theorem keep_v2_3 : after hostOps0_3 V (Proc.devRef .tc main_v2) = V (Proc.devRef .tc main_v2) :=
  after_of_writes_sub hostOps0_3 V hostOps0_3_writes (by decide +kernel)
theorem keep_v37_3 : after hostOps0_3 V (Proc.devRef .tc main_v37) = V (Proc.devRef .tc main_v37) :=
  after_of_writes_sub hostOps0_3 V hostOps0_3_writes (by decide +kernel)
theorem keep_v67_3 : after hostOps0_3 V (Proc.devRef .tc main_v67) = V (Proc.devRef .tc main_v67) :=
  after_of_writes_sub hostOps0_3 V hostOps0_3_writes (by decide +kernel)
theorem keep_v69_3 : after hostOps0_3 V (Proc.devRef .tc main_v69) = V (Proc.devRef .tc main_v69) :=
  after_of_writes_sub hostOps0_3 V hostOps0_3_writes (by decide +kernel)
theorem keep_v2_4 : after hostOps0_4 V (Proc.devRef .tc main_v2) = V (Proc.devRef .tc main_v2) :=
  after_of_writes_sub hostOps0_4 V hostOps0_4_writes (by decide +kernel)
theorem keep_v2_C : after condOps V (Proc.devRef .tc main_v2) = V (Proc.devRef .tc main_v2) :=
  after_of_writes_sub condOps V condOps_writes (by decide +kernel)
theorem keep_v2_W : afterL bodyI V (Proc.devRef .tc main_v2) = V (Proc.devRef .tc main_v2) := by
  simp only [afterL_cons, afterL_nil]
  rw [after_of_writes_sub while0Ops0_4 _ while0Ops0_4_writes (by decide +kernel), after_of_writes_sub while0Ops0_3 _ while0Ops0_3_writes (by decide +kernel),
    after_of_writes_sub while0Ops0_2 _ while0Ops0_2_writes (by decide +kernel), after_of_writes_sub while0Ops0_1 _ while0Ops0_1_writes (by decide +kernel),
    after_of_writes_sub while0Ops0 _ while0Ops0_writes (by decide +kernel)]

/-! ## At the loop's entry -/

variable (m : (ℓ : Loc nD τ sig) → Buf (Elt Ideal) ℓ) (c : Dev nD)

abbrev a0 : FVec Ideal S8192x2048 .f32 := m ((c.tc : Thread nD τ).loc main_arg0)
abbrev a1 : FVec Ideal S1x4x1024 .f32 := m ((c.tc : Thread nD τ).loc main_arg1)
abbrev a2 : FVec Ideal S1x1024 .f32 := m ((c.tc : Thread nD τ).loc main_arg2)
abbrev a3 : FVec Ideal S1x8x128x128 .f32 := m ((c.tc : Thread nD τ).loc main_arg3)
abbrev a4 : FVec Ideal S1x1024 .f32 := m ((c.tc : Thread nD τ).loc main_arg4)
abbrev a5 : FVec Ideal S1x8x128x128 .f32 := m ((c.tc : Thread nD τ).loc main_arg5)
abbrev a6 : FVec Ideal S1x1024 .f32 := m ((c.tc : Thread nD τ).loc main_arg6)
abbrev a7 : FVec Ideal S1x1024 .f32 := m ((c.tc : Thread nD τ).loc main_arg7)
abbrev a8 : FVec Ideal S1x1024 .f32 := m ((c.tc : Thread nD τ).loc main_arg8)

/-- The convolution, the logarithm of the decay and the input gate at the arguments. -/
def mConv : FVec Ideal S2x4096x1024 .f32 :=
  convS (padS (xS (a0 m c))) (shapeCast S4x1024 (a1 m c) shapeCasts_S1x4x1024_S4x1024) (shapeCast S1024 (a2 m c) shapeCasts_S1x1024_S1024)
def mLog : FVec Ideal S2x4096x1024 .f32 :=
  logS (mulf (allS 0xC1000000#32) (gateS (mConv m c) (a3 m c) (a4 m c))) (softS (Host.negf (shapeCast S1024 (a7 m c) shapeCasts_S1x1024_S1024)))
def mGx : FVec Ideal S2x4096x1024 .f32 := gateS (mConv m c) (a5 m c) (a6 m c)

theorem entry_v2 : entryContents preI m c (Proc.devRef .tc main_v2) = yS (a0 m c) := by
  simp only [entryContents, afterL_cons, afterL_nil]
  rw [keep_v2_4, keep_v2_3, keep_v2_2, keep_v2_1, read_v2]

theorem entry_v87_0 : entryContents preI m c (Proc.devRef .tc main_v87_0) = decT (mLog m c) := by
  simp only [entryContents, afterL_cons, afterL_nil]
  rw [read_v87_0, keep_v69_3, read_v71, read_v69, read_v70, read_v5 _ (read_c _), keep_v3_1, keep_v4_1, read_v1, read_v3, read_v4]
  rw [keep1 _ main_arg3 (by decide), keep1 _ main_arg4 (by decide), keep1 _ main_arg7 (by decide)]
  rw [keep0 _ main_arg3 (by decide), keep0 _ main_arg4 (by decide), keep0 _ main_arg7 (by decide)]
  rfl

theorem entry_v87_1 : entryContents preI m c (Proc.devRef .tc main_v87_1) = drvT (mLog m c) (mGx m c) (mConv m c) := by
  simp only [entryContents, afterL_cons, afterL_nil]
  rw [read_v87_1, keep_v69_3, keep_v67_3, keep_v37_3, read_v71, read_v69, read_v67, read_v37, read_v70, read_v5 _ (read_c _), keep_v3_1, keep_v4_1, read_v1, read_v3, read_v4]
  rw [keep1 _ main_arg3 (by decide), keep1 _ main_arg4 (by decide), keep1 _ main_arg5 (by decide), keep1 _ main_arg6 (by decide), keep1 _ main_arg7 (by decide)]
  rw [keep0 _ main_arg3 (by decide), keep0 _ main_arg4 (by decide), keep0 _ main_arg5 (by decide), keep0 _ main_arg6 (by decide), keep0 _ main_arg7 (by decide)]
  rfl

theorem entry_v87_3 (i : S2x1024.Idx) : (entryContents preI m c (Proc.devRef .tc main_v87_3) : S2x1024.Idx → EReal) i = (0 : EReal) := by
  simp only [entryContents, afterL_cons, afterL_nil]
  rw [read_v87_3]
  show Ideal.ofBits .f32 0x00000000#32 = 0
  simp [Ideal.ofBits, Ideal.ieee]

theorem atK_v2 : ∀ k, atK m k c (Proc.devRef .tc main_v2) = yS (a0 m c)
  | 0 => entry_v2 m c
  | k + 1 => by
    rw [show atK m (k + 1) c = afterL bodyI (after condOps (atK m k c)) from rfl, keep_v2_W, keep_v2_C, atK_v2 k]

/-- What the reference leaves in its result buffer, of the loop's last states. -/
theorem last_v118 : after hostOps0_5 (after condOps (atK m 4096 c)) (Proc.devRef .tc main_v118)
    = normS (gatedS (atK m 4096 c (Proc.devRef .tc main_v87_4)) (yS (a0 m c))) (a8 m c) := by
  rw [read_v118, keep_v2_C, atK_v2, cond_keeps (atK m 4096 c) main_v87_4 (by decide), keepC _ main_arg8 (by decide), atK_arg m c main_arg8 (by decide) 4096]

end Cert.Lru.Ref

end
-- ==== Proof.Lru.RefLoop.lean ====
/- The recurrence's reference over the extended reals: one trip of its loop is one token of the recurrence, and its result
   is the specification's function of the arguments. -/
module

public import proofs.«01_k».proof.Proof.Lru.RefRead

@[expose] public section

set_option maxRecDepth 16384

noncomputable section

namespace Cert.Lru.Ref

open Idealize.ShloMosaic Idealize.ShloMosaic.TcCoe Idealize.ShloMosaic.Tactic Idealize.ShloMosaic.StableHlo
open Idealize.SL.Sem
open Cert.ReferenceIdeal Cert.ReferenceIdeal.Gen Cert.ReferenceIdeal.Value Cert.At

/-! ## A token's slice -/

theorem slice_at (A : FVec Ideal S4096x2x1024 .f32) (start : Fin 3 → Int) (k : Fin 4096) (h0 : start 0 = (k.val : Int)) (h1 : start 1 = 0) (h2 : start 2 = 0)
    (b : Fin 2) (j : Fin 1024) :
    (shapeCast S2x1024 (Host.dynamicSlice S1x2x1024 A start sliceFits_S4096x2x1024_S1x2x1024) shapeCasts_S1x2x1024_S2x1024 : FVec Ideal S2x1024 .f32) (ix2 b j) = A (ix3 k b j) := by
  have e0 : ∀ ht, Host.clampedStart S4096x2x1024 S1x2x1024 ht start 0 = k.val := fun ht => Host.clampedStart_of_le ht start 0 k.val h0 (by show k.val + 1 ≤ 4096; omega)
  have e1 : ∀ ht, Host.clampedStart S4096x2x1024 S1x2x1024 ht start 1 = 0 := fun ht => Host.clampedStart_of_le ht start 1 0 h1 (by show 0 + 2 ≤ 2; omega)
  have e2 : ∀ ht, Host.clampedStart S4096x2x1024 S1x2x1024 ht start 2 = 0 := fun ht => Host.clampedStart_of_le ht start 2 0 h2 (by show 0 + 1024 ≤ 1024; omega)
  pointwise []
  simp only [e0, e1, e2, Nat.zero_add]

theorem update_at (A : FVec Ideal S4096x2x1024 .f32) (u : FVec Ideal S2x1024 .f32) (start : Fin 3 → Int) (k : Fin 4096) (h0 : start 0 = (k.val : Int)) (h1 : start 1 = 0) (h2 : start 2 = 0)
    (r : Fin 4096) (b : Fin 2) (j : Fin 1024) :
    (Host.dynamicUpdateSlice A (broadcastInDim S1x2x1024 ![1, 2] bcast_S2x1024_S1x2x1024_1_2 u) start updateFits_S4096x2x1024_S1x2x1024 : FVec Ideal S4096x2x1024 .f32) (ix3 r b j)
      = if r.val = k.val then u (ix2 b j) else A (ix3 r b j) := by
  have e0 : ∀ ht, Host.clampedStart S4096x2x1024 S1x2x1024 ht start 0 = k.val := fun ht => Host.clampedStart_of_le ht start 0 k.val h0 (by show k.val + 1 ≤ 4096; omega)
  have e1 : ∀ ht, Host.clampedStart S4096x2x1024 S1x2x1024 ht start 1 = 0 := fun ht => Host.clampedStart_of_le ht start 1 0 h1 (by show 0 + 2 ≤ 2; omega)
  have e2 : ∀ ht, Host.clampedStart S4096x2x1024 S1x2x1024 ht start 2 = 0 := fun ht => Host.clampedStart_of_le ht start 2 0 h2 (by show 0 + 1024 ≤ 1024; omega)
  pointwise []
  simp only [e0, e1, e2, Nat.sub_zero]
  by_cases h : r.val = k.val
  · rw [dif_pos ⟨⟨by omega, by omega⟩, ⟨by omega, by omega⟩, by omega, by omega⟩, if_pos h]
  · rw [dif_neg (fun hh => h (by omega)), if_neg h]

theorem iv_int (k : ℕ) (hk : k < 4096) : (Scf.iv 0#32 1#32 k : BitVec 32).toInt = (k : Int) := by
  rw [Scf.iv_eq_ofInt, BitVec.toInt_ofInt]
  show Int.bmod (0 + (k : Int) * 1) (2 ^ 32) = k
  rw [zero_add, mul_one]
  exact Int.bmod_eq_of_le (by omega) (by omega)

variable (m : (ℓ : Loc nD τ sig) → Buf (Elt Ideal) ℓ) (c : Dev nD)

/-! ## The arguments by position -/

def X (i j : ℕ) : EReal := at2 (m ((c.tc : Thread nD τ).loc main_arg0) : S8192x2048.Idx → EReal) i j
def CW (k j : ℕ) : EReal := at3 (m ((c.tc : Thread nD τ).loc main_arg1) : S1x4x1024.Idx → EReal) 0 k j
def CB (j : ℕ) : EReal := at2 (m ((c.tc : Thread nD τ).loc main_arg2) : S1x1024.Idx → EReal) 0 j
def WA (n k j : ℕ) : EReal := at4 (m ((c.tc : Thread nD τ).loc main_arg3) : S1x8x128x128.Idx → EReal) 0 n k j
def BA (j : ℕ) : EReal := at2 (m ((c.tc : Thread nD τ).loc main_arg4) : S1x1024.Idx → EReal) 0 j
def WX (n k j : ℕ) : EReal := at4 (m ((c.tc : Thread nD τ).loc main_arg5) : S1x8x128x128.Idx → EReal) 0 n k j
def BX (j : ℕ) : EReal := at2 (m ((c.tc : Thread nD τ).loc main_arg6) : S1x1024.Idx → EReal) 0 j
def LAM (j : ℕ) : EReal := at2 (m ((c.tc : Thread nD τ).loc main_arg7) : S1x1024.Idx → EReal) 0 j
def G (j : ℕ) : EReal := at2 (m ((c.tc : Thread nD τ).loc main_arg8) : S1x1024.Idx → EReal) 0 j

abbrev rCv := cv (X m c) (CW m c) (CB m c)
abbrev rLog := logDecay (X m c) (CW m c) (CB m c) (WA m c) (BA m c) (LAM m c)
abbrev rDec := dec (X m c) (CW m c) (CB m c) (WA m c) (BA m c) (LAM m c)
abbrev rDrv := drv (X m c) (CW m c) (CB m c) (WA m c) (BA m c) (WX m c) (BX m c) (LAM m c)
abbrev rSt := st (X m c) (CW m c) (CB m c) (WA m c) (BA m c) (WX m c) (BX m c) (LAM m c)
abbrev rOut := out (X m c) (CW m c) (CB m c) (WA m c) (BA m c) (WX m c) (BX m c) (LAM m c) (G m c)

/-! ## Before the loop -/

theorem pad_back (b : Fin 2) (s : Fin 4096) (j : Fin 1024) (d : ℕ) (hd : d ≤ 3) (r : Fin 4099) (hr : r.val = 3 - d + s.val) :
    padS (xS (a0 m c)) (ix3 b r j) = back (X m c) d (4096 * b.val + s.val) j.val := by
  rw [padS_at]
  unfold back
  by_cases h : s.val < d
  · rw [dif_pos (by omega), if_pos (by omega)]
  · rw [dif_neg (by omega), if_neg (by omega), xS_at]
    show at2 (a0 m c : S8192x2048.Idx → EReal) (4096 * b.val + (r.val - 3)) j.val = at2 (a0 m c : S8192x2048.Idx → EReal) (4096 * b.val + s.val - d) j.val
    congr 1; omega

theorem back_zero (r j : ℕ) : back (X m c) 0 r j = X m c r j := by
  unfold back; rw [if_neg (by omega), Nat.sub_zero]

theorem mConv_at (b : Fin 2) (s : Fin 4096) (j : Fin 1024) : mConv m c (ix3 b s j) = rCv m c (4096 * b.val + s.val) j.val := by
  unfold mConv
  rw [convS_at, pad_back m c b s j 3 (by omega) _ (by show s.val = _; omega), pad_back m c b s j 2 (by omega) _ (by show 1 + s.val = _; omega),
    pad_back m c b s j 1 (by omega) _ (by show 2 + s.val = _; omega), pad_back m c b s j 0 (by omega) _ (by show 3 + s.val = _; omega), back_zero]
  have hw : ∀ k : Fin 4, (shapeCast S4x1024 (a1 m c) shapeCasts_S1x4x1024_S4x1024 : FVec Ideal S4x1024 .f32) (ix2 k j) = CW m c k.val j.val := fun k => by
    pointwise []
    exact at3_eq (m ((c.tc : Thread nD τ).loc main_arg1) : S1x4x1024.Idx → EReal) 0 k j
  have hb : (shapeCast S1024 (a2 m c) shapeCasts_S1x1024_S1024 : FVec Ideal S1024 .f32) (ix1 j) = CB m c j.val := by
    pointwise []
    exact at2_eq (m ((c.tc : Thread nD τ).loc main_arg2) : S1x1024.Idx → EReal) 0 j
  rw [hw 0, hw 1, hw 2, hw 3, hb]
  unfold rCv cv
  rw [mul_comm (CW m c 3 _), mul_comm (CW m c 0 _), mul_comm (CW m c 1 _), mul_comm (CW m c 2 _)]
  show back (X m c) 3 _ _ * CW m c 0 _ + back (X m c) 2 _ _ * CW m c 1 _ + back (X m c) 1 _ _ * CW m c 2 _ + X m c _ _ * CW m c 3 _ + CB m c _ = _
  ac_rfl

theorem gateS_gate (w : FVec Ideal S1x8x128x128 .f32) (bs : FVec Ideal S1x1024 .f32) (W : ℕ → ℕ → ℕ → EReal) (B : ℕ → EReal)
    (hW : ∀ n k j, W n k j = at4 (w : S1x8x128x128.Idx → EReal) 0 n k j) (hB : ∀ j, B j = at2 (bs : S1x1024.Idx → EReal) 0 j)
    (b : Fin 2) (s : Fin 4096) (j : Fin 1024) :
    gateS (mConv m c) w bs (ix3 b s j) = gate (X m c) (CW m c) (CB m c) W B (4096 * b.val + s.val) j.val := by
  rw [gateS_at, projS_at]
  unfold gate
  rw [hB, at2_eq (bs : S1x1024.Idx → EReal) 0 j]
  refine congrArg (fun z => Ideal.logistic (z + _)) (Finset.sum_congr rfl fun k _ => ?_)
  rw [mConv_at, hW, at4_eq (w : S1x8x128x128.Idx → EReal)]
  exact mul_comm _ _

theorem mGx_at (b : Fin 2) (s : Fin 4096) (j : Fin 1024) :
    mGx m c (ix3 b s j) = gate (X m c) (CW m c) (CB m c) (WX m c) (BX m c) (4096 * b.val + s.val) j.val :=
  gateS_gate m c _ _ _ _ (fun _ _ _ => rfl) (fun _ => rfl) b s j

theorem mLog_at (b : Fin 2) (s : Fin 4096) (j : Fin 1024) : mLog m c (ix3 b s j) = rLog m c (4096 * b.val + s.val) j.val := by
  have hl : (shapeCast S1024 (a7 m c) shapeCasts_S1x1024_S1024 : FVec Ideal S1024 .f32) (ix1 j) = LAM m c j.val := by
    pointwise []
    exact at2_eq (m ((c.tc : Thread nD τ).loc main_arg7) : S1x1024.Idx → EReal) 0 j
  have hg := gateS_gate m c (a3 m c) (a4 m c) (WA m c) (BA m c) (fun _ _ _ => rfl) (fun _ => rfl) b s j
  unfold mLog
  pointwise [logS, spread]
  rw [allS_at, hg, softS_at]
  unfold rLog logDecay
  rw [← hl]
  rfl

/-! ## The loop -/

theorem dec_at (k : Fin 4096) (b : Fin 2) (j : Fin 1024) : decT (mLog m c) (ix3 k b j) = rDec m c (4096 * b.val + k.val) j.val := by
  rw [decT_at, mLog_at]; rfl

theorem drv_at (k : Fin 4096) (b : Fin 2) (j : Fin 1024) : drvT (mLog m c) (mGx m c) (mConv m c) (ix3 k b j) = rDrv m c (4096 * b.val + k.val) j.val := by
  rw [drvT_at, mLog_at, mGx_at, mConv_at]; rfl

/-- One trip's new state, of any contents. -/
theorem new_at (V0 : Valuation τ sig (Elt Ideal)) (k : Fin 4096) (hk : V0 (Proc.devRef .tc main_v87_2) = fun _ => Scf.iv 0#32 1#32 k.val)
    (A B : FVec Ideal S4096x2x1024 .f32) (S : FVec Ideal S2x1024 .f32) (hA : V0 (Proc.devRef .tc main_v87_0) = A)
    (hB : V0 (Proc.devRef .tc main_v87_1) = B) (hS : V0 (Proc.devRef .tc main_v87_3) = S) (b : Fin 2) (j : Fin 1024) :
    (res_main_while0b_v122 V0 : FVec Ideal S2x1024 .f32) (ix2 b j) = A (ix3 k b j) * S (ix2 b j) + B (ix3 k b j) := by
  unfold res_main_while0b_v122
  rw [hk, hA, hB, hS]
  have h := fun A => slice_at A (fun q => (((![(fun _ => Scf.iv 0#32 1#32 k.val), constantI S_ 32 0#32, constantI S_ 32 0#32] : Fin 3 → (⟨S_, .i32⟩ : BufTy).Contents (Elt Ideal))) q (Shape.Idx.first h_S_)).toInt)
    k (iv_int k.val k.isLt) rfl rfl b j
  exact congrArg₂ (fun p q : EReal => p * S (ix2 b j) + q) (h A) (h B)

/-- Before each trip: the decays and the drives are as at the entry; the carried state is the last token's; the states so far
    are laid down. -/
theorem loop_inv : ∀ k, k ≤ 4096 → atK m k c (Proc.devRef .tc main_v87_0) = decT (mLog m c)
    ∧ atK m k c (Proc.devRef .tc main_v87_1) = drvT (mLog m c) (mGx m c) (mConv m c)
    ∧ (∀ (b : Fin 2) (j : Fin 1024), (atK m k c (Proc.devRef .tc main_v87_3) : FVec Ideal S2x1024 .f32) (ix2 b j)
        = if k = 0 then (0 : EReal) else rSt m c j.val (4096 * b.val + k - 1))
    ∧ (∀ (r : Fin 4096) (b : Fin 2) (j : Fin 1024), r.val < k → (atK m k c (Proc.devRef .tc main_v87_4) : FVec Ideal S4096x2x1024 .f32) (ix3 r b j)
        = rSt m c j.val (4096 * b.val + r.val))
  | 0, _ => ⟨entry_v87_0 m c, entry_v87_1 m c, fun b j => by rw [if_pos rfl]; exact entry_v87_3 m c (ix2 b j), fun r b j h => absurd h (by omega)⟩
  | k + 1, hk => by
    obtain ⟨i0, i1, i3, i4⟩ := loop_inv k (by omega)
    have hc := cond_keeps (atK m k c)
    have c0 := (hc main_v87_0 (by decide)).trans i0
    have c1 := (hc main_v87_1 (by decide)).trans i1
    have c2 := (hc main_v87_2 (by decide)).trans (atK_ctr m c k)
    have c3 := hc main_v87_3 (by decide)
    have c4 := hc main_v87_4 (by decide)
    have e : atK m (k + 1) c = afterL bodyI (after condOps (atK m k c)) := rfl
    have hnew : ∀ (b : Fin 2) (j : Fin 1024), (res_main_while0b_v122 (after condOps (atK m k c)) : FVec Ideal S2x1024 .f32) (ix2 b j) = rSt m c j.val (4096 * b.val + k) := by
      intro b j
      rw [new_at (after condOps (atK m k c)) ⟨k, by omega⟩ c2 _ _ _ c0 c1 c3, dec_at, drv_at, i3]
      show rDec m c (4096 * b.val + k) j.val * _ + rDrv m c (4096 * b.val + k) j.val = _
      by_cases h0 : k = 0
      · rw [if_pos h0, mul_zero, zero_add]
        exact (st_reset _ _ _ _ _ _ _ _ _ _ (by omega)).symm
      · rw [if_neg h0]
        exact (st_step _ _ _ _ _ _ _ _ _ _ (by omega)).symm
    refine ⟨?_, ?_, ?_, ?_⟩
    · rw [e, trip_main_v87_0, c0]
    · rw [e, trip_main_v87_1, c1]
    · intro b j
      rw [e, trip_main_v87_3, if_neg (by omega)]
      exact hnew b j
    · intro r b j hr
      rw [e, trip_main_v87_4, c2, c4]
      refine (update_at _ _ _ ⟨k, by omega⟩ (iv_int k (by omega)) rfl rfl r b j).trans ?_
      by_cases h : r.val = k
      · rw [if_pos h, hnew, h]
      · rw [if_neg h]; exact i4 r b j (by omega)

/-! ## The result -/

theorem result_eq (r : Fin 8192) (q : Fin 1024) :
    (after hostOps0_5 (after condOps (atK m 4096 c)) (Proc.devRef .tc main_v118) : S8192x1024.Idx → EReal) (ix2 r q) = rOut m c r.val q.val := by
  rw [last_v118]
  have hg : ∀ j : Fin 1024, gatedS (atK m 4096 c (Proc.devRef .tc main_v87_4)) (yS (a0 m c)) (ix3 ⟨r.val / 4096, by omega⟩ ⟨r.val % 4096, by omega⟩ j)
      = gated (X m c) (CW m c) (CB m c) (WA m c) (BA m c) (WX m c) (BX m c) (LAM m c) r.val j.val := by
    intro j
    have e : 4096 * (r.val / 4096) + r.val % 4096 = r.val := by omega
    rw [gatedS_at, (loop_inv m c 4096 (le_refl _)).2.2.2 _ _ _ (by show r.val % 4096 < 4096; omega), yS_at]
    show rSt m c j.val (4096 * (r.val / 4096) + r.val % 4096) * gelu (X m c (4096 * (r.val / 4096) + r.val % 4096) (1024 + j.val)) = _
    rw [e]
    rfl
  refine (normS_at _ _ ⟨r.val / 4096, by omega⟩ ⟨r.val % 4096, by omega⟩ q r (by show r.val = 4096 * (r.val / 4096) + r.val % 4096; omega)).trans ?_
  simp only [hg]
  rw [at2_eq (a8 m c : S1x1024.Idx → EReal) 0 q]
  rfl

end Cert.Lru.Ref

end
-- ==== Proof.Lru.Reads.lean ====
/- The recurrence call over the extended reals: the blocks of the operands, read at natural-number positions of the
   arguments. -/
module

public import proofs.«01_k».proof.Proof.Lru.Frame
public import proofs.«01_k».proof.Proof.Lru.Spec

@[expose] public section

set_option maxRecDepth 16384

noncomputable section

namespace Cert.Lru

open Idealize.ShloMosaic Idealize.ShloMosaic.TcCoe Idealize.ShloMosaic.Tactic
open Idealize.SL.Sem
open Cert.KernelIdeal Cert.KernelIdeal.Gen Cert.At

variable (m : (ℓ : Loc nD τ sig) → Buf (Elt Ideal) ℓ)

/-! ## The arguments -/

def X (c : Dev nD) (r j : ℕ) : EReal := at2 (m ((c : Thread nD τ).loc main_arg0) : S8192x2048.Idx → EReal) r j
def CW (c : Dev nD) (k j : ℕ) : EReal := at3 (m ((c : Thread nD τ).loc main_arg1) : S1x4x1024.Idx → EReal) 0 k j
def CB (c : Dev nD) (j : ℕ) : EReal := at2 (m ((c : Thread nD τ).loc main_arg2) : S1x1024.Idx → EReal) 0 j
def WA (c : Dev nD) (n k j : ℕ) : EReal := at4 (m ((c : Thread nD τ).loc main_arg3) : S1x8x128x128.Idx → EReal) 0 n k j
def BA (c : Dev nD) (j : ℕ) : EReal := at2 (m ((c : Thread nD τ).loc main_arg4) : S1x1024.Idx → EReal) 0 j
def WX (c : Dev nD) (n k j : ℕ) : EReal := at4 (m ((c : Thread nD τ).loc main_arg5) : S1x8x128x128.Idx → EReal) 0 n k j
def BX (c : Dev nD) (j : ℕ) : EReal := at2 (m ((c : Thread nD τ).loc main_arg6) : S1x1024.Idx → EReal) 0 j
def LAM (c : Dev nD) (j : ℕ) : EReal := at2 (m ((c : Thread nD τ).loc main_arg7) : S1x1024.Idx → EReal) 0 j
def G (c : Dev nD) (j : ℕ) : EReal := at2 (m ((c : Thread nD τ).loc main_arg8) : S1x1024.Idx → EReal) 0 j

/-- The windows' block positions. -/
theorem idx (t : Fin cfg0.N) :
    (win0_0.index t 0 = t.val ∧ win0_0.index t 1 = 0) ∧ (win0_1.index t 0 = t.val ∧ win0_1.index t 1 = 1)
    ∧ (win0_2.index t 0 = 0 ∧ win0_2.index t 1 = 0) ∧ (win0_3.index t 0 = 0 ∧ win0_3.index t 1 = 0)
    ∧ (win0_4.index t 0 = 0 ∧ win0_4.index t 1 = 0 ∧ win0_4.index t 2 = 0) ∧ (win0_5.index t 0 = 0 ∧ win0_5.index t 1 = 0)
    ∧ (win0_6.index t 0 = 0 ∧ win0_6.index t 1 = 0 ∧ win0_6.index t 2 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = t.val ∧ win0_10.index t 1 = 0) :=
  (by decide +kernel : ∀ t : Fin cfg0.N,
    (win0_0.index t 0 = t.val ∧ win0_0.index t 1 = 0) ∧ (win0_1.index t 0 = t.val ∧ win0_1.index t 1 = 1)
    ∧ (win0_2.index t 0 = 0 ∧ win0_2.index t 1 = 0) ∧ (win0_3.index t 0 = 0 ∧ win0_3.index t 1 = 0)
    ∧ (win0_4.index t 0 = 0 ∧ win0_4.index t 1 = 0 ∧ win0_4.index t 2 = 0) ∧ (win0_5.index t 0 = 0 ∧ win0_5.index t 1 = 0)
    ∧ (win0_6.index t 0 = 0 ∧ win0_6.index t 1 = 0 ∧ win0_6.index t 2 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = t.val ∧ win0_10.index t 1 = 0)) t

theorem tlt (t : Fin cfg0.N) : t.val < 32 := Nat.lt_of_lt_of_eq t.isLt N_0

theorem rd0 (c : Dev nD) (t : Fin cfg0.N) (p : Fin 256) (j : Fin 1024) :
    (iblk m c 0 t : S256x1024.Idx → EReal) (ix2 p j) = X m c (256 * t.val + p.val) j.val := by
  have ht := tlt t
  unfold X
  rw [← at2_eq (m ((c : Thread nD τ).loc main_arg0) : S8192x2048.Idx → EReal) ⟨256 * t.val + p.val, by omega⟩ ⟨j.val, by omega⟩]
  blk_ext! [iblk, V, idx t]

theorem rd1 (c : Dev nD) (t : Fin cfg0.N) (p : Fin 256) (j : Fin 1024) :
    (iblk m c 1 t : S256x1024.Idx → EReal) (ix2 p j) = X m c (256 * t.val + p.val) (1024 + j.val) := by
  have ht := tlt t
  unfold X
  rw [← at2_eq (m ((c : Thread nD τ).loc main_arg0) : S8192x2048.Idx → EReal) ⟨256 * t.val + p.val, by omega⟩ ⟨1024 + j.val, by omega⟩]
  blk_ext! [iblk, V, idx t]

theorem rd2 (c : Dev nD) (t : Fin cfg0.N) (k : Fin 4) (j : Fin 1024) :
    (iblk m c 2 t : S4x1024.Idx → EReal) (ix2 k j) = CW m c k.val j.val := by
  have ht := tlt t
  unfold CW
  rw [show (0 : ℕ) = (0 : Fin 1).val from rfl, ← at3_eq (m ((c : Thread nD τ).loc main_arg1) : S1x4x1024.Idx → EReal) 0 k j]
  blk_ext! [iblk, V, idx t]

theorem rd3 (c : Dev nD) (t : Fin cfg0.N) (z : Fin 1) (j : Fin 1024) :
    (iblk m c 3 t : S1x1024.Idx → EReal) (ix2 z j) = CB m c j.val := by
  have ht := tlt t
  unfold CB
  rw [show (0 : ℕ) = (0 : Fin 1).val from rfl, ← at2_eq (m ((c : Thread nD τ).loc main_arg2) : S1x1024.Idx → EReal) 0 j]
  blk_ext! [iblk, V, idx t]

theorem rd5 (c : Dev nD) (t : Fin cfg0.N) (z : Fin 1) (j : Fin 1024) :
    (iblk m c 5 t : S1x1024.Idx → EReal) (ix2 z j) = BA m c j.val := by
  have ht := tlt t
  unfold BA
  rw [show (0 : ℕ) = (0 : Fin 1).val from rfl, ← at2_eq (m ((c : Thread nD τ).loc main_arg4) : S1x1024.Idx → EReal) 0 j]
  blk_ext! [iblk, V, idx t]

theorem rd7 (c : Dev nD) (t : Fin cfg0.N) (z : Fin 1) (j : Fin 1024) :
    (iblk m c 7 t : S1x1024.Idx → EReal) (ix2 z j) = BX m c j.val := by
  have ht := tlt t
  unfold BX
  rw [show (0 : ℕ) = (0 : Fin 1).val from rfl, ← at2_eq (m ((c : Thread nD τ).loc main_arg6) : S1x1024.Idx → EReal) 0 j]
  blk_ext! [iblk, V, idx t]

theorem rd8 (c : Dev nD) (t : Fin cfg0.N) (z : Fin 1) (j : Fin 1024) :
    (iblk m c 8 t : S1x1024.Idx → EReal) (ix2 z j) = LAM m c j.val := by
  have ht := tlt t
  unfold LAM
  rw [show (0 : ℕ) = (0 : Fin 1).val from rfl, ← at2_eq (m ((c : Thread nD τ).loc main_arg7) : S1x1024.Idx → EReal) 0 j]
  blk_ext! [iblk, V, idx t]

theorem rd9 (c : Dev nD) (t : Fin cfg0.N) (z : Fin 1) (j : Fin 1024) :
    (iblk m c 9 t : S1x1024.Idx → EReal) (ix2 z j) = G m c j.val := by
  have ht := tlt t
  unfold G
  rw [show (0 : ℕ) = (0 : Fin 1).val from rfl, ← at2_eq (m ((c : Thread nD τ).loc main_arg8) : S1x1024.Idx → EReal) 0 j]
  blk_ext! [iblk, V, idx t]

theorem rd4 (c : Dev nD) (t : Fin cfg0.N) (n : Fin 8) (k j : Fin 128) :
    (iblk m c 4 t : S8x128x128.Idx → EReal) (ix3 n k j) = WA m c n.val k.val j.val := by
  have ht := tlt t
  unfold WA
  rw [show (0 : ℕ) = (0 : Fin 1).val from rfl, ← at4_eq (m ((c : Thread nD τ).loc main_arg3) : S1x8x128x128.Idx → EReal) 0 n k j]
  blk_ext! [iblk, V, idx t]

theorem rd6 (c : Dev nD) (t : Fin cfg0.N) (n : Fin 8) (k j : Fin 128) :
    (iblk m c 6 t : S8x128x128.Idx → EReal) (ix3 n k j) = WX m c n.val k.val j.val := by
  have ht := tlt t
  unfold WX
  rw [show (0 : ℕ) = (0 : Fin 1).val from rfl, ← at4_eq (m ((c : Thread nD τ).loc main_arg5) : S1x8x128x128.Idx → EReal) 0 n k j]
  blk_ext! [iblk, V, idx t]

end Cert.Lru

end
-- ==== Proof.Lru.Scan.lean ====
/- The recurrence call's scan over the extended reals: eight rows by doubling, the groups in order. -/
module

public import proofs.«01_k».proof.Proof.Lru.Step
public import proofs.«01_k».proof.Proof.Lru.Spec

@[expose] public section

set_option maxRecDepth 16384

noncomputable section

namespace Cert.Lru

open Idealize.ShloMosaic Idealize.ShloMosaic.TcCoe Idealize.ShloMosaic.Tactic
open Idealize.SL.Sem
open Cert.KernelIdeal Cert.KernelIdeal.Gen Cert.At

theorem pay39_eq (s a b : Vec Ideal S8x1024 .f32) (r : Fin 8) (j : Fin 1024) :
    k0_pay39 s a b (ix2 r j) = dblA 4 (dblA 2 (dblA 1 (fun n => at2 a n j.val))) r.val * s (ix2 r j)
      + dblB 4 (dblA 2 (dblA 1 (fun n => at2 a n j.val))) (dblB 2 (dblA 1 (fun n => at2 a n j.val)) (dblB 1 (fun n => at2 a n j.val) (fun n => at2 b n j.val))) r.val := by
  have e : ∀ x : Vec Ideal S8x1024 .f32, (fun n => at2 x n j.val) = fun n => if h : n < 8 then (x (ix2 ⟨n, h⟩ j) : EReal) else 0 := by
    intro x; funext n
    by_cases h : n < 8
    · rw [dif_pos h, at2_eq x]
    · rw [dif_neg h]; unfold at2; rw [dif_neg fun hh => h hh.1]
  rw [e a, e b]
  pointwise [k0_pay39]
  fin_cases r <;> rfl

/-! ## The groups -/

/-- The recurrence over the rows of a tile, one column. -/
abbrev col (A B : Vec Ideal S256x1024 .f32) (j : Fin 1024) (s : EReal) (n : ℕ) : EReal :=
  runFrom (fun n => at2 A n j.val) (fun n => at2 B n j.val) 0 s n

theorem runFrom_shift (a b : ℕ → EReal) (k : ℕ) (s : EReal) : ∀ m, runFrom (fun n => a (k + n)) (fun n => b (k + n)) 0 s m = runFrom a b k s m
  | 0 => rfl
  | m + 1 => by
    show a (k + (0 + m)) * runFrom _ _ 0 s m + b (k + (0 + m)) = a (k + m) * runFrom a b k s m + b (k + m)
    rw [runFrom_shift a b k s m, Nat.zero_add]

theorem runFrom_congr (a b a' b' : ℕ → EReal) (n : ℕ) (s : EReal) : ∀ m, (∀ i, i < m → a (n + i) = a' (n + i) ∧ b (n + i) = b' (n + i)) →
    runFrom a b n s m = runFrom a' b' n s m
  | 0, _ => rfl
  | m + 1, h => by
    show a (n + m) * runFrom a b n s m + b (n + m) = a' (n + m) * runFrom a' b' n s m + b' (n + m)
    rw [runFrom_congr a b a' b' n s m fun i hi => h i (by omega), (h m (by omega)).1, (h m (by omega)).2]

theorem trips_eq : k0_t1_loop.trips = 32 := by decide

/-- Eight rows of an array from row `8 k`. -/
theorem rows_ld (A : Vec Ideal S256x1024 .f32) (k : Fin k0_t1_loop.trips) (n : ℕ) (h : n < 8) (j : Fin 1024) :
    at2 (View.ld A (rows k) : Vec Ideal S8x1024 .f32) n j.val = at2 A (8 * k.val + n) j.val := by
  have hk : k.val < 32 := Nat.lt_of_lt_of_eq k.isLt trips_eq
  rw [← at2_eq (View.ld A (rows k) : Vec Ideal S8x1024 .f32) ⟨n, h⟩ j, ← at2_eq A ⟨8 * k.val + n, by omega⟩ j]
  show A _ = A _
  congr 1
  funext a
  apply Fin.ext
  have e := k0_off1_eq k
  match a with
  | ⟨0, _⟩ => show k0_off1 k 0 + 1 * n = 8 * k.val + n; rw [e]; show 8 * k.val + 1 * n = _; omega
  | ⟨1, _⟩ => show k0_off1 k 1 + 1 * j.val = j.val; rw [e]; show 0 + 1 * j.val = _; omega

/-- The scan before group `k`: the state is the recurrence's after the rows done, which the array holds too. -/
theorem scan_eq (A B : Vec Ideal S256x1024 .f32) (s0 : Vec Ideal S8x1024 .f32) (hA : ∀ i, 0 ≤ A i ∧ A i ≠ ⊤) (s : ℕ → EReal)
    (hs : ∀ (r : Fin 8) (j : Fin 1024), s0 (ix2 r j) = s j.val) : ∀ k, k ≤ 32 →
    (∀ (r : Fin 8) (j : Fin 1024), (scan A B s0 k).1 (ix2 r j) = col A B j (s j.val) (8 * k))
    ∧ ∀ (r : Fin 256) (j : Fin 1024), (scan A B s0 k).2 (ix2 r j) = if r.val < 8 * k then col A B j (s j.val) (r.val + 1) else B (ix2 r j)
  | 0, _ => ⟨fun r j => hs r j, fun r j => by rw [if_neg (by omega)]; rfl⟩
  | k + 1, hk => by
    obtain ⟨h1, h2⟩ := scan_eq A B s0 hA s hs k (by omega)
    have hkt : k < k0_t1_loop.trips := by rw [trips_eq]; omega
    have es := scan_succ A B s0 ⟨k, hkt⟩
    simp only at es
    rw [es]
    have hnew : ∀ (r : Fin 8) (j : Fin 1024), k0_pay39 (scan A B s0 k).1 (View.ld A (rows ⟨k, hkt⟩)) (View.ld (scan A B s0 k).2 (rows ⟨k, hkt⟩)) (ix2 r j)
        = col A B j (s j.val) (8 * k + (r.val + 1)) := by
      intro r j
      have hr := r.isLt
      rw [pay39_eq, h1]
      have hpos : ∀ n, 0 ≤ at2 A n j.val ∧ at2 A n j.val ≠ ⊤ := by
        intro n; unfold at2; split
        · exact hA _
        · exact ⟨le_refl _, EReal.zero_ne_top⟩
      have hpos8 : ∀ n, 0 ≤ at2 (View.ld A (rows ⟨k, hkt⟩) : Vec Ideal S8x1024 .f32) n j.val ∧ at2 (View.ld A (rows ⟨k, hkt⟩) : Vec Ideal S8x1024 .f32) n j.val ≠ ⊤ := by
        intro n; unfold at2; split
        · exact hA _
        · exact ⟨le_refl _, EReal.zero_ne_top⟩
      rw [dbl_eight _ _ hpos8 _ r.val hr]
      unfold col
      rw [runFrom_add (fun n => at2 A n j.val), ← runFrom_shift _ _ (0 + 8 * k)]
      refine runFrom_congr _ _ _ _ 0 _ _ fun i hi => ?_
      rw [Nat.zero_add, Nat.zero_add]
      have hi8 : i < 8 := by omega
      refine ⟨rows_ld A ⟨k, hkt⟩ i hi8 j, ?_⟩
      rw [rows_ld _ ⟨k, hkt⟩ i hi8 j]
      dsimp only
      rw [← at2_eq (scan A B s0 k).2 ⟨8 * k + i, by omega⟩ j, h2, if_neg (by dsimp only; omega), at2_eq B]
    refine ⟨fun r j => ?_, fun r j => ?_⟩
    · pointwise [k0_pay41]
      rw [hnew]
      rfl
    · have hr := r.isLt
      have hj := j.isLt
      show VecWindow.put _ _ _ _ _ = _
      unfold VecWindow.put
      by_cases hin : 8 * k ≤ r.val ∧ r.val < 8 * k + 8
      · rw [dif_pos, if_pos (by omega)]
        · refine Eq.trans ?_ ((hnew ⟨r.val - 8 * k, by omega⟩ j).trans ?_)
          · pointwise [k0_pay40]
            congr 1
            funext a; apply Fin.ext
            match a with
            | ⟨0, _⟩ => show r.val - k0_off1 ⟨k, hkt⟩ 0 = _; rw [k0_off1_eq]; rfl
            | ⟨1, _⟩ => show j.val - k0_off1 ⟨k, hkt⟩ 1 = _; rw [k0_off1_eq]; rfl
          · dsimp only; congr 1; omega
        · intro a
          rw [k0_off1_eq]
          match a with
          | ⟨0, _⟩ => exact hin
          | ⟨1, _⟩ => exact ⟨Nat.zero_le _, by show j.val < 0 + 1024; omega⟩
      · rw [dif_neg, h2]
        · by_cases h8 : r.val < 8 * k
          · rw [if_pos h8, if_pos (by omega)]
          · rw [if_neg h8, if_neg (by omega)]
        · intro h
          have h0 := h 0
          rw [k0_off1_eq] at h0
          exact hin h0

end Cert.Lru

end
-- ==== Proof.Lru.Tile.lean ====
/- The recurrence call over the extended reals: the body's arrays read entry by entry. -/
module

public import proofs.«01_k».proof.Proof.Lru.Scan

@[expose] public section

set_option maxRecDepth 16384

noncomputable section

namespace Cert.Lru

open Idealize.ShloMosaic Idealize.ShloMosaic.TcCoe Idealize.ShloMosaic.Tactic
open Idealize.SL.Sem
open Cert.KernelIdeal Cert.KernelIdeal.Gen Cert.At

variable (P : Vec Ideal S264x1024 .f32) (x : Vec Ideal S256x1024 .f32) (cw : Vec Ideal S4x1024 .f32) (cb : Vec Ideal S1x1024 .f32)
  (wa : Vec Ideal S8x128x128 .bf16) (ba lam : Vec Ideal S1x1024 .f32) (wx : Vec Ideal S8x128x128 .bf16) (bx : Vec Ideal S1x1024 .f32)

theorem conv_at (p : Fin 256) (j : Fin 1024) :
    conv P x cw cb (ix2 p j) = ((cb (ix2 0 j) + cw (ix2 3 j) * x (ix2 p j)) + cw (ix2 0 j) * P (ix2 ⟨5 + p.val, by omega⟩ j))
      + cw (ix2 1 j) * P (ix2 ⟨6 + p.val, by omega⟩ j) + cw (ix2 2 j) * P (ix2 ⟨7 + p.val, by omega⟩ j) := by
  pointwise [conv, conv3, conv1, k0_pay8, k0_pay6, k0_pay7]

/-- Narrowing leaves the convolution as it is. -/
theorem convBf_eq : (convBf P x cw cb : S256x1024.Idx → EReal) = conv P x cw cb := rfl

theorem pay9_eq (v25 v30 : FVec Ideal S256x1024 .f32) (v32 : Vec Ideal S1x1024 .f32) (v34 : Vec Ideal S256x1024 .f32) :
    (k0_pay9 v25 v30 v32 v34 : S256x1024.Idx → EReal) = k0_pay8 v25 v30 v32 v34 := rfl

theorem gateX_at (p : Fin 256) (j : Fin 1024) (n : Fin 8) (q : Fin 128) (hj : j.val = 128 * n.val + q.val) :
    gateX P x cw cb wx bx (ix2 p j) = Ideal.logistic
      ((∑ k : Fin 128, conv P x cw cb (ix2 p ⟨128 * n.val + k.val, by omega⟩) * wx (ix3 n k q)) + bx (ix2 0 j)) := by
  unfold gateX
  pointwise [k0_pay32]
  congr 2
  obtain ⟨n, hn⟩ := n
  interval_cases n
  · have hj' : j.val = 128 * 0 + q.val := hj
    have e : (⟨j.val, by omega⟩ : Fin 128) = q := Fin.ext (show j.val = q.val by omega)
    rw [dif_pos (show j.val < 128 by omega)]
    simp only [e]
    pointwise [k0_pay12, k0_pay10, pay9_eq, convBf_eq, conv]
  · have hj' : j.val = 128 * 1 + q.val := hj
    have e : (⟨j.val - 128, by omega⟩ : Fin 128) = q := Fin.ext (show j.val - 128 = q.val by omega)
    rw [dif_neg (show ¬ j.val < 128 by omega), dif_pos (show j.val - 128 < 128 by omega)]
    simp only [e]
    pointwise [k0_pay15, k0_pay13, pay9_eq, convBf_eq, conv]
  · have hj' : j.val = 128 * 2 + q.val := hj
    have e : (⟨j.val - 128 - 128, by omega⟩ : Fin 128) = q := Fin.ext (show j.val - 128 - 128 = q.val by omega)
    rw [dif_neg (show ¬ j.val < 128 by omega), dif_neg (show ¬ j.val - 128 < 128 by omega), dif_pos (show j.val - 128 - 128 < 128 by omega)]
    simp only [e]
    pointwise [k0_pay18, k0_pay16, pay9_eq, convBf_eq, conv]
  · have hj' : j.val = 128 * 3 + q.val := hj
    have e : (⟨j.val - 128 - 128 - 128, by omega⟩ : Fin 128) = q := Fin.ext (show j.val - 128 - 128 - 128 = q.val by omega)
    rw [dif_neg (show ¬ j.val < 128 by omega), dif_neg (show ¬ j.val - 128 < 128 by omega), dif_neg (show ¬ j.val - 128 - 128 < 128 by omega), dif_pos (show j.val - 128 - 128 - 128 < 128 by omega)]
    simp only [e]
    pointwise [k0_pay21, k0_pay19, pay9_eq, convBf_eq, conv]
  · have hj' : j.val = 128 * 4 + q.val := hj
    have e : (⟨j.val - 128 - 128 - 128 - 128, by omega⟩ : Fin 128) = q := Fin.ext (show j.val - 128 - 128 - 128 - 128 = q.val by omega)
    rw [dif_neg (show ¬ j.val < 128 by omega), dif_neg (show ¬ j.val - 128 < 128 by omega), dif_neg (show ¬ j.val - 128 - 128 < 128 by omega), dif_neg (show ¬ j.val - 128 - 128 - 128 < 128 by omega), dif_pos (show j.val - 128 - 128 - 128 - 128 < 128 by omega)]
    simp only [e]
    pointwise [k0_pay24, k0_pay22, pay9_eq, convBf_eq, conv]
  · have hj' : j.val = 128 * 5 + q.val := hj
    have e : (⟨j.val - 128 - 128 - 128 - 128 - 128, by omega⟩ : Fin 128) = q := Fin.ext (show j.val - 128 - 128 - 128 - 128 - 128 = q.val by omega)
    rw [dif_neg (show ¬ j.val < 128 by omega), dif_neg (show ¬ j.val - 128 < 128 by omega), dif_neg (show ¬ j.val - 128 - 128 < 128 by omega), dif_neg (show ¬ j.val - 128 - 128 - 128 < 128 by omega), dif_neg (show ¬ j.val - 128 - 128 - 128 - 128 < 128 by omega), dif_pos (show j.val - 128 - 128 - 128 - 128 - 128 < 128 by omega)]
    simp only [e]
    pointwise [k0_pay27, k0_pay25, pay9_eq, convBf_eq, conv]
  · have hj' : j.val = 128 * 6 + q.val := hj
    have e : (⟨j.val - 128 - 128 - 128 - 128 - 128 - 128, by omega⟩ : Fin 128) = q := Fin.ext (show j.val - 128 - 128 - 128 - 128 - 128 - 128 = q.val by omega)
    rw [dif_neg (show ¬ j.val < 128 by omega), dif_neg (show ¬ j.val - 128 < 128 by omega), dif_neg (show ¬ j.val - 128 - 128 < 128 by omega), dif_neg (show ¬ j.val - 128 - 128 - 128 < 128 by omega), dif_neg (show ¬ j.val - 128 - 128 - 128 - 128 < 128 by omega), dif_neg (show ¬ j.val - 128 - 128 - 128 - 128 - 128 < 128 by omega), dif_pos (show j.val - 128 - 128 - 128 - 128 - 128 - 128 < 128 by omega)]
    simp only [e]
    pointwise [k0_pay30, k0_pay28, pay9_eq, convBf_eq, conv]
  · have hj' : j.val = 128 * 7 + q.val := hj
    have e : (⟨j.val - 128 - 128 - 128 - 128 - 128 - 128 - 128, by omega⟩ : Fin 128) = q := Fin.ext (show j.val - 128 - 128 - 128 - 128 - 128 - 128 - 128 = q.val by omega)
    rw [dif_neg (show ¬ j.val < 128 by omega), dif_neg (show ¬ j.val - 128 < 128 by omega), dif_neg (show ¬ j.val - 128 - 128 < 128 by omega), dif_neg (show ¬ j.val - 128 - 128 - 128 < 128 by omega), dif_neg (show ¬ j.val - 128 - 128 - 128 - 128 < 128 by omega), dif_neg (show ¬ j.val - 128 - 128 - 128 - 128 - 128 < 128 by omega), dif_neg (show ¬ j.val - 128 - 128 - 128 - 128 - 128 - 128 < 128 by omega)]
    simp only [e]
    pointwise [k0_pay31, pay9_eq, convBf_eq, conv]

theorem soft_eq (y : EReal) : max (0 - y) 0 + Ideal.log1p (Ideal.exp (0 - max (0 - y) (-(0 - y)))) = softplus (-y) := by
  rw [zero_sub, zero_sub]; rfl

theorem decay_at (p : Fin 256) (j : Fin 1024) (n : Fin 8) (q : Fin 128) (hj : j.val = 128 * n.val + q.val) :
    decay P x cw cb wa ba lam (ix2 p j) = Ideal.exp ((Ideal.ofBits .f32 0xC1000000#32 * Ideal.logistic
      ((∑ k : Fin 128, conv P x cw cb (ix2 p ⟨128 * n.val + k.val, by omega⟩) * wa (ix3 n k q)) + ba (ix2 0 j)))
      * softplus (-lam (ix2 0 j))) := by
  unfold decay
  pointwise [k0_pay34, k0_pay33]
  refine congrArg Ideal.exp (congrArg₂ (fun a b : EReal => a * b) (congrArg (fun z : EReal => Ideal.ofBits .f32 0xC1000000#32 * Ideal.logistic (z + ba (ix2 0 j))) ?_) (soft_eq _))
  obtain ⟨n, hn⟩ := n
  interval_cases n
  · have hj' : j.val = 128 * 0 + q.val := hj
    have e : (⟨j.val, by omega⟩ : Fin 128) = q := Fin.ext (show j.val = q.val by omega)
    rw [dif_pos (show j.val < 128 by omega)]
    simp only [e]
    pointwise [k0_pay11, k0_pay10, pay9_eq, convBf_eq, conv]
  · have hj' : j.val = 128 * 1 + q.val := hj
    have e : (⟨j.val - 128, by omega⟩ : Fin 128) = q := Fin.ext (show j.val - 128 = q.val by omega)
    rw [dif_neg (show ¬ j.val < 128 by omega), dif_pos (show j.val - 128 < 128 by omega)]
    simp only [e]
    pointwise [k0_pay14, k0_pay13, pay9_eq, convBf_eq, conv]
  · have hj' : j.val = 128 * 2 + q.val := hj
    have e : (⟨j.val - 128 - 128, by omega⟩ : Fin 128) = q := Fin.ext (show j.val - 128 - 128 = q.val by omega)
    rw [dif_neg (show ¬ j.val < 128 by omega), dif_neg (show ¬ j.val - 128 < 128 by omega), dif_pos (show j.val - 128 - 128 < 128 by omega)]
    simp only [e]
    pointwise [k0_pay17, k0_pay16, pay9_eq, convBf_eq, conv]
  · have hj' : j.val = 128 * 3 + q.val := hj
    have e : (⟨j.val - 128 - 128 - 128, by omega⟩ : Fin 128) = q := Fin.ext (show j.val - 128 - 128 - 128 = q.val by omega)
    rw [dif_neg (show ¬ j.val < 128 by omega), dif_neg (show ¬ j.val - 128 < 128 by omega), dif_neg (show ¬ j.val - 128 - 128 < 128 by omega), dif_pos (show j.val - 128 - 128 - 128 < 128 by omega)]
    simp only [e]
    pointwise [k0_pay20, k0_pay19, pay9_eq, convBf_eq, conv]
  · have hj' : j.val = 128 * 4 + q.val := hj
    have e : (⟨j.val - 128 - 128 - 128 - 128, by omega⟩ : Fin 128) = q := Fin.ext (show j.val - 128 - 128 - 128 - 128 = q.val by omega)
    rw [dif_neg (show ¬ j.val < 128 by omega), dif_neg (show ¬ j.val - 128 < 128 by omega), dif_neg (show ¬ j.val - 128 - 128 < 128 by omega), dif_neg (show ¬ j.val - 128 - 128 - 128 < 128 by omega), dif_pos (show j.val - 128 - 128 - 128 - 128 < 128 by omega)]
    simp only [e]
    pointwise [k0_pay23, k0_pay22, pay9_eq, convBf_eq, conv]
  · have hj' : j.val = 128 * 5 + q.val := hj
    have e : (⟨j.val - 128 - 128 - 128 - 128 - 128, by omega⟩ : Fin 128) = q := Fin.ext (show j.val - 128 - 128 - 128 - 128 - 128 = q.val by omega)
    rw [dif_neg (show ¬ j.val < 128 by omega), dif_neg (show ¬ j.val - 128 < 128 by omega), dif_neg (show ¬ j.val - 128 - 128 < 128 by omega), dif_neg (show ¬ j.val - 128 - 128 - 128 < 128 by omega), dif_neg (show ¬ j.val - 128 - 128 - 128 - 128 < 128 by omega), dif_pos (show j.val - 128 - 128 - 128 - 128 - 128 < 128 by omega)]
    simp only [e]
    pointwise [k0_pay26, k0_pay25, pay9_eq, convBf_eq, conv]
  · have hj' : j.val = 128 * 6 + q.val := hj
    have e : (⟨j.val - 128 - 128 - 128 - 128 - 128 - 128, by omega⟩ : Fin 128) = q := Fin.ext (show j.val - 128 - 128 - 128 - 128 - 128 - 128 = q.val by omega)
    rw [dif_neg (show ¬ j.val < 128 by omega), dif_neg (show ¬ j.val - 128 < 128 by omega), dif_neg (show ¬ j.val - 128 - 128 < 128 by omega), dif_neg (show ¬ j.val - 128 - 128 - 128 < 128 by omega), dif_neg (show ¬ j.val - 128 - 128 - 128 - 128 < 128 by omega), dif_neg (show ¬ j.val - 128 - 128 - 128 - 128 - 128 < 128 by omega), dif_pos (show j.val - 128 - 128 - 128 - 128 - 128 - 128 < 128 by omega)]
    simp only [e]
    pointwise [k0_pay29, k0_pay28, pay9_eq, convBf_eq, conv]
  · have hj' : j.val = 128 * 7 + q.val := hj
    have e : (⟨j.val - 128 - 128 - 128 - 128 - 128 - 128 - 128, by omega⟩ : Fin 128) = q := Fin.ext (show j.val - 128 - 128 - 128 - 128 - 128 - 128 - 128 = q.val by omega)
    rw [dif_neg (show ¬ j.val < 128 by omega), dif_neg (show ¬ j.val - 128 < 128 by omega), dif_neg (show ¬ j.val - 128 - 128 < 128 by omega), dif_neg (show ¬ j.val - 128 - 128 - 128 < 128 by omega), dif_neg (show ¬ j.val - 128 - 128 - 128 - 128 < 128 by omega), dif_neg (show ¬ j.val - 128 - 128 - 128 - 128 - 128 < 128 by omega), dif_neg (show ¬ j.val - 128 - 128 - 128 - 128 - 128 - 128 < 128 by omega)]
    simp only [e]
    pointwise [k0_pay31, pay9_eq, convBf_eq, conv]

theorem decayTanh_at (p : Fin 256) (j : Fin 1024) (n : Fin 8) (q : Fin 128) (hj : j.val = 128 * n.val + q.val) :
    decayTanh P x cw cb wa ba lam (ix2 p j) = Ideal.tanh ((Ideal.ofBits .f32 0xC1000000#32 * Ideal.logistic
      ((∑ k : Fin 128, conv P x cw cb (ix2 p ⟨128 * n.val + k.val, by omega⟩) * wa (ix3 n k q)) + ba (ix2 0 j)))
      * softplus (-lam (ix2 0 j))) := by
  unfold decayTanh
  pointwise [k0_pay36, k0_pay33]
  refine congrArg Ideal.tanh (congrArg₂ (fun a b : EReal => a * b) (congrArg (fun z : EReal => Ideal.ofBits .f32 0xC1000000#32 * Ideal.logistic (z + ba (ix2 0 j))) ?_) (soft_eq _))
  obtain ⟨n, hn⟩ := n
  interval_cases n
  · have hj' : j.val = 128 * 0 + q.val := hj
    have e : (⟨j.val, by omega⟩ : Fin 128) = q := Fin.ext (show j.val = q.val by omega)
    rw [dif_pos (show j.val < 128 by omega)]
    simp only [e]
    pointwise [k0_pay11, k0_pay10, pay9_eq, convBf_eq, conv]
  · have hj' : j.val = 128 * 1 + q.val := hj
    have e : (⟨j.val - 128, by omega⟩ : Fin 128) = q := Fin.ext (show j.val - 128 = q.val by omega)
    rw [dif_neg (show ¬ j.val < 128 by omega), dif_pos (show j.val - 128 < 128 by omega)]
    simp only [e]
    pointwise [k0_pay14, k0_pay13, pay9_eq, convBf_eq, conv]
  · have hj' : j.val = 128 * 2 + q.val := hj
    have e : (⟨j.val - 128 - 128, by omega⟩ : Fin 128) = q := Fin.ext (show j.val - 128 - 128 = q.val by omega)
    rw [dif_neg (show ¬ j.val < 128 by omega), dif_neg (show ¬ j.val - 128 < 128 by omega), dif_pos (show j.val - 128 - 128 < 128 by omega)]
    simp only [e]
    pointwise [k0_pay17, k0_pay16, pay9_eq, convBf_eq, conv]
  · have hj' : j.val = 128 * 3 + q.val := hj
    have e : (⟨j.val - 128 - 128 - 128, by omega⟩ : Fin 128) = q := Fin.ext (show j.val - 128 - 128 - 128 = q.val by omega)
    rw [dif_neg (show ¬ j.val < 128 by omega), dif_neg (show ¬ j.val - 128 < 128 by omega), dif_neg (show ¬ j.val - 128 - 128 < 128 by omega), dif_pos (show j.val - 128 - 128 - 128 < 128 by omega)]
    simp only [e]
    pointwise [k0_pay20, k0_pay19, pay9_eq, convBf_eq, conv]
  · have hj' : j.val = 128 * 4 + q.val := hj
    have e : (⟨j.val - 128 - 128 - 128 - 128, by omega⟩ : Fin 128) = q := Fin.ext (show j.val - 128 - 128 - 128 - 128 = q.val by omega)
    rw [dif_neg (show ¬ j.val < 128 by omega), dif_neg (show ¬ j.val - 128 < 128 by omega), dif_neg (show ¬ j.val - 128 - 128 < 128 by omega), dif_neg (show ¬ j.val - 128 - 128 - 128 < 128 by omega), dif_pos (show j.val - 128 - 128 - 128 - 128 < 128 by omega)]
    simp only [e]
    pointwise [k0_pay23, k0_pay22, pay9_eq, convBf_eq, conv]
  · have hj' : j.val = 128 * 5 + q.val := hj
    have e : (⟨j.val - 128 - 128 - 128 - 128 - 128, by omega⟩ : Fin 128) = q := Fin.ext (show j.val - 128 - 128 - 128 - 128 - 128 = q.val by omega)
    rw [dif_neg (show ¬ j.val < 128 by omega), dif_neg (show ¬ j.val - 128 < 128 by omega), dif_neg (show ¬ j.val - 128 - 128 < 128 by omega), dif_neg (show ¬ j.val - 128 - 128 - 128 < 128 by omega), dif_neg (show ¬ j.val - 128 - 128 - 128 - 128 < 128 by omega), dif_pos (show j.val - 128 - 128 - 128 - 128 - 128 < 128 by omega)]
    simp only [e]
    pointwise [k0_pay26, k0_pay25, pay9_eq, convBf_eq, conv]
  · have hj' : j.val = 128 * 6 + q.val := hj
    have e : (⟨j.val - 128 - 128 - 128 - 128 - 128 - 128, by omega⟩ : Fin 128) = q := Fin.ext (show j.val - 128 - 128 - 128 - 128 - 128 - 128 = q.val by omega)
    rw [dif_neg (show ¬ j.val < 128 by omega), dif_neg (show ¬ j.val - 128 < 128 by omega), dif_neg (show ¬ j.val - 128 - 128 < 128 by omega), dif_neg (show ¬ j.val - 128 - 128 - 128 < 128 by omega), dif_neg (show ¬ j.val - 128 - 128 - 128 - 128 < 128 by omega), dif_neg (show ¬ j.val - 128 - 128 - 128 - 128 - 128 < 128 by omega), dif_pos (show j.val - 128 - 128 - 128 - 128 - 128 - 128 < 128 by omega)]
    simp only [e]
    pointwise [k0_pay29, k0_pay28, pay9_eq, convBf_eq, conv]
  · have hj' : j.val = 128 * 7 + q.val := hj
    have e : (⟨j.val - 128 - 128 - 128 - 128 - 128 - 128 - 128, by omega⟩ : Fin 128) = q := Fin.ext (show j.val - 128 - 128 - 128 - 128 - 128 - 128 - 128 = q.val by omega)
    rw [dif_neg (show ¬ j.val < 128 by omega), dif_neg (show ¬ j.val - 128 < 128 by omega), dif_neg (show ¬ j.val - 128 - 128 < 128 by omega), dif_neg (show ¬ j.val - 128 - 128 - 128 < 128 by omega), dif_neg (show ¬ j.val - 128 - 128 - 128 - 128 < 128 by omega), dif_neg (show ¬ j.val - 128 - 128 - 128 - 128 - 128 < 128 by omega), dif_neg (show ¬ j.val - 128 - 128 - 128 - 128 - 128 - 128 < 128 by omega)]
    simp only [e]
    pointwise [k0_pay31, pay9_eq, convBf_eq, conv]

theorem decaySt_eq : decaySt P x cw cb wa ba lam = decay P x cw cb wa ba lam := by
  funext i; idx_vars i
  unfold decaySt decay
  pointwise [k0_pay35]

theorem drive_at (p : Fin 256) (j : Fin 1024) :
    drive P x cw cb wa ba lam wx bx (ix2 p j) = rootTanh ((0 - decayTanh P x cw cb wa ba lam (ix2 p j)) * (decay P x cw cb wa ba lam (ix2 p j) * decay P x cw cb wa ba lam (ix2 p j) + 1))
      * (gateX P x cw cb wx bx (ix2 p j) * conv P x cw cb (ix2 p j)) := by
  unfold drive
  pointwise [k0_pay38, k0_pay37]
  rfl

end Cert.Lru

end
-- ==== Proof.Lru.Value.lean ====
/- The recurrence call over the extended reals: the result array is the specification's function of the arguments. -/
module

public import proofs.«01_k».proof.Proof.Lru.Reads
public import proofs.«01_k».proof.Proof.Lru.Tile

@[expose] public section

set_option maxRecDepth 16384

noncomputable section

namespace Cert.Lru

open Idealize.ShloMosaic Idealize.ShloMosaic.TcCoe Idealize.ShloMosaic.Tactic
open Idealize.SL.Sem
open Idealize.ShloMosaic.Pipeline (Dat)
open Cert.KernelIdeal Cert.KernelIdeal.Gen Cert.At

/-! ## The states, from a tile's start -/

section States
variable (x cw : ℕ → ℕ → EReal) (cb : ℕ → EReal) (wa : ℕ → ℕ → ℕ → EReal) (ba : ℕ → EReal) (wx : ℕ → ℕ → ℕ → EReal) (bx lam : ℕ → EReal)

theorem runFrom_st (j base : ℕ) (s : EReal) (a b : ℕ → EReal) (hm : base % 256 = 0)
    (ha : ∀ i, i < 256 → a i = dec x cw cb wa ba lam (base + i) j) (hb : ∀ i, i < 256 → b i = drv x cw cb wa ba wx bx lam (base + i) j)
    (h0 : base % 4096 = 0 → s = 0) (hs : base % 4096 ≠ 0 → s = st x cw cb wa ba wx bx lam j (base - 1)) :
    ∀ n, n < 256 → runFrom a b 0 s (n + 1) = st x cw cb wa ba wx bx lam j (base + n)
  | 0, _ => by
    show a (0 + 0) * s + b (0 + 0) = st x cw cb wa ba wx bx lam j (base + 0)
    rw [Nat.zero_add, ha 0 (by omega), hb 0 (by omega), Nat.add_zero]
    by_cases h : base % 4096 = 0
    · rw [h0 h, mul_zero, zero_add, st_reset _ _ _ _ _ _ _ _ _ _ h]
    · rw [hs h, st_step _ _ _ _ _ _ _ _ j base h]
  | n + 1, hn => by
    show a (0 + (n + 1)) * runFrom a b 0 s (n + 1) + b (0 + (n + 1)) = st x cw cb wa ba wx bx lam j (base + (n + 1))
    rw [Nat.zero_add, ha _ hn, hb _ hn, runFrom_st j base s a b hm ha hb h0 hs n (by omega), st_step _ _ _ _ _ _ _ _ j (base + (n + 1)) (by omega)]
    rfl

end States

variable (m : (ℓ : Loc nD τ sig) → Buf (Elt Ideal) ℓ) (ρ : Dev nD → PrngReg)

/-- The specification at the arguments. -/
abbrev kCv (c : Dev nD) := cv (X m c) (CW m c) (CB m c)
abbrev kDec (c : Dev nD) := dec (X m c) (CW m c) (CB m c) (WA m c) (BA m c) (LAM m c)
abbrev kDrv (c : Dev nD) := drv (X m c) (CW m c) (CB m c) (WA m c) (BA m c) (WX m c) (BX m c) (LAM m c)
abbrev kSt (c : Dev nD) := st (X m c) (CW m c) (CB m c) (WA m c) (BA m c) (WX m c) (BX m c) (LAM m c)
abbrev kOut (c : Dev nD) := out (X m c) (CW m c) (CB m c) (WA m c) (BA m c) (WX m c) (BX m c) (LAM m c) (G m c)

/-! ## A tile, from its padded rows -/

/-- The padded rows hold the three tokens before each of the tile's own. -/
def Pads (c : Dev nD) (t : Fin cfg0.N) (P : Vec Ideal S264x1024 .f32) : Prop :=
  ∀ (p : Fin 256) (j : Fin 1024), P (ix2 ⟨5 + p.val, by omega⟩ j) = back (X m c) 3 (256 * t.val + p.val) j.val
    ∧ P (ix2 ⟨6 + p.val, by omega⟩ j) = back (X m c) 2 (256 * t.val + p.val) j.val
    ∧ P (ix2 ⟨7 + p.val, by omega⟩ j) = back (X m c) 1 (256 * t.val + p.val) j.val

section Tile
variable (c : Dev nD) (t : Fin cfg0.N) (P : Vec Ideal S264x1024 .f32) (hP : Pads m c t P)
include hP

theorem conv_tile (p : Fin 256) (j : Fin 1024) :
    conv P (iblk m c 0 t) (iblk m c 2 t) (iblk m c 3 t) (ix2 p j) = kCv m c (256 * t.val + p.val) j.val := by
  rw [conv_at, (hP p j).1, (hP p j).2.1, (hP p j).2.2, rd0, rd2, rd2, rd2, rd2, rd3]
  rfl

theorem gate_tile (p : Fin 256) (j : Fin 1024) :
    gateX P (iblk m c 0 t) (iblk m c 2 t) (iblk m c 3 t) (iblk m c 6 t) (iblk m c 7 t) (ix2 p j)
      = gate (X m c) (CW m c) (CB m c) (WX m c) (BX m c) (256 * t.val + p.val) j.val := by
  have hj := j.isLt
  rw [gateX_at P _ _ _ _ _ p j ⟨j.val / 128, by omega⟩ ⟨j.val % 128, by omega⟩ (by dsimp only; omega), rd7]
  unfold gate
  refine congrArg (fun z : EReal => Ideal.logistic (z + BX m c j.val)) (Finset.sum_congr rfl fun k _ => ?_)
  rw [conv_tile m c t P hP, rd6]

theorem decay_tile (p : Fin 256) (j : Fin 1024) :
    decay P (iblk m c 0 t) (iblk m c 2 t) (iblk m c 3 t) (iblk m c 4 t) (iblk m c 5 t) (iblk m c 8 t) (ix2 p j)
      = kDec m c (256 * t.val + p.val) j.val := by
  have hj := j.isLt
  rw [decay_at P _ _ _ _ _ _ p j ⟨j.val / 128, by omega⟩ ⟨j.val % 128, by omega⟩ (by dsimp only; omega), rd5, rd8]
  unfold kDec dec logDecay gate
  refine congrArg (fun z : EReal => Ideal.exp ((Ideal.ofBits .f32 0xC1000000#32 * Ideal.logistic (z + BA m c j.val)) * softplus (-LAM m c j.val))) (Finset.sum_congr rfl fun k _ => ?_)
  rw [conv_tile m c t P hP, rd4]

theorem tanh_tile (p : Fin 256) (j : Fin 1024) :
    decayTanh P (iblk m c 0 t) (iblk m c 2 t) (iblk m c 3 t) (iblk m c 4 t) (iblk m c 5 t) (iblk m c 8 t) (ix2 p j)
      = Ideal.tanh (logDecay (X m c) (CW m c) (CB m c) (WA m c) (BA m c) (LAM m c) (256 * t.val + p.val) j.val) := by
  have hj := j.isLt
  rw [decayTanh_at P _ _ _ _ _ _ p j ⟨j.val / 128, by omega⟩ ⟨j.val % 128, by omega⟩ (by dsimp only; omega), rd5, rd8]
  unfold logDecay gate
  refine congrArg (fun z : EReal => Ideal.tanh ((Ideal.ofBits .f32 0xC1000000#32 * Ideal.logistic (z + BA m c j.val)) * softplus (-LAM m c j.val))) (Finset.sum_congr rfl fun k _ => ?_)
  rw [conv_tile m c t P hP, rd4]

theorem drive_tile (p : Fin 256) (j : Fin 1024) :
    drive P (iblk m c 0 t) (iblk m c 2 t) (iblk m c 3 t) (iblk m c 4 t) (iblk m c 5 t) (iblk m c 8 t) (iblk m c 6 t) (iblk m c 7 t) (ix2 p j)
      = kDrv m c (256 * t.val + p.val) j.val := by
  rw [drive_at, tanh_tile m c t P hP, decay_tile m c t P hP, gate_tile m c t P hP, conv_tile m c t P hP]
  unfold kDec dec
  rw [root_eq _ (logDecay_nonpos _ _ _ _ _ _ _ _)]
  rfl

/-- The scan of the tile: the states. -/
theorem scanned_tile (s : Vec Ideal S8x1024 .f32)
    (h0 : t.val % 16 = 0 → ∀ (r : Fin 8) (j : Fin 1024), s (ix2 r j) = 0)
    (hs : t.val % 16 ≠ 0 → ∀ (r : Fin 8) (j : Fin 1024), s (ix2 r j) = kSt m c j.val (256 * t.val - 1)) :
    (∀ (r : Fin 8) (j : Fin 1024), (scanned P (iblk m c 0 t) (iblk m c 2 t) (iblk m c 3 t) (iblk m c 4 t) (iblk m c 5 t) (iblk m c 8 t) (iblk m c 6 t) (iblk m c 7 t) s).1 (ix2 r j)
      = kSt m c j.val (256 * t.val + 255))
    ∧ ∀ (p : Fin 256) (j : Fin 1024), (scanned P (iblk m c 0 t) (iblk m c 2 t) (iblk m c 3 t) (iblk m c 4 t) (iblk m c 5 t) (iblk m c 8 t) (iblk m c 6 t) (iblk m c 7 t) s).2 (ix2 p j)
      = kSt m c j.val (256 * t.val + p.val) := by
  unfold scanned
  rw [decaySt_eq, trips_eq]
  have hA : ∀ (p : Fin 256) (j : Fin 1024), decay P (iblk m c 0 t) (iblk m c 2 t) (iblk m c 3 t) (iblk m c 4 t) (iblk m c 5 t) (iblk m c 8 t) (ix2 p j) = kDec m c (256 * t.val + p.val) j.val :=
    decay_tile m c t P hP
  have hB : ∀ (p : Fin 256) (j : Fin 1024), drive P (iblk m c 0 t) (iblk m c 2 t) (iblk m c 3 t) (iblk m c 4 t) (iblk m c 5 t) (iblk m c 8 t) (iblk m c 6 t) (iblk m c 7 t) (ix2 p j) = kDrv m c (256 * t.val + p.val) j.val :=
    drive_tile m c t P hP
  generalize decay P (iblk m c 0 t) (iblk m c 2 t) (iblk m c 3 t) (iblk m c 4 t) (iblk m c 5 t) (iblk m c 8 t) = A at hA ⊢
  generalize drive P (iblk m c 0 t) (iblk m c 2 t) (iblk m c 3 t) (iblk m c 4 t) (iblk m c 5 t) (iblk m c 8 t) (iblk m c 6 t) (iblk m c 7 t) = B at hB ⊢
  have hpos : ∀ i, 0 ≤ A i ∧ A i ≠ ⊤ := by
    intro i
    obtain ⟨p, j, rfl⟩ : ∃ (p : Fin 256) (j : Fin 1024), i = ix2 p j := ⟨i 0, i 1, eq_ix2 i⟩
    rw [hA]
    exact exp_of_nonpos _ (logDecay_nonpos _ _ _ _ _ _ _ _)
  have key : ∀ (j : Fin 1024) (n : ℕ), n < 256 → col A B j (if t.val % 16 = 0 then 0 else kSt m c j.val (256 * t.val - 1)) (n + 1) = kSt m c j.val (256 * t.val + n) := by
    intro j n hn
    refine runFrom_st _ _ _ _ _ _ _ _ j.val (256 * t.val) _ _ _ (by omega) (fun i hi => ?_) (fun i hi => ?_) (fun h => if_pos (by omega)) (fun h => if_neg (by omega)) n hn
    · rw [← at2_eq A ⟨i, hi⟩ j, hA]
    · rw [← at2_eq B ⟨i, hi⟩ j, hB]
  have h := scan_eq A B s hpos (fun j => if t.val % 16 = 0 then 0 else kSt m c j (256 * t.val - 1)) (fun r j => by
    split_ifs with h
    · exact h0 h r j
    · exact hs h r j) 32 le_rfl
  refine ⟨fun r j => ?_, fun p j => ?_⟩
  · rw [h.1]; exact key j 255 (by omega)
  · rw [h.2, if_pos (by omega)]; exact key j p.val p.isLt

end Tile

/-! ## What is carried -/

theorem padded_low (top : Vec Ideal S8x1024 .f32) (x : Vec Ideal S256x1024 .f32) (r : Fin 264) (j : Fin 1024) (h : r.val < 8) :
    padded top x (ix2 r j) = top (ix2 ⟨r.val, h⟩ j) := by
  refine Eq.trans (dif_pos (show ((ix2 r j : S264x1024.Idx) 0).val < 8 from h)) ?_
  pointwise [k0_pay4]

theorem padded_high (top : Vec Ideal S8x1024 .f32) (x : Vec Ideal S256x1024 .f32) (r : Fin 264) (j : Fin 1024) (h : ¬ r.val < 8) :
    padded top x (ix2 r j) = x (ix2 ⟨r.val - 8, by omega⟩ j) := by
  refine Eq.trans (dif_neg (show ¬ ((ix2 r j : S264x1024.Idx) 0).val < 8 from h)) ?_
  pointwise [k0_pay5]

theorem topOf_at (t : Fin cfg0.N) (xp : Vec Ideal S264x1024 .f32) (p : Fin 8) (j : Fin 1024) :
    topOf (grid0.coords t) xp (ix2 p j) = if t.val % 16 = 0 then 0 else xp (ix2 ⟨256 + p.val, by omega⟩ j) := by
  unfold topOf
  by_cases h : t.val % 16 = 0
  · rw [if_pos ((isFirst_iff t).mpr h), if_pos h]
    pointwise [k0_pay2]
  · rw [if_neg (fun hh => h ((isFirst_iff t).mp hh)), if_neg h]
    pointwise

theorem stateOf_at (t : Fin cfg0.N) (s : Vec Ideal S8x1024 .f32) (p : Fin 8) (j : Fin 1024) :
    stateOf (grid0.coords t) s (ix2 p j) = if t.val % 16 = 0 then 0 else s (ix2 p j) := by
  unfold stateOf
  by_cases h : t.val % 16 = 0
  · rw [if_pos ((isFirst_iff t).mpr h), if_pos h]
    pointwise [k0_pay3]
  · rw [if_neg (fun hh => h ((isFirst_iff t).mp hh)), if_neg h]

/-- What is carried before point `n`: the last eight rows' inputs, the last state. -/
def Inv (c : Dev nD) (n : ℕ) : Prop := n ≠ 0 →
  (∀ (p : Fin 8) (j : Fin 1024), (carried m c n).1 (ix2 ⟨256 + p.val, by omega⟩ j) = X m c (256 * n - 8 + p.val) j.val)
  ∧ ∀ (r : Fin 8) (j : Fin 1024), (carried m c n).2 (ix2 r j) = kSt m c j.val (256 * n - 1)

theorem pad_back (c : Dev nD) (t : Fin cfg0.N) (h : Inv m c t.val) (d : ℕ) (hd : d ≤ 3) (p : Fin 256) (j : Fin 1024) :
    padStep (grid0.coords t) (iblk m c 0 t) (carried m c t.val).1 (ix2 ⟨8 - d + p.val, by omega⟩ j) = back (X m c) d (256 * t.val + p.val) j.val := by
  unfold padStep back
  by_cases hp : p.val < d
  · rw [padded_low _ _ _ _ (by dsimp only; omega), topOf_at]
    by_cases h0 : t.val % 16 = 0
    · rw [if_pos h0, if_pos (by omega)]
    · rw [if_neg h0, if_neg (by omega), (h (by omega)).1 ⟨8 - d + p.val, by omega⟩ j]
      congr 1
      dsimp only
      omega
  · rw [padded_high _ _ _ _ (by dsimp only; omega), rd0, if_neg (by omega)]
    congr 1
    dsimp only
    omega

theorem pads_step (c : Dev nD) (t : Fin cfg0.N) (h : Inv m c t.val) : Pads m c t (padStep (grid0.coords t) (iblk m c 0 t) (carried m c t.val).1) :=
  fun p j => ⟨pad_back m c t h 3 (by omega) p j, pad_back m c t h 2 (by omega) p j, pad_back m c t h 1 (by omega) p j⟩

/-- The tile's scan at the point. -/
theorem point_scan (c : Dev nD) (t : Fin cfg0.N) (h : Inv m c t.val) :
    (∀ (r : Fin 8) (j : Fin 1024), (scanned (padStep (grid0.coords t) (iblk m c 0 t) (carried m c t.val).1) (iblk m c 0 t) (iblk m c 2 t) (iblk m c 3 t) (iblk m c 4 t) (iblk m c 5 t) (iblk m c 8 t) (iblk m c 6 t) (iblk m c 7 t) (stateOf (grid0.coords t) (carried m c t.val).2)).1 (ix2 r j)
      = kSt m c j.val (256 * t.val + 255))
    ∧ ∀ (p : Fin 256) (j : Fin 1024), (scanned (padStep (grid0.coords t) (iblk m c 0 t) (carried m c t.val).1) (iblk m c 0 t) (iblk m c 2 t) (iblk m c 3 t) (iblk m c 4 t) (iblk m c 5 t) (iblk m c 8 t) (iblk m c 6 t) (iblk m c 7 t) (stateOf (grid0.coords t) (carried m c t.val).2)).2 (ix2 p j)
      = kSt m c j.val (256 * t.val + p.val) :=
  scanned_tile m c t _ (pads_step m c t h) (stateOf (grid0.coords t) (carried m c t.val).2)
    (fun h0 r j => by rw [stateOf_at, if_pos h0])
    (fun h0 r j => by rw [stateOf_at, if_neg h0]; exact (h (by omega)).2 r j)

theorem inv_step (c : Dev nD) (t : Fin cfg0.N) (h : Inv m c t.val) : Inv m c (t.val + 1) := fun _ => by
  rw [carried_succ]
  refine ⟨fun p j => ?_, fun r j => ?_⟩
  · show padStep (grid0.coords t) (iblk m c 0 t) (carried m c t.val).1 _ = _
    unfold padStep
    rw [padded_high _ _ _ _ (by dsimp only; omega), rd0]
    congr 1
    dsimp only
    omega
  · have hs := (point_scan m c t h).1
    show k0_pay42 (scanned (padStep (grid0.coords t) (iblk m c 0 t) (carried m c t.val).1) (iblk m c 0 t) (iblk m c 2 t) (iblk m c 3 t) (iblk m c 4 t) (iblk m c 5 t) (iblk m c 8 t) (iblk m c 6 t) (iblk m c 7 t) (stateOf (grid0.coords t) (carried m c t.val).2)).1 (ix2 r j) = _
    generalize (scanned (padStep (grid0.coords t) (iblk m c 0 t) (carried m c t.val).1) (iblk m c 0 t) (iblk m c 2 t) (iblk m c 3 t) (iblk m c 4 t) (iblk m c 5 t) (iblk m c 8 t) (iblk m c 6 t) (iblk m c 7 t) (stateOf (grid0.coords t) (carried m c t.val).2)).1 = H at hs ⊢
    pointwise [k0_pay42]
    rw [hs r j]
    congr 1

theorem inv (c : Dev nD) : ∀ n, n ≤ cfg0.N → Inv m c n
  | 0, _ => fun h => absurd rfl h
  | n + 1, hn => inv_step m c ⟨n, hn⟩ (inv c n (by omega))

/-! ## The output block -/

theorem out_tile (c : Dev nD) (t : Fin cfg0.N) (p : Fin 256) (j : Fin 1024) :
    outAt m c t (ix2 p j) = kOut m c (256 * t.val + p.val) j.val := by
  have hs := (point_scan m c t (inv m c t.val t.isLt.le)).2
  show k0_pay1 (scanned (padStep (grid0.coords t) (iblk m c 0 t) (carried m c t.val).1) (iblk m c 0 t) (iblk m c 2 t) (iblk m c 3 t) (iblk m c 4 t) (iblk m c 5 t) (iblk m c 8 t) (iblk m c 6 t) (iblk m c 7 t) (stateOf (grid0.coords t) (carried m c t.val).2)).2 (iblk m c 1 t) (k0_pay43 (iblk m c 1 t)) (iblk m c 9 t) (ix2 p j) = _
  generalize (scanned (padStep (grid0.coords t) (iblk m c 0 t) (carried m c t.val).1) (iblk m c 0 t) (iblk m c 2 t) (iblk m c 3 t) (iblk m c 4 t) (iblk m c 5 t) (iblk m c 8 t) (iblk m c 6 t) (iblk m c 7 t) (stateOf (grid0.coords t) (carried m c t.val).2)).2 = H at hs ⊢
  pointwise [k0_pay1, k0_pay43]
  unfold kOut out norm gated gelu
  simp only [hs, rd1, rd9]

/-! ## The result array -/

/-- The result as contents of the result array. -/
def result (c : Dev nD) : Buf (Elt Ideal) ((c : Thread nD τ).loc main_v15) :=
  fun i : S8192x1024.Idx => kOut m c (i 0).val (i 1).val

theorem flushed_eq (c : Dev nD) (t : Fin cfg0.N) (hf : (cfg0.win 10).flush t = true) :
    (dats m 0 c).flushed 10 t = ((cfg0.win 10).blk t).view.read (Elt Ideal) (result m c) := by
  show (cfg0.win 10).cut (grid0.coords t) ((dats m 0 c).after 10 t) = _
  rw [after10]
  funext j
  have hj : ∃ (p : Fin 256) (q : Fin 1024), j = ix2 p q := ⟨j 0, j 1, eq_ix2 j⟩
  obtain ⟨p, q, rfl⟩ := hj
  refine Eq.trans (show _ = outAt m c t (ix2 p q) from rfl) ?_
  rw [out_tile m c t p q, View.read_apply]
  show _ = kOut m c (win0_10.index t 0 * 256 + 1 * p.val) (win0_10.index t 1 * 1024 + 1 * q.val)
  have e := (idx t).2.2.2.2.2.2.2.2.2.2
  rw [e.1, e.2]
  congr 1 <;> omega

theorem mem_blk (t : Fin cfg0.N) (i : S8192x1024.Idx) :
    i ∈ ((cfg0.win 10).blk t).view.set ↔ ∀ a, win0_10.index t a * win0_10.size a ≤ (i a : ℕ) ∧ (i a : ℕ) < win0_10.index t a * win0_10.size a + win0_10.xsize (grid0.coords t) a := by
  show i ∈ ((View.whole main_v15).slice (win0_10.rect t)).set ↔ _
  rw [View.set_slice_whole, Rect.mem_set_unit]

theorem cover (i : S8192x1024.Idx) : ∃ t : Fin cfg0.N, (cfg0.win 10).flush t = true ∧ i ∈ ((cfg0.win 10).blk t).view.set := by
  have h0 : (i 0 : ℕ) < 8192 := (i 0).isLt
  have h1 : (i 1 : ℕ) < 1024 := (i 1).isLt
  have hN : cfg0.N = 32 := N_0
  refine ⟨⟨(i 0 : ℕ) / 256, by omega⟩, flush0_10 _, ?_⟩
  rw [mem_blk]
  generalize ht : (⟨(i 0 : ℕ) / 256, _⟩ : Fin cfg0.N) = t
  have e := (idx t).2.2.2.2.2.2.2.2.2.2
  have hv : t.val = (i 0 : ℕ) / 256 := by rw [← ht]
  intro a
  match a with
  | ⟨0, _⟩ => show win0_10.index t 0 * 256 ≤ (i 0 : ℕ) ∧ (i 0 : ℕ) < win0_10.index t 0 * 256 + 256
              rw [e.1]; omega
  | ⟨1, _⟩ => show win0_10.index t 1 * 1024 ≤ (i 1 : ℕ) ∧ (i 1 : ℕ) < win0_10.index t 1 * 1024 + 1024
              rw [e.2]; omega

theorem final (c : Dev nD) : (dats m 0 c).arrAt 10 cfg0.N = result m c :=
  (dats m 0 c).arrAt_eq_of_cover 10 (result m c) (flushed_eq m c) cover

/-- The run, read: the result array at the specification, the arguments unchanged. -/
theorem run : θ_run defs (onTc (τ := τ) (main (F := Ideal))) ⟨m, fun _ => 0, ρ⟩ (fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have h := θ_run_and (run_main m ρ) (frame_run m ρ)
  refine (θ_run defs _ _).mono (fun r h c => ?_) h
  exact ⟨((h.1.1 c).1 10).trans (final m c), h.2.1 c⟩

end Cert.Lru

end
-- ==== Proof.Lru.Claims.lean ====
/- The claims about the recurrence call. -/
module

public import proofs.«01_k».proof.Defs
public import proofs.«01_k».proof.Proof.Gen.Kernel
public import proofs.«01_k».proof.Proof.Lru.Frame
public import proofs.«01_k».proof.Proof.Lru.RefLoop
public import proofs.«01_k».proof.Proof.Lru.Value

@[expose] public section

set_option maxRecDepth 65536

noncomputable section

namespace Cert.Lru

open Idealize.ShloMosaic Idealize.ShloMosaic.TcCoe Idealize.SL.Sem

/-- The two programs' bodies agree, label by label. -/
theorem bodies_eq : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Val := Elt Bits) (Λ := Cert.KernelIdeal.Λ₀)) ?_
  funext l a
  match l with
  | ⟨0, _⟩ => obtain ⟨t, s⟩ := a; rfl

theorem defs_eq : Cert.Kernel.defs (F := Bits) = Cert.KernelIdeal.defs (F := Bits) :=
  congrArg (Pipeline.defs (Cert.KernelIdeal.pcfgs (F := Bits))) bodies_eq

/-- The printed program's frame: the idealized program's run, at bits. -/
theorem frame_kernel : Cert.quiescent_Kernel := fun m ρ _ => by
  rw [defs_eq]
  exact frame_run (F := Bits) m ρ

theorem frame_ideal : Cert.quiescent_KernelIdeal := fun m ρ _ => frame_run m ρ

theorem frame_reference : Cert.quiescent_ReferenceIdeal := fun m ρ _ =>
  (θ_run Cert.ReferenceIdeal.defs _ _).mono (fun r h => ⟨fun c => (h c).2, sem_eq_zero_of_no_sems (by decide) r.2⟩)
    (Ref.run m ρ)

/-- The call computes its reference over the extended reals. -/
theorem value : Cert.algebraic_KernelIdeal_ReferenceIdeal := by
  intro m ρ m' ρ' _ hargs
  refine ⟨result m, run m ρ, (θ_run Cert.ReferenceIdeal.defs _ _).mono (fun r h c => ⟨(h c).1.trans ?_, (h c).2⟩) (Ref.run m' ρ')⟩
  obtain ⟨h0, h1, h2, h3, h4, h5, h6, h7, h8⟩ := hargs c
  funext i
  obtain ⟨p, q, rfl⟩ : ∃ (p : Fin 8192) (q : Fin 1024), i = ix2 p q := ⟨i 0, i 1, eq_ix2 i⟩
  refine (Ref.result_eq m' c p q).trans ?_
  show Ref.rOut m' c p.val q.val = kOut m c p.val q.val
  have e0 : Ref.X m' c = X m c := by funext i j; unfold Ref.X X; rw [h0]
  have e1 : Ref.CW m' c = CW m c := by funext i j; unfold Ref.CW CW; rw [h1]
  have e2 : Ref.CB m' c = CB m c := by funext i; unfold Ref.CB CB; rw [h2]
  have e3 : Ref.WA m' c = WA m c := by funext n i j; unfold Ref.WA WA; rw [h3]
  have e4 : Ref.BA m' c = BA m c := by funext i; unfold Ref.BA BA; rw [h4]
  have e5 : Ref.WX m' c = WX m c := by funext n i j; unfold Ref.WX WX; rw [h5]
  have e6 : Ref.BX m' c = BX m c := by funext i; unfold Ref.BX BX; rw [h6]
  have e7 : Ref.LAM m' c = LAM m c := by funext i; unfold Ref.LAM LAM; rw [h7]
  have e8 : Ref.G m' c = G m c := by funext i; unfold Ref.G G; rw [h8]
  unfold Ref.rOut kOut
  rw [e0, e1, e2, e3, e4, e5, e6, e7, e8]

end Cert.Lru

end
-- ==== Proof.Out.Spec.lean ====
/- The output projection as mathematics: the residual stream plus the mixed heads' projection, where the attention half of
   the heads is normed first, and the norm of the sum. Arrays are functions of natural-number positions. -/
module

public import Idealize.ShloMosaic.Lib.Pointwise
public import Idealize.ShloMosaic.PureOps.Ideal

@[expose] public section

noncomputable section

namespace Cert.Out

open Idealize.ShloMosaic

/-- The number that keeps a root away from zero: the 32-bit value of one millionth. -/
abbrev eps : EReal := ((8796093 / 8796093022208 : ℝ) : EReal)

theorem eps_eq : Ideal.ofBits .f32 0x358637BD#32 = eps := by
  unfold eps
  simp only [Ideal.ofBits, Ideal.ieee]
  have e : (897988541 >>> 23 % 256 : ℕ) = 107 := by decide
  have s : BitVec.extractLsb' 31 1 897988541#32 ≠ 1#1 := by decide
  norm_num [e, s]

/-- The root-mean-square norm of a row of `n` entries, `d` its length as a float. -/
def norm (n : ℕ) (d : EReal) (g y : ℕ → EReal) (q : ℕ) : EReal :=
  y q * Ideal.rsqrt (Ideal.div (∑ q' : Fin n, y q'.val * y q'.val) d + eps) * g q

variable (l a : ℕ → ℕ → EReal) (ga : ℕ → EReal) (x w : ℕ → ℕ → EReal) (gf : ℕ → EReal)

/-- The attention heads of a token, normed. -/
def att (r k : ℕ) : EReal := norm 1024 (Ideal.ofBits .f32 0x44800000#32) ga (a r) k

/-- The heads of a token side by side: the recurrence's, then the attention's. -/
def mix (r k : ℕ) : EReal := if k < 1024 then l r k else att a ga r (k - 1024)

/-- The residual stream with the projection added. -/
def res (r q : ℕ) : EReal := x r q + ∑ k ∈ Finset.range 2048, mix l a ga r k * w k q

/-- The normed sum. -/
def out (r q : ℕ) : EReal := norm 2048 (Ideal.ofBits .f32 0x45000000#32) gf (res l a ga x w r) q

/-- The projection in two halves. -/
theorem res_halves (r q : ℕ) : res l a ga x w r q
    = (x r q + ∑ k : Fin 1024, l r k.val * w k.val q) + ∑ k : Fin 1024, att a ga r k.val * w (1024 + k.val) q := by
  unfold res
  rw [show 2048 = 1024 + 1024 from rfl, Finset.sum_range_add, add_assoc, ← Fin.sum_univ_eq_sum_range (fun j => mix l a ga r j * w j q) 1024,
    ← Fin.sum_univ_eq_sum_range (fun j => mix l a ga r (1024 + j) * w (1024 + j) q) 1024]
  refine congrArg _ (congrArg₂ _ (Finset.sum_congr rfl fun k _ => ?_) (Finset.sum_congr rfl fun k _ => ?_))
  · unfold mix; rw [if_pos k.isLt]
  · unfold mix; rw [if_neg (by omega), Nat.add_sub_cancel_left]

end Cert.Out

end
-- ==== Proof.Out.Value.lean ====
/- The output projection's call over the extended reals: the blocks of the operands read by position, what a row tile
   leaves, and the two result arrays. -/
module

public import proofs.«01_k».proof.Proof.Gen.Kernel3Ideal.Value
public import proofs.«01_k».proof.Proof.Out.Spec
public import proofs.«01_k».proof.Proof.Idx

@[expose] public section

set_option maxRecDepth 16384

noncomputable section

namespace Cert.Out

open Idealize.ShloMosaic Idealize.ShloMosaic.TcCoe Idealize.ShloMosaic.Tactic
open Idealize.SL.Sem
open Cert.Kernel3Ideal Cert.Kernel3Ideal.Gen Cert.Kernel3Ideal.Value Cert.At

variable (m : (ℓ : Loc nD τ sig) → Buf (Elt Ideal) ℓ) (ρ : Dev nD → PrngReg)

/-! ## The arguments -/

def L (c : Dev nD) (r k : ℕ) : EReal := at2 (m ((c : Thread nD τ).loc main_arg0) : S8192x1024.Idx → EReal) r k
def A (c : Dev nD) (r k : ℕ) : EReal := at2 (m ((c : Thread nD τ).loc main_arg1) : S8192x1024.Idx → EReal) r k
def GA (c : Dev nD) (k : ℕ) : EReal := at2 (m ((c : Thread nD τ).loc main_arg2) : S1x1024.Idx → EReal) 0 k
def X (c : Dev nD) (r q : ℕ) : EReal := at3 (m ((c : Thread nD τ).loc main_arg3) : S2x4096x2048.Idx → EReal) (r / 4096) (r % 4096) q
def W (c : Dev nD) (k q : ℕ) : EReal := at3 (m ((c : Thread nD τ).loc main_arg4) : S1x2048x2048.Idx → EReal) 0 k q
def GF (c : Dev nD) (q : ℕ) : EReal := at2 (m ((c : Thread nD τ).loc main_arg5) : S1x2048.Idx → EReal) 0 q

/-- The windows' block positions. -/
theorem idx (t : Fin cfg0.N) :
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0) ∧ (win0_7.index t 0 = t.val ∧ win0_7.index t 1 = 0) :=
  (by decide +kernel : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0) ∧ (win0_7.index t 0 = t.val ∧ win0_7.index t 1 = 0)) t

theorem tlt (t : Fin cfg0.N) : t.val < 16 := Nat.lt_of_lt_of_eq t.isLt N_0

theorem rd0 (c : Dev nD) (t : Fin cfg0.N) (p : Fin 512) (k : Fin 1024) :
    (iblk m c 0 t : S512x1024.Idx → EReal) (ix2 p k) = L m c (512 * t.val + p.val) k.val := by
  have ht := tlt t
  unfold L
  rw [← at2_eq (m ((c : Thread nD τ).loc main_arg0) : S8192x1024.Idx → EReal) ⟨512 * t.val + p.val, by omega⟩ k]
  blk_ext! [iblk, V, idx t]

theorem rd1 (c : Dev nD) (t : Fin cfg0.N) (p : Fin 512) (k : Fin 1024) :
    (iblk m c 1 t : S512x1024.Idx → EReal) (ix2 p k) = A m c (512 * t.val + p.val) k.val := by
  have ht := tlt t
  unfold A
  rw [← at2_eq (m ((c : Thread nD τ).loc main_arg1) : S8192x1024.Idx → EReal) ⟨512 * t.val + p.val, by omega⟩ k]
  blk_ext! [iblk, V, idx t]

theorem rd2 (c : Dev nD) (t : Fin cfg0.N) (k : Fin 1024) :
    (iblk m c 2 t : S1x1024.Idx → EReal) (ix2 0 k) = GA m c k.val := by
  refine Eq.trans ?_ (at2_eq (m ((c : Thread nD τ).loc main_arg2) : S1x1024.Idx → EReal) 0 k)
  blk_ext! [iblk, V, idx t]

theorem rd3 (c : Dev nD) (t : Fin cfg0.N) (p : Fin 512) (q : Fin 2048) :
    (iblk m c 3 t : S512x2048.Idx → EReal) (ix2 p q) = X m c (512 * t.val + p.val) q.val := by
  have ht := tlt t
  unfold X
  rw [← at3_eq (m ((c : Thread nD τ).loc main_arg3) : S2x4096x2048.Idx → EReal) ⟨(512 * t.val + p.val) / 4096, by omega⟩ ⟨(512 * t.val + p.val) % 4096, by omega⟩ q]
  blk_ext! [iblk, V, idx t]

theorem rd4 (c : Dev nD) (t : Fin cfg0.N) (k q : Fin 2048) :
    (iblk m c 4 t : S2048x2048.Idx → EReal) (ix2 k q) = W m c k.val q.val := by
  unfold W
  rw [show (0 : ℕ) = (0 : Fin 1).val from rfl, ← at3_eq (m ((c : Thread nD τ).loc main_arg4) : S1x2048x2048.Idx → EReal) 0 k q]
  blk_ext! [iblk, V, idx t]

theorem rd5 (c : Dev nD) (t : Fin cfg0.N) (q : Fin 2048) :
    (iblk m c 5 t : S1x2048.Idx → EReal) (ix2 0 q) = GF m c q.val := by
  refine Eq.trans ?_ (at2_eq (m ((c : Thread nD τ).loc main_arg5) : S1x2048.Idx → EReal) 0 q)
  blk_ext! [iblk, V, idx t]

/-! ## A row tile -/

/-- A run of whole rows loaded from a matrix. -/
theorem ld_rows {Val : EltTy → Type} {e : EltTy} {n d k : ℕ} (o : ℕ) (h : ∀ a, (![o, 0] : Fin 2 → ℕ) a + (![k, d] : Fin 2 → ℕ) a ≤ (⟨2, ![n, d]⟩ : Shape).size a)
    (x : (⟨2, ![n, d]⟩ : Shape).Idx → Val e) (p : Fin k) (f : Fin d) (r : Fin n) (hr : r.val = o + p.val) :
    View.ld x (Rect.unit (s := ⟨2, ![n, d]⟩) ![o, 0] ![k, d] h) (ix2 p f) = x (ix2 r f) := by
  refine congrArg x ?_
  funext a; apply Fin.ext
  match a with
  | ⟨0, _⟩ => show o + 1 * p.val = r.val; omega
  | ⟨1, _⟩ => show 0 + 1 * f.val = f.val; omega

/-- One store of a whole matrix. -/
theorem canon_all {Val : EltTy → Type} [∀ e, Nonempty (Val e)] {e : EltTy} {n d : ℕ}
    (h : ∀ a, (![0, 0] : Fin 2 → ℕ) a + (![n, d] : Fin 2 → ℕ) a ≤ (⟨2, ![n, d]⟩ : Shape).size a)
    (w : (⟨2, ![n, d]⟩ : Shape).Idx → Val e) (r : Fin n) (f : Fin d) :
    View.canon (s := ⟨2, ![n, d]⟩) [⟨Rect.unit ![0, 0] ![n, d] h, w⟩] (ix2 r f) = w (ix2 r f) := by
  have e1 : (ix2 r f : (⟨2, ![n, d]⟩ : Shape).Idx) = (Rect.unit (s := ⟨2, ![n, d]⟩) ![0, 0] ![n, d] h).emb (ix2 r f) := by
    funext a; apply Fin.ext
    match a with
    | ⟨0, _⟩ => show r.val = 0 + 1 * r.val; omega
    | ⟨1, _⟩ => show f.val = 0 + 1 * f.val; omega
  refine Eq.trans (congrArg _ e1) ?_
  exact View.canon_cons_emb _ _ _ _

theorem name_half : Named.named (F := Ideal) Cert.Kernel3Ideal.κ "eps" (φ := .bf16) 0x3586#16 = eps := rfl
theorem name_full : Named.named (F := Ideal) Cert.Kernel3Ideal.κ "eps" (φ := .f32) 0x358637BD#32 = eps := rfl

abbrev kRes (c : Dev nD) := res (L m c) (A m c) (GA m c) (X m c) (W m c)
abbrev kOut (c : Dev nD) := out (L m c) (A m c) (GA m c) (X m c) (W m c) (GF m c)

/-- The residual rows of tile `t` as the body leaves them. -/
def resAt (c : Dev nD) (t : Fin cfg0.N) : Vec Ideal S512x2048 .f32 :=
  k0_pay2 (View.ld (iblk m c 1 t) r0_0) (View.ld (iblk m c 2 t) r0_1) (View.ld (iblk m c 3 t) r0_2) (View.ld (iblk m c 0 t) r0_0)
    (View.ld (iblk m c 4 t) r0_3) (View.ld (iblk m c 4 t) r0_4)

theorem pay2_at (v0 : Vec Ideal S512x1024 .bf16) (v1 : Vec Ideal S1x1024 .f32) (v19 : Vec Ideal S512x2048 .f32) (v21 : Vec Ideal S512x1024 .bf16)
    (v22 v26 : Vec Ideal S1024x2048 .bf16) (p : Fin 512) (q : Fin 2048) (a l : ℕ → EReal) (g : ℕ → EReal) (x : EReal) (w : ℕ → EReal)
    (h0 : ∀ k : Fin 1024, v0 (ix2 p k) = a k.val) (h1 : ∀ k : Fin 1024, v1 (ix2 0 k) = g k.val) (h19 : v19 (ix2 p q) = x)
    (h21 : ∀ k : Fin 1024, v21 (ix2 p k) = l k.val) (h22 : ∀ k : Fin 1024, v22 (ix2 k q) = w k.val) (h26 : ∀ k : Fin 1024, v26 (ix2 k q) = w (1024 + k.val)) :
    k0_pay2 v0 v1 v19 v21 v22 v26 (ix2 p q) = (x + ∑ k : Fin 1024, l k.val * w k.val)
      + ∑ k : Fin 1024, norm 1024 (Ideal.ofBits .f32 0x44800000#32) g a k.val * w (1024 + k.val) := by
  pointwise [k0_pay2]
  rw [h19, name_half]
  simp only [h0, h1, h21, h22, h26]
  rfl

theorem res_tile (c : Dev nD) (t : Fin cfg0.N) (p : Fin 512) (q : Fin 2048) :
    resAt m c t (ix2 p q) = kRes m c (512 * t.val + p.val) q.val := by
  unfold resAt kRes
  rw [res_halves]
  refine pay2_at _ _ _ _ _ _ p q (A m c (512 * t.val + p.val)) (L m c (512 * t.val + p.val)) (GA m c) _ (fun k => W m c k q.val) (fun k => ?_) (fun k => ?_) ?_ (fun k => ?_) (fun k => ?_) (fun k => ?_)
  · exact (ld_rows (Val := Elt Ideal) (e := .bf16) 0 inb_S512x1024_S512x1024_0_0 (iblk m c 1 t) p k p (by omega)).trans (rd1 m c t p k)
  · exact (ld_rows (Val := Elt Ideal) (e := .f32) 0 inb_S1x1024_S1x1024_0_0 (iblk m c 2 t) 0 k 0 rfl).trans (rd2 m c t k)
  · exact (ld_rows (Val := Elt Ideal) (e := .f32) 0 inb_S512x2048_S512x2048_0_0 (iblk m c 3 t) p q p (by omega)).trans (rd3 m c t p q)
  · exact (ld_rows (Val := Elt Ideal) (e := .bf16) 0 inb_S512x1024_S512x1024_0_0 (iblk m c 0 t) p k p (by omega)).trans (rd0 m c t p k)
  · exact (ld_rows (Val := Elt Ideal) (e := .bf16) 0 inb_S2048x2048_S1024x2048_0_0 (iblk m c 4 t) k q ⟨k.val, by omega⟩ (by show k.val = _; omega)).trans (rd4 m c t _ q)
  · exact (ld_rows (Val := Elt Ideal) (e := .bf16) 1024 inb_S2048x2048_S1024x2048_1024_0 (iblk m c 4 t) k q ⟨1024 + k.val, by omega⟩ rfl).trans (rd4 m c t _ q)

/-- The normed rows of tile `t` as the body leaves them. -/
def outAt (c : Dev nD) (t : Fin cfg0.N) : Vec Ideal S512x2048 .bf16 :=
  k0_pay1 (resAt m c t) (k0_pay3 (View.ld (iblk m c 5 t) r0_5)) (k0_pay4 (View.ld (iblk m c 1 t) r0_0) (View.ld (iblk m c 2 t) r0_1)
    (View.ld (iblk m c 3 t) r0_2) (View.ld (iblk m c 0 t) r0_0) (View.ld (iblk m c 4 t) r0_3) (View.ld (iblk m c 4 t) r0_4))

/-- A row's sum of squares, over any residual rows. -/
def sqS (v : FVec Ideal S512x2048 .f32) : FVec Ideal S512x1 .f32 :=
  shapeCast S512x1 (multiReduction .add [1] S512 (mulf v v) 0x00000000#32 reduces_S512x2048_S512 (.inl rfl) rfl) shapeCasts_S512_S512x1

theorem norm_at (v : Vec Ideal S512x2048 .f32) (g : Vec Ideal S1x2048 .f32) (p : Fin 512) (q : Fin 2048) (y gg : ℕ → EReal)
    (hv : ∀ q : Fin 2048, v (ix2 p q) = y q.val) (hg : ∀ q : Fin 2048, g (ix2 0 q) = gg q.val) :
    k0_pay1 v (k0_pay3 g) (sqS v) (ix2 p q) = norm 2048 (Ideal.ofBits .f32 0x45000000#32) gg y q.val := by
  pointwise [k0_pay1, k0_pay3, sqS]
  rw [name_full]
  simp only [hv, hg]
  rfl

theorem out_tile (c : Dev nD) (t : Fin cfg0.N) (p : Fin 512) (q : Fin 2048) :
    outAt m c t (ix2 p q) = kOut m c (512 * t.val + p.val) q.val := by
  refine Eq.trans (show _ = k0_pay1 (resAt m c t) (k0_pay3 (View.ld (iblk m c 5 t) r0_5)) (sqS (resAt m c t)) (ix2 p q) from rfl) ?_
  refine norm_at _ _ p q _ _ (fun q => res_tile m c t p q) (fun q => ?_)
  exact (ld_rows (Val := Elt Ideal) (e := .f32) 0 inb_S1x2048_S1x2048_0_0 (iblk m c 5 t) 0 q 0 rfl).trans (rd5 m c t q)

/-! ## The result arrays -/

def result0 (c : Dev nD) : Buf (Elt Ideal) ((c : Thread nD τ).loc main_v7_0) := fun i : S8192x2048.Idx => kRes m c (i 0).val (i 1).val
def result1 (c : Dev nD) : Buf (Elt Ideal) ((c : Thread nD τ).loc main_v7_1) := fun i : S8192x2048.Idx => kOut m c (i 0).val (i 1).val

theorem flushed0 (c : Dev nD) (t : Fin cfg0.N) (hf : (cfg0.win 6).flush t = true) :
    (dats m 0 c).flushed 6 t = ((cfg0.win 6).blk t).view.read (Elt Ideal) (result0 m c) := by
  rw [flushed6]
  funext j
  obtain ⟨p, q, rfl⟩ : ∃ (p : Fin 512) (q : Fin 2048), j = ix2 p q := ⟨j 0, j 1, eq_ix2 j⟩
  refine Eq.trans (show _ = out0_6 (iblk m c 0 t) (iblk m c 1 t) (iblk m c 2 t) (iblk m c 3 t) (iblk m c 4 t) (iblk m c 5 t) (ix2 p q) from rfl) ?_
  refine Eq.trans (show _ = View.canon [⟨r0_2, resAt m c t⟩] (ix2 p q) from rfl) ?_
  rw [canon_all (Val := Elt Ideal) (e := .f32) inb_S512x2048_S512x2048_0_0 (resAt m c t) p q, res_tile, View.read_apply]
  show _ = kRes m c (win0_6.index t 0 * 512 + 1 * p.val) (win0_6.index t 1 * 2048 + 1 * q.val)
  have e := (idx t).2.2.2.2.2.2.1
  rw [e.1, e.2]
  congr 1 <;> omega

theorem flushed1 (c : Dev nD) (t : Fin cfg0.N) (hf : (cfg0.win 7).flush t = true) :
    (dats m 0 c).flushed 7 t = ((cfg0.win 7).blk t).view.read (Elt Ideal) (result1 m c) := by
  rw [flushed7]
  funext j
  obtain ⟨p, q, rfl⟩ : ∃ (p : Fin 512) (q : Fin 2048), j = ix2 p q := ⟨j 0, j 1, eq_ix2 j⟩
  refine Eq.trans (show _ = out0_7 (iblk m c 0 t) (iblk m c 1 t) (iblk m c 2 t) (iblk m c 3 t) (iblk m c 4 t) (iblk m c 5 t) (ix2 p q) from rfl) ?_
  refine Eq.trans (show _ = View.canon [⟨r0_2, outAt m c t⟩] (ix2 p q) from rfl) ?_
  rw [canon_all (Val := Elt Ideal) (e := .bf16) inb_S512x2048_S512x2048_0_0 (outAt m c t) p q, out_tile, View.read_apply]
  show _ = kOut m c (win0_7.index t 0 * 512 + 1 * p.val) (win0_7.index t 1 * 2048 + 1 * q.val)
  have e := (idx t).2.2.2.2.2.2.2
  rw [e.1, e.2]
  congr 1 <;> omega

theorem mem_blk0 (t : Fin cfg0.N) (i : S8192x2048.Idx) :
    i ∈ ((cfg0.win 6).blk t).view.set ↔ ∀ a, win0_6.index t a * win0_6.size a ≤ (i a : ℕ) ∧ (i a : ℕ) < win0_6.index t a * win0_6.size a + win0_6.xsize (grid0.coords t) a := by
  show i ∈ ((View.whole main_v7_0).slice (win0_6.rect t)).set ↔ _
  rw [View.set_slice_whole, Rect.mem_set_unit]

theorem mem_blk1 (t : Fin cfg0.N) (i : S8192x2048.Idx) :
    i ∈ ((cfg0.win 7).blk t).view.set ↔ ∀ a, win0_7.index t a * win0_7.size a ≤ (i a : ℕ) ∧ (i a : ℕ) < win0_7.index t a * win0_7.size a + win0_7.xsize (grid0.coords t) a := by
  show i ∈ ((View.whole main_v7_1).slice (win0_7.rect t)).set ↔ _
  rw [View.set_slice_whole, Rect.mem_set_unit]

theorem cover0 (i : S8192x2048.Idx) : ∃ t : Fin cfg0.N, (cfg0.win 6).flush t = true ∧ i ∈ ((cfg0.win 6).blk t).view.set := by
  have h0 : (i 0 : ℕ) < 8192 := (i 0).isLt
  have h1 : (i 1 : ℕ) < 2048 := (i 1).isLt
  have hN : cfg0.N = 16 := N_0
  refine ⟨⟨(i 0 : ℕ) / 512, by omega⟩, flush0_6 _, ?_⟩
  rw [mem_blk0]
  generalize ht : (⟨(i 0 : ℕ) / 512, _⟩ : Fin cfg0.N) = t
  have e := (idx t).2.2.2.2.2.2.1
  have hv : t.val = (i 0 : ℕ) / 512 := by rw [← ht]
  intro a
  match a with
  | ⟨0, _⟩ => show win0_6.index t 0 * 512 ≤ (i 0 : ℕ) ∧ (i 0 : ℕ) < win0_6.index t 0 * 512 + 512
              rw [e.1]; omega
  | ⟨1, _⟩ => show win0_6.index t 1 * 2048 ≤ (i 1 : ℕ) ∧ (i 1 : ℕ) < win0_6.index t 1 * 2048 + 2048
              rw [e.2]; omega

theorem cover1 (i : S8192x2048.Idx) : ∃ t : Fin cfg0.N, (cfg0.win 7).flush t = true ∧ i ∈ ((cfg0.win 7).blk t).view.set := by
  have h0 : (i 0 : ℕ) < 8192 := (i 0).isLt
  have h1 : (i 1 : ℕ) < 2048 := (i 1).isLt
  have hN : cfg0.N = 16 := N_0
  refine ⟨⟨(i 0 : ℕ) / 512, by omega⟩, flush0_7 _, ?_⟩
  rw [mem_blk1]
  generalize ht : (⟨(i 0 : ℕ) / 512, _⟩ : Fin cfg0.N) = t
  have e := (idx t).2.2.2.2.2.2.2
  have hv : t.val = (i 0 : ℕ) / 512 := by rw [← ht]
  intro a
  match a with
  | ⟨0, _⟩ => show win0_7.index t 0 * 512 ≤ (i 0 : ℕ) ∧ (i 0 : ℕ) < win0_7.index t 0 * 512 + 512
              rw [e.1]; omega
  | ⟨1, _⟩ => show win0_7.index t 1 * 2048 ≤ (i 1 : ℕ) ∧ (i 1 : ℕ) < win0_7.index t 1 * 2048 + 2048
              rw [e.2]; omega

theorem final0 (c : Dev nD) : (dats m 0 c).arrAt 6 cfg0.N = result0 m c := (dats m 0 c).arrAt_eq_of_cover 6 (result0 m c) (flushed0 m c) cover0
theorem final1 (c : Dev nD) : (dats m 0 c).arrAt 7 cfg0.N = result1 m c := (dats m 0 c).arrAt_eq_of_cover 7 (result1 m c) (flushed1 m c) cover1

end Cert.Out

end
-- ==== Proof.Out.Ref.lean ====
/- The reference of the output projection, stage by stage, is the specification. -/
module

public import proofs.«01_k».proof.Proof.Gen.Reference3Ideal.Run
public import proofs.«01_k».proof.Proof.Out.Spec
public import proofs.«01_k».proof.Proof.Idx

@[expose] public section

set_option maxRecDepth 16384

noncomputable section

namespace Cert.Out.Ref

open Idealize.ShloMosaic Idealize.ShloMosaic.TcCoe Idealize.ShloMosaic.Tactic Idealize.ShloMosaic.StableHlo
open Idealize.SL.Sem
open Cert.Reference3Ideal Cert.Reference3Ideal.Gen Cert.Reference3Ideal.Value Cert.At

/-! ## The stages -/

/-- The attention heads, normed. -/
def attS (a : FVec Ideal S8192x1024 .bf16) (g : FVec Ideal S1x1024 .f32) : FVec Ideal S2x4096x1024 .f32 :=
  mulf (mulf (shapeCast _ (extf .f32 a bitsLt_bf16_f32) shapeCasts_S8192x1024_S2x4096x1024) (broadcastInDim S2x4096x1024 ![0, 1, 2] bcast_S2x4096x1_S2x4096x1024_0_1_2
    (Host.rsqrt (addf (Host.divf (broadcastInDim S2x4096x1 ![0, 1] bcast_S2x4096_S2x4096x1_0_1
      (Host.reduceAdd (mulf (shapeCast _ (extf .f32 a bitsLt_bf16_f32) shapeCasts_S8192x1024_S2x4096x1024) (shapeCast _ (extf .f32 a bitsLt_bf16_f32) shapeCasts_S8192x1024_S2x4096x1024))
        (constant S_ .f32 0x00000000#32) reducesTo_S2x4096x1024_S2x4096_d2 h_S_))
      (broadcastInDim S2x4096x1 ![] bcast_S_S2x4096x1 (constant S_ .f32 0x44800000#32)))
      (broadcastInDim S2x4096x1 ![] bcast_S_S2x4096x1 (constant S_ .f32 0x358637BD#32))))))
    (broadcastInDim S2x4096x1024 ![0, 1, 2] bcast_S1x1x1024_S2x4096x1024_0_1_2 (broadcastInDim S1x1x1024 ![2] bcast_S1024_S1x1x1024_2 (shapeCast _ g shapeCasts_S1x1024_S1024)))

/-- The heads side by side. -/
def mixS (l : FVec Ideal S8192x1024 .bf16) (y : FVec Ideal S2x4096x1024 .f32) : FVec Ideal S2x4096x2048 .f32 :=
  concatenate S2x4096x2048 2 [⟨S2x4096x1024, (shapeCast _ (extf .f32 l bitsLt_bf16_f32) shapeCasts_S8192x1024_S2x4096x1024)⟩, ⟨S2x4096x1024, y⟩]
    concatenates_S2x4096x1024_S2x4096x1024_S2x4096x2048_d2

/-- The residual stream with the projection added. -/
def resS (x : FVec Ideal S2x4096x2048 .f32) (y : FVec Ideal S2x4096x2048 .f32) (w : FVec Ideal S1x2048x2048 .f32) : FVec Ideal S2x4096x2048 .f32 :=
  addf x (Host.dotGeneral dot_S2x4096x2048_S2048x2048_S2x4096x2048_2_0_01_1_n_n none y (shapeCast _ w shapeCasts_S1x2048x2048_S2048x2048))

/-- The final norm. -/
def normS (r : FVec Ideal S2x4096x2048 .f32) (g : FVec Ideal S1x2048 .f32) : FVec Ideal S8192x2048 .bf16 :=
  truncf .bf16 (shapeCast _ (mulf (mulf r (broadcastInDim S2x4096x2048 ![0, 1, 2] bcast_S2x4096x1_S2x4096x2048_0_1_2
    (Host.rsqrt (addf (Host.divf (broadcastInDim S2x4096x1 ![0, 1] bcast_S2x4096_S2x4096x1_0_1
      (Host.reduceAdd (mulf r r) (constant S_ .f32 0x00000000#32) reducesTo_S2x4096x2048_S2x4096_d2 h_S_))
      (broadcastInDim S2x4096x1 ![] bcast_S_S2x4096x1 (constant S_ .f32 0x45000000#32)))
      (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2
      (shapeCast _ g shapeCasts_S1x2048_S2048))))
    shapeCasts_S2x4096x2048_S8192x2048) bitsLt_bf16_f32

variable (m : (ℓ : Loc nD τ sig) → Buf (Elt Ideal) ℓ) (c : Dev nD)

/-- The arguments by position. -/
abbrev L (i j : ℕ) : EReal := at2 (m ((c.tc : Thread nD τ).loc main_arg0) : S8192x1024.Idx → EReal) i j
abbrev A (i j : ℕ) : EReal := at2 (m ((c.tc : Thread nD τ).loc main_arg1) : S8192x1024.Idx → EReal) i j
abbrev GA (i : ℕ) : EReal := at2 (m ((c.tc : Thread nD τ).loc main_arg2) : S1x1024.Idx → EReal) 0 i
abbrev X (i j : ℕ) : EReal := at3 (m ((c.tc : Thread nD τ).loc main_arg3) : S2x4096x2048.Idx → EReal) (i / 4096) (i % 4096) j
abbrev W (i j : ℕ) : EReal := at3 (m ((c.tc : Thread nD τ).loc main_arg4) : S1x2048x2048.Idx → EReal) 0 i j
abbrev GF (i : ℕ) : EReal := at2 (m ((c.tc : Thread nD τ).loc main_arg5) : S1x2048.Idx → EReal) 0 i

abbrev mAtt := attS (m ((c.tc : Thread nD τ).loc main_arg1)) (m ((c.tc : Thread nD τ).loc main_arg2))
abbrev mMix := mixS (m ((c.tc : Thread nD τ).loc main_arg0)) (mAtt m c)
abbrev mRes := resS (m ((c.tc : Thread nD τ).loc main_arg3)) (mMix m c) (m ((c.tc : Thread nD τ).loc main_arg4))

theorem stages : res_main_v38 m c = normS (mRes m c) (m ((c.tc : Thread nD τ).loc main_arg5)) := rfl

abbrev rAtt := att (A m c) (GA m c)
abbrev rMix := mix (L m c) (A m c) (GA m c)
abbrev rRes := res (L m c) (A m c) (GA m c) (X m c) (W m c)
abbrev rOut := out (L m c) (A m c) (GA m c) (X m c) (W m c) (GF m c)

theorem attS_eq (b : Fin 2) (s : Fin 4096) (k : Fin 1024) : mAtt m c (ix3 b s k) = rAtt m c (b.val * 4096 + s.val) k.val := by
  pointwise [attS]
  unfold rAtt att norm
  rw [eps_eq, at2_eq (m ((c.tc : Thread nD τ).loc main_arg2) : S1x1024.Idx → EReal)]
  simp only [at2_eq (m ((c.tc : Thread nD τ).loc main_arg1) : S8192x1024.Idx → EReal)]
  rfl

theorem mixS_eq (b : Fin 2) (s : Fin 4096) (k : Fin 2048) : mMix m c (ix3 b s k) = rMix m c (b.val * 4096 + s.val) k.val := by
  unfold rMix mix
  pointwise [mixS]
  by_cases h : k.val < 1024
  · rw [dif_pos h, if_pos h]
    rw [at2_eq (m ((c.tc : Thread nD τ).loc main_arg0) : S8192x1024.Idx → EReal)]
  · rw [dif_neg h, if_neg h, attS_eq]

theorem resS_eq (b : Fin 2) (s : Fin 4096) (q : Fin 2048) : mRes m c (ix3 b s q) = rRes m c (b.val * 4096 + s.val) q.val := by
  pointwise [resS]
  unfold rRes res
  rw [at3_eq (m ((c.tc : Thread nD τ).loc main_arg3) : S2x4096x2048.Idx → EReal),
    ← Fin.sum_univ_eq_sum_range (fun k => mix (L m c) (A m c) (GA m c) (b.val * 4096 + s.val) k * W m c k q.val) 2048]
  have e : X m c (b.val * 4096 + s.val) q.val = at3 (m ((c.tc : Thread nD τ).loc main_arg3) : S2x4096x2048.Idx → EReal) b.val s.val q.val := by
    unfold X
    rw [show (b.val * 4096 + s.val) / 4096 = b.val by omega, show (b.val * 4096 + s.val) % 4096 = s.val by omega]
  rw [e]
  refine congrArg _ (Finset.sum_congr rfl fun k _ => ?_)
  rw [mixS_eq, at3_eq (m ((c.tc : Thread nD τ).loc main_arg4) : S1x2048x2048.Idx → EReal)]
  rfl

theorem row_eq (r : Fin 8192) (q : Fin 2048) (h : r.val / 4096 < 2) (h' : r.val % 4096 < 4096) :
    mRes m c (ix3 ⟨r.val / 4096, h⟩ ⟨r.val % 4096, h'⟩ q) = rRes m c r.val q.val := by
  rw [resS_eq]; dsimp only; rw [show r.val / 4096 * 4096 + r.val % 4096 = r.val by omega]

/-- The first result as its stages. -/
def res0 : FVec Ideal S8192x2048 .f32 := shapeCast _ (mRes m c) shapeCasts_S2x4096x2048_S8192x2048

theorem result0_eq (r : Fin 8192) (q : Fin 2048) : res0 m c (ix2 r q) = rRes m c r.val q.val := by
  pointwise [res0]
  rw [row_eq]

theorem result1_eq (r : Fin 8192) (q : Fin 2048) : res_main_v38 m c (ix2 r q) = rOut m c r.val q.val := by
  rw [stages]
  pointwise [normS]
  unfold rOut out norm
  rw [eps_eq, at2_eq (m ((c.tc : Thread nD τ).loc main_arg5) : S1x2048.Idx → EReal), row_eq, Finset.sum_congr rfl fun q' _ => by rw [row_eq m c r q']]
  rfl

end Cert.Out.Ref

end
-- ==== Proof.Out.Claims.lean ====
/- The claims about the output projection's call. -/
module

public import proofs.«01_k».proof.Defs
public import proofs.«01_k».proof.Proof.Gen.Kernel3.Frame
public import proofs.«01_k».proof.Proof.Out.Value
public import proofs.«01_k».proof.Proof.Out.Ref

@[expose] public section

set_option maxRecDepth 16384

noncomputable section

namespace Cert.Out

open Idealize.ShloMosaic Idealize.ShloMosaic.TcCoe Idealize.SL.Sem Cert.At

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

/-- The named number stands for the words it replaces. -/
theorem preserves : Cert.preserves_Kernel3_Kernel3Ideal :=
  ⟨IdealRules.named_const.statement Cert.Kernel3Ideal.κ "eps" .bf16 0x3586#16 ((8796093 / 8796093022208 : ℝ) : EReal) rfl,
    IdealRules.named_const.statement Cert.Kernel3Ideal.κ "eps" .f32 0x358637BD#32 ((8796093 / 8796093022208 : ℝ) : EReal) rfl⟩

/-- Both programs' results are the specification's functions of the same arguments. -/
theorem value : Cert.algebraic_Kernel3Ideal_Reference3Ideal := by
  intro m ρ m' ρ' _ hargs
  refine ⟨result0 m, result1 m,
    (θ_run Cert.Kernel3Ideal.defs _ _).mono (fun r h c => ⟨(h c).1.trans (final0 m c), (h c).2.1.trans (final1 m c), (h c).2.2⟩) (Cert.Kernel3Ideal.Value.run_blocks m ρ),
    (θ_run Cert.Reference3Ideal.defs _ _).mono (fun r h c => ⟨(h c).1.trans ?_, (h c).2.1.trans ?_, (h c).2.2⟩) (Cert.Reference3Ideal.Value.run m' ρ')⟩
  all_goals
    obtain ⟨h0, h1, h2, h3, h4, h5⟩ := hargs c
    have e0 : Ref.L m' c = L m c := by funext i j; unfold Ref.L L; rw [h0]
    have e1 : Ref.A m' c = A m c := by funext i j; unfold Ref.A A; rw [h1]
    have e2 : Ref.GA m' c = GA m c := by funext i; unfold Ref.GA GA; rw [h2]
    have e3 : Ref.X m' c = X m c := by funext i j; unfold Ref.X X; rw [h3]
    have e4 : Ref.W m' c = W m c := by funext i j; unfold Ref.W W; rw [h4]
    have e5 : Ref.GF m' c = GF m c := by funext i; unfold Ref.GF GF; rw [h5]
    funext i
    obtain ⟨p, q, rfl⟩ : ∃ (p : Fin 8192) (q : Fin 2048), i = ix2 p q := ⟨i 0, i 1, eq_ix2 i⟩
  · refine (show _ = Ref.res0 m' c (ix2 p q) from rfl).trans ((Ref.result0_eq m' c p q).trans ?_)
    show Ref.rRes m' c p.val q.val = kRes m c p.val q.val
    unfold Ref.rRes kRes
    rw [e0, e1, e2, e3, e4]
  · refine (Ref.result1_eq m' c p q).trans ?_
    show Ref.rOut m' c p.val q.val = kOut m c p.val q.val
    unfold Ref.rOut kOut
    rw [e0, e1, e2, e3, e4, e5]

end Cert.Out

end
-- ==== Proof.Inp.Body.lean ====
/- What the input projection's body leaves in each of its five result blocks, from the operands' blocks. -/
module

public import proofs.«01_k».proof.Proof.Gen.Kernel4Ideal.Value
public import Idealize.ShloMosaic.PureOps.Ideal

@[expose] public section

set_option maxRecDepth 16384

noncomputable section

namespace Cert.Inp

open Idealize.ShloMosaic Idealize.ShloMosaic.TcCoe Idealize.ShloMosaic.Tactic
open Idealize.SL.Sem
open Cert.Kernel4Ideal Cert.Kernel4Ideal.Gen Cert.Kernel4Ideal.Value

/-! ## What the body leaves -/

/-- The parts of the operands the body loads. -/
abbrev rX : Rect S512x2048 := Rect.unit (s := S512x2048) ![0, 0] S512x2048.size inb_S512x2048_S512x2048_0_0
abbrev rG : Rect S1x2048 := Rect.unit (s := S1x2048) ![0, 0] S1x2048.size inb_S1x2048_S1x2048_0_0
abbrev rW4 : Rect S2048x4608 := Rect.unit (s := S2048x4608) ![0, 0] S2048x2048.size inb_S2048x4608_S2048x2048_0_0
abbrev rW5 : Rect S2048x4608 := Rect.unit (s := S2048x4608) ![0, 2048] S2048x1024.size inb_S2048x4608_S2048x1024_0_2048
abbrev rW6 : Rect S2048x4608 := Rect.unit (s := S2048x4608) ![0, 3072] S2048x512.size inb_S2048x4608_S2048x512_0_3072
abbrev rW7 : Rect S2048x4608 := Rect.unit (s := S2048x4608) ![0, 3584] S2048x1024.size inb_S2048x4608_S2048x1024_0_3584
abbrev rW8 : Rect S2048x256 := Rect.unit (s := S2048x256) ![0, 0] S2048x256.size inb_S2048x256_S2048x256_0_0

section Body

variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x4608 .bf16) (harg3 : arg3.IsWhole) (arg4 : Memref sig .tc .vmem S2048x256 .bf16) (harg4 : arg4.IsWhole) (arg5 : Memref sig .tc .vmem S512x2048 .f32) (harg5 : arg5.IsWhole) (arg6 : Memref sig .tc .vmem S512x1024 .bf16) (harg6 : arg6.IsWhole) (arg7 : Memref sig .tc .vmem S512x512 .f32) (harg7 : arg7.IsWhole) (arg8 : Memref sig .tc .vmem S512x1024 .bf16) (harg8 : arg8.IsWhole) (arg9 : Memref sig .tc .vmem S512x256 .f32) (harg9 : arg9.IsWhole)
    (x0 : Vec Ideal S512x2048 .f32) (x1 : Vec Ideal S1x2048 .f32) (x2 : Vec Ideal S2048x4608 .bf16) (x3 : Vec Ideal S2048x256 .bf16)

def w4 : Vec Ideal S512x2048 .f32 := k0_pay4 (View.ld x0 rX) (View.ld x1 rG) (View.ld x2 rW4)
def w5 : Vec Ideal S512x1024 .bf16 := k0_pay5 (View.ld x0 rX) (View.ld x1 rG) (View.ld x2 rW5)
def w6 : Vec Ideal S512x512 .f32 := k0_pay6 (View.ld x0 rX) (View.ld x1 rG) (View.ld x2 rW6)
def w7 : Vec Ideal S512x1024 .bf16 := k0_pay1 (k0_pay3 (View.ld x0 rX) (View.ld x1 rG)) (View.ld x2 rW7)
def w8 : Vec Ideal S512x256 .f32 := k0_pay2 (k0_pay3 (View.ld x0 rX) (View.ld x1 rG)) (View.ld x3 rW8)

theorem left4 : out0_A_4 c i arg1 harg1 arg2 harg2 arg3 harg3 arg4 harg4 arg5 harg5 arg6 harg6 arg7 harg7 arg8 harg8 arg9 harg9 x0 x1 x2 x3
    = View.canon (Val := Elt Ideal) [⟨rX, w4 x0 x1 x2⟩] := by
  unfold out0_A_4 w4
  rw [View.read_writes_eq_canon _ _ _ (cover0_A_4 c i arg1 harg1 arg2 harg2 arg3 harg3 arg4 harg4 arg5 harg5 arg6 harg6 arg7 harg7 arg8 harg8 arg9 harg9 x0 x1 x2 x3)]
  unfold kernelRun0_A
  dsimp only
  sl_unfold_words
  simp only [View.readAt_eq_ld, harg1.read_unread, harg2.read_unread, harg3.read_unread]

theorem left5 : out0_A_5 c i arg1 harg1 arg2 harg2 arg3 harg3 arg4 harg4 arg5 harg5 arg6 harg6 arg7 harg7 arg8 harg8 arg9 harg9 x0 x1 x2 x3
    = View.canon (Val := Elt Ideal) [⟨(Rect.unit (s := S512x1024) ![0, 0] S512x1024.size inb_S512x1024_S512x1024_0_0), w5 x0 x1 x2⟩] := by
  unfold out0_A_5 w5
  rw [View.read_writes_eq_canon _ _ _ (cover0_A_5 c i arg1 harg1 arg2 harg2 arg3 harg3 arg4 harg4 arg5 harg5 arg6 harg6 arg7 harg7 arg8 harg8 arg9 harg9 x0 x1 x2 x3)]
  unfold kernelRun0_A
  dsimp only
  sl_unfold_words
  simp only [View.readAt_eq_ld, harg1.read_unread, harg2.read_unread, harg3.read_unread]

theorem left6 : out0_A_6 c i arg1 harg1 arg2 harg2 arg3 harg3 arg4 harg4 arg5 harg5 arg6 harg6 arg7 harg7 arg8 harg8 arg9 harg9 x0 x1 x2 x3
    = View.canon (Val := Elt Ideal) [⟨(Rect.unit (s := S512x512) ![0, 0] S512x512.size inb_S512x512_S512x512_0_0), w6 x0 x1 x2⟩] := by
  unfold out0_A_6 w6
  rw [View.read_writes_eq_canon _ _ _ (cover0_A_6 c i arg1 harg1 arg2 harg2 arg3 harg3 arg4 harg4 arg5 harg5 arg6 harg6 arg7 harg7 arg8 harg8 arg9 harg9 x0 x1 x2 x3)]
  unfold kernelRun0_A
  dsimp only
  sl_unfold_words
  simp only [View.readAt_eq_ld, harg1.read_unread, harg2.read_unread, harg3.read_unread]

theorem left7 : out0_A_7 c i arg1 harg1 arg2 harg2 arg3 harg3 arg4 harg4 arg5 harg5 arg6 harg6 arg7 harg7 arg8 harg8 arg9 harg9 x0 x1 x2 x3
    = View.canon (Val := Elt Ideal) [⟨(Rect.unit (s := S512x1024) ![0, 0] S512x1024.size inb_S512x1024_S512x1024_0_0), w7 x0 x1 x2⟩] := by
  unfold out0_A_7 w7
  rw [View.read_writes_eq_canon _ _ _ (cover0_A_7 c i arg1 harg1 arg2 harg2 arg3 harg3 arg4 harg4 arg5 harg5 arg6 harg6 arg7 harg7 arg8 harg8 arg9 harg9 x0 x1 x2 x3)]
  unfold kernelRun0_A
  dsimp only
  sl_unfold_words
  simp only [View.readAt_eq_ld, harg1.read_unread, harg2.read_unread, harg3.read_unread]

theorem left8 : out0_A_8 c i arg1 harg1 arg2 harg2 arg3 harg3 arg4 harg4 arg5 harg5 arg6 harg6 arg7 harg7 arg8 harg8 arg9 harg9 x0 x1 x2 x3
    = View.canon (Val := Elt Ideal) [⟨(Rect.unit (s := S512x256) ![0, 0] S512x256.size inb_S512x256_S512x256_0_0), w8 x0 x1 x3⟩] := by
  unfold out0_A_8 w8
  rw [View.read_writes_eq_canon _ _ _ (cover0_A_8 c i arg1 harg1 arg2 harg2 arg3 harg3 arg4 harg4 arg5 harg5 arg6 harg6 arg7 harg7 arg8 harg8 arg9 harg9 x0 x1 x2 x3)]
  unfold kernelRun0_A
  dsimp only
  sl_unfold_words
  simp only [View.readAt_eq_ld, harg1.read_unread, harg2.read_unread, harg4.read_unread]

end Body

end Cert.Inp

end
-- ==== Proof.Inp.Spec.lean ====
/- The input projection as mathematics: the normed residual stream times one weight matrix, whose columns are the
   recurrence's input, the queries, the keys and values of the compressed branch, those of the other branches, and the
   branches' gates. Arrays are functions of natural-number positions. -/
module

public import proofs.«01_k».proof.Proof.Ffn.Spec

@[expose] public section

noncomputable section

namespace Cert.Inp

open Idealize.ShloMosaic

variable (g : ℕ → EReal) (x w : ℕ → ℕ → EReal)

/-- Column `f` of the projection of token `r`. -/
def proj (r f : ℕ) : EReal := ∑ k : Fin 2048, Ffn.norm g (x r) k.val * w k.val f

/-- The queries, with the factor the attention's exponentials take. -/
def qry (r f : ℕ) : EReal := proj g x w r (2048 + f) * Ideal.ofBits .f32 0x3E0293EE#32

/-- The gates: twelve to each of the two key heads, each twelve in a row of 128 that is zero after them. -/
def gate (r j : ℕ) : EReal := if j % 128 < 12 then proj g x w r (4608 + (12 * (j / 128) + j % 128)) else 0

/-- The weights the gates' columns are read from. -/
def gateW (k j : ℕ) : EReal := if j % 128 < 12 then w k (4608 + (12 * (j / 128) + j % 128)) else 0

/-- A padded gate is the product with a padded weight. -/
theorem gate_eq (r j : ℕ) : ∑ k : Fin 2048, Ffn.norm g (x r) k.val * gateW w k.val j = gate g x w r j := by
  unfold gate gateW
  by_cases h : j % 128 < 12
  · simp only [if_pos h]; rfl
  · simp only [if_neg h, mul_zero, Finset.sum_const_zero]

end Cert.Inp

end
-- ==== Proof.Inp.Value.lean ====
/- The input projection's call over the extended reals: the blocks of the operands read by position, what a row tile
   leaves, and the five result arrays. -/
module

public import proofs.«01_k».proof.Proof.Inp.Body
public import proofs.«01_k».proof.Proof.Inp.Spec
public import proofs.«01_k».proof.Proof.Idx

@[expose] public section

set_option maxRecDepth 16384

noncomputable section

namespace Cert.Inp

open Idealize.ShloMosaic Idealize.ShloMosaic.TcCoe Idealize.ShloMosaic.Tactic
open Idealize.SL.Sem
open Cert.Kernel4Ideal Cert.Kernel4Ideal.Gen Cert.Kernel4Ideal.Value Cert.At

variable (m : (ℓ : Loc nD τ sig) → Buf (Elt Ideal) ℓ) (ρ : Dev nD → PrngReg)

/-! ## The arguments -/

def X (c : Dev nD) (r q : ℕ) : EReal := at3 (m ((c : Thread nD τ).loc main_arg0) : S2x4096x2048.Idx → EReal) (r / 4096) (r % 4096) q
def G (c : Dev nD) (q : ℕ) : EReal := at2 (m ((c : Thread nD τ).loc main_arg1) : S1x2048.Idx → EReal) 0 q
def W (c : Dev nD) (k f : ℕ) : EReal := at3 (m ((c : Thread nD τ).loc main_arg2) : S1x2048x4632.Idx → EReal) 0 k f

/-- The windows' block positions. -/
theorem idx (t : Fin cfg0.N) :
    (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0) :=
  (by decide +kernel : ∀ t : Fin cfg0.N,
    (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)) t

theorem tlt (t : Fin cfg0.N) : t.val < 16 := Nat.lt_of_lt_of_eq t.isLt N_0

theorem rd0 (c : Dev nD) (t : Fin cfg0.N) (p : Fin 512) (q : Fin 2048) :
    (iblk m c 0 t : S512x2048.Idx → EReal) (ix2 p q) = X m c (512 * t.val + p.val) q.val := by
  have ht := tlt t
  unfold X
  rw [← at3_eq (m ((c : Thread nD τ).loc main_arg0) : S2x4096x2048.Idx → EReal) ⟨(512 * t.val + p.val) / 4096, by omega⟩ ⟨(512 * t.val + p.val) % 4096, by omega⟩ q]
  blk_ext! [iblk, V, idx t]

theorem rd1 (c : Dev nD) (t : Fin cfg0.N) (q : Fin 2048) :
    (iblk m c 1 t : S1x2048.Idx → EReal) (ix2 0 q) = G m c q.val := by
  refine Eq.trans ?_ (at2_eq (m ((c : Thread nD τ).loc main_arg1) : S1x2048.Idx → EReal) 0 q)
  blk_ext! [iblk, V, idx t]

/-- The weights as the call takes them. -/
def castW (w : FVec Ideal S1x2048x4632 .f32) : FVec Ideal S2048x4632 .bf16 := truncf .bf16 (shapeCast _ w shapeCasts_S1x2048x4632_S2048x4632) bitsLt_bf16_f32

theorem V_main_v2 (c : Dev nD) : V m c main_v2 = castW (m ((c : Thread nD τ).loc main_arg2)) := by
  show StableHlo.after hostOps0 _ (Proc.devRef .tc main_v2) = _
  after_results
  rfl

/-- The gates' weights as the call takes them: each twelve columns followed by zeros. -/
def padW (w : FVec Ideal S1x2048x4632 .f32) : FVec Ideal S2048x256 .bf16 :=
  truncf .bf16 (concatenate S2048x256 1
    [⟨S2048x12, extractStridedSlice S2048x12 ![0, 4608] (shapeCast S2048x4632 w shapeCasts_S1x2048x4632_S2048x4632) slices_S2048x4632_S2048x12_0_4608⟩,
     ⟨S2048x116, broadcastInDim S2048x116 ![] bcast_S_S2048x116 (constant S_ .f32 0x00000000#32)⟩,
     ⟨S2048x12, extractStridedSlice S2048x12 ![0, 4620] (shapeCast S2048x4632 w shapeCasts_S1x2048x4632_S2048x4632) slices_S2048x4632_S2048x12_0_4620⟩,
     ⟨S2048x116, broadcastInDim S2048x116 ![] bcast_S_S2048x116 (constant S_ .f32 0x00000000#32)⟩]
    concatenates_S2048x12_S2048x116_S2048x12_S2048x116_S2048x256_d1) bitsLt_bf16_f32

theorem V_main_v9 (c : Dev nD) : V m c main_v9 = padW (m ((c : Thread nD τ).loc main_arg2)) := by
  show StableHlo.after hostOps0 _ (Proc.devRef .tc main_v9) = _
  after_results
  rfl

theorem castW_eq (c : Dev nD) (k : Fin 2048) (f : Fin 4632) : castW (m ((c : Thread nD τ).loc main_arg2)) (ix2 k f) = W m c k.val f.val := by
  pointwise [castW]
  exact at3_eq (m ((c : Thread nD τ).loc main_arg2) : S1x2048x4632.Idx → EReal) 0 k f

theorem padW_eq (c : Dev nD) (k : Fin 2048) (j : Fin 256) : padW (m ((c : Thread nD τ).loc main_arg2)) (ix2 k j) = gateW (W m c) k.val j.val := by
  unfold gateW W
  pointwise [padW]
  simp only [at3_eq (m ((c : Thread nD τ).loc main_arg2) : S1x2048x4632.Idx → EReal)]
  have hj := j.isLt
  by_cases h0 : j.val < 12
  · rw [dif_pos h0, if_pos (by omega), show 12 * (j.val / 128) + j.val % 128 = j.val by omega]
    rfl
  rw [dif_neg h0]
  by_cases h1 : j.val - 12 < 116
  · rw [dif_pos h1, if_neg (by omega)]
  rw [dif_neg h1]
  by_cases h2 : j.val - 12 - 116 < 12
  · rw [dif_pos h2, if_pos (by omega), show 4608 + (12 * (j.val / 128) + j.val % 128) = 4620 + (j.val - 12 - 116) by omega]
    rfl
  · rw [dif_neg h2, if_neg (by omega)]

theorem rd2 (c : Dev nD) (t : Fin cfg0.N) (k : Fin 2048) (f : Fin 4608) :
    (X0_2 m c t : S2048x4608.Idx → EReal) (ix2 k f) = W m c k.val f.val := by
  refine Eq.trans ?_ (castW_eq m c k ⟨f.val, by omega⟩)
  rw [← V_main_v2]
  unfold X0_2 Pipeline.Window.fill
  rw [dif_pos (moved0_2 t _)]
  unfold iblk
  rw [View.read_apply]
  refine congrArg (V m c main_v2) ?_
  funext a; apply Fin.ext
  match a with
  | ⟨0, _⟩ => show win0_2.index t 0 * 2048 + 1 * k.val = k.val
              rw [(idx t).2.2.1.1]; omega
  | ⟨1, _⟩ => show win0_2.index t 1 * 4608 + 1 * f.val = f.val
              rw [(idx t).2.2.1.2]; omega

theorem rd3 (c : Dev nD) (t : Fin cfg0.N) (k : Fin 2048) (j : Fin 256) :
    (iblk m c 3 t : S2048x256.Idx → EReal) (ix2 k j) = gateW (W m c) k.val j.val := by
  refine Eq.trans ?_ (padW_eq m c k j)
  rw [← V_main_v9]
  unfold iblk
  rw [View.read_apply]
  refine congrArg (V m c main_v9) ?_
  funext a; apply Fin.ext
  match a with
  | ⟨0, _⟩ => show win0_3.index t 0 * 2048 + 1 * k.val = k.val
              rw [(idx t).2.2.2.1.1]; omega
  | ⟨1, _⟩ => show win0_3.index t 1 * 256 + 1 * j.val = j.val
              rw [(idx t).2.2.2.1.2]; omega

/-! ## A row tile -/

/-- A run of columns loaded from a matrix. -/
theorem ld_cols {Val : EltTy → Type} {e : EltTy} {n d l : ℕ} (o : ℕ) (h : ∀ a, (![0, o] : Fin 2 → ℕ) a + (![n, l] : Fin 2 → ℕ) a ≤ (⟨2, ![n, d]⟩ : Shape).size a)
    (x : (⟨2, ![n, d]⟩ : Shape).Idx → Val e) (p : Fin n) (f : Fin l) (q : Fin d) (hq : q.val = o + f.val) :
    View.ld x (Rect.unit (s := ⟨2, ![n, d]⟩) ![0, o] ![n, l] h) (ix2 p f) = x (ix2 p q) := by
  refine congrArg x ?_
  funext a; apply Fin.ext
  match a with
  | ⟨0, _⟩ => show 0 + 1 * p.val = p.val; omega
  | ⟨1, _⟩ => show o + 1 * f.val = q.val; omega

/-- One store of a whole matrix. -/
theorem canon_all {Val : EltTy → Type} [∀ e, Nonempty (Val e)] {e : EltTy} {n d : ℕ}
    (h : ∀ a, (![0, 0] : Fin 2 → ℕ) a + (![n, d] : Fin 2 → ℕ) a ≤ (⟨2, ![n, d]⟩ : Shape).size a)
    (w : (⟨2, ![n, d]⟩ : Shape).Idx → Val e) (r : Fin n) (f : Fin d) :
    View.canon (s := ⟨2, ![n, d]⟩) [⟨Rect.unit ![0, 0] ![n, d] h, w⟩] (ix2 r f) = w (ix2 r f) := by
  have e1 : (ix2 r f : (⟨2, ![n, d]⟩ : Shape).Idx) = (Rect.unit (s := ⟨2, ![n, d]⟩) ![0, 0] ![n, d] h).emb (ix2 r f) := by
    funext a; apply Fin.ext
    match a with
    | ⟨0, _⟩ => show r.val = 0 + 1 * r.val; omega
    | ⟨1, _⟩ => show f.val = 0 + 1 * f.val; omega
  refine Eq.trans (congrArg _ e1) ?_
  exact View.canon_cons_emb _ _ _ _

abbrev kProj (c : Dev nD) := proj (G m c) (X m c) (W m c)
abbrev kQry (c : Dev nD) := qry (G m c) (X m c) (W m c)
abbrev kGate (c : Dev nD) := gate (G m c) (X m c) (W m c)

/-- The normed rows of tile `t`. -/
def nrm (c : Dev nD) (t : Fin cfg0.N) : Vec Ideal S512x2048 .bf16 := k0_pay3 (View.ld (iblk m c 0 t) rX) (View.ld (iblk m c 1 t) rG)

theorem pay3_at (v0 : Vec Ideal S512x2048 .f32) (v2 : Vec Ideal S1x2048 .f32) (p : Fin 512) (q : Fin 2048) (x g : ℕ → EReal)
    (h0 : ∀ k : Fin 2048, v0 (ix2 p k) = x k.val) (h2 : ∀ k : Fin 2048, v2 (ix2 0 k) = g k.val) :
    k0_pay3 v0 v2 (ix2 p q) = Ffn.norm g x q.val := by
  pointwise [k0_pay3]
  simp only [h0, h2]
  rfl

theorem nrm_tile (c : Dev nD) (t : Fin cfg0.N) (p : Fin 512) (q : Fin 2048) :
    nrm m c t (ix2 p q) = Ffn.norm (G m c) (X m c (512 * t.val + p.val)) q.val := by
  refine pay3_at _ _ p q _ _ (fun k => ?_) (fun k => ?_)
  · exact (ld_cols (Val := Elt Ideal) (e := .f32) 0 inb_S512x2048_S512x2048_0_0 (iblk m c 0 t) p k k (by omega)).trans (rd0 m c t p k)
  · exact (ld_cols (Val := Elt Ideal) (e := .f32) 0 inb_S1x2048_S1x2048_0_0 (iblk m c 1 t) 0 k k (by omega)).trans (rd1 m c t k)

theorem prod4_at (v0 : Vec Ideal S512x2048 .f32) (v2 : Vec Ideal S1x2048 .f32) (v : Vec Ideal S2048x2048 .bf16) (p : Fin 512) (f : Fin 2048) (a w : ℕ → EReal)
    (hy : ∀ k : Fin 2048, k0_pay3 v0 v2 (ix2 p k) = a k.val) (hv : ∀ k : Fin 2048, v (ix2 k f) = w k.val) :
    k0_pay4 v0 v2 v (ix2 p f) = (∑ k : Fin 2048, a k.val * w k.val) := by
  unfold k0_pay4
  generalize k0_pay3 v0 v2 = y at hy ⊢
  pointwise
  simp only [hy, hv]
  try rfl

theorem prod5_at (v0 : Vec Ideal S512x2048 .f32) (v2 : Vec Ideal S1x2048 .f32) (v : Vec Ideal S2048x1024 .bf16) (p : Fin 512) (f : Fin 1024) (a w : ℕ → EReal)
    (hy : ∀ k : Fin 2048, k0_pay3 v0 v2 (ix2 p k) = a k.val) (hv : ∀ k : Fin 2048, v (ix2 k f) = w k.val) :
    k0_pay5 v0 v2 v (ix2 p f) = (∑ k : Fin 2048, a k.val * w k.val) * Ideal.ofBits .f32 0x3E0293EE#32 := by
  unfold k0_pay5
  generalize k0_pay3 v0 v2 = y at hy ⊢
  pointwise
  simp only [hy, hv]
  try rfl

theorem prod6_at (v0 : Vec Ideal S512x2048 .f32) (v2 : Vec Ideal S1x2048 .f32) (v : Vec Ideal S2048x512 .bf16) (p : Fin 512) (f : Fin 512) (a w : ℕ → EReal)
    (hy : ∀ k : Fin 2048, k0_pay3 v0 v2 (ix2 p k) = a k.val) (hv : ∀ k : Fin 2048, v (ix2 k f) = w k.val) :
    k0_pay6 v0 v2 v (ix2 p f) = (∑ k : Fin 2048, a k.val * w k.val) := by
  unfold k0_pay6
  generalize k0_pay3 v0 v2 = y at hy ⊢
  pointwise
  simp only [hy, hv]
  try rfl

theorem prod7_at (y : FVec Ideal S512x2048 .bf16) (v : Vec Ideal S2048x1024 .bf16) (p : Fin 512) (f : Fin 1024) (a w : ℕ → EReal)
    (hy : ∀ k : Fin 2048, y (ix2 p k) = a k.val) (hv : ∀ k : Fin 2048, v (ix2 k f) = w k.val) :
    k0_pay1 y v (ix2 p f) = ∑ k : Fin 2048, a k.val * w k.val := by
  pointwise [k0_pay1]
  simp only [hy, hv]

theorem prod8_at (y : FVec Ideal S512x2048 .bf16) (v : Vec Ideal S2048x256 .bf16) (p : Fin 512) (f : Fin 256) (a w : ℕ → EReal)
    (hy : ∀ k : Fin 2048, y (ix2 p k) = a k.val) (hv : ∀ k : Fin 2048, v (ix2 k f) = w k.val) :
    k0_pay2 y v (ix2 p f) = ∑ k : Fin 2048, a k.val * w k.val := by
  pointwise [k0_pay2]
  simp only [hy, hv]

theorem tile4 (c : Dev nD) (t : Fin cfg0.N) (p : Fin 512) (f : Fin 2048) :
    w4 (iblk m c 0 t) (iblk m c 1 t) (X0_2 m c t) (ix2 p f) = kProj m c (512 * t.val + p.val) f.val := by
  refine (prod4_at _ _ _ p f _ (fun k => W m c k f.val) (fun k => nrm_tile m c t p k) (fun k => ?_)).trans rfl
  exact (ld_cols (Val := Elt Ideal) (e := .bf16) 0 inb_S2048x4608_S2048x2048_0_0 (X0_2 m c t) k f ⟨f.val, by omega⟩ (by show f.val = _; omega)).trans (rd2 m c t k _)

theorem tile5 (c : Dev nD) (t : Fin cfg0.N) (p : Fin 512) (f : Fin 1024) :
    w5 (iblk m c 0 t) (iblk m c 1 t) (X0_2 m c t) (ix2 p f) = kQry m c (512 * t.val + p.val) f.val := by
  refine (prod5_at _ _ _ p f _ (fun k => W m c k (2048 + f.val)) (fun k => nrm_tile m c t p k) (fun k => ?_)).trans rfl
  exact (ld_cols (Val := Elt Ideal) (e := .bf16) 2048 inb_S2048x4608_S2048x1024_0_2048 (X0_2 m c t) k f ⟨2048 + f.val, by omega⟩ rfl).trans (rd2 m c t k _)

theorem tile6 (c : Dev nD) (t : Fin cfg0.N) (p : Fin 512) (f : Fin 512) :
    w6 (iblk m c 0 t) (iblk m c 1 t) (X0_2 m c t) (ix2 p f) = kProj m c (512 * t.val + p.val) (3072 + f.val) := by
  refine (prod6_at _ _ _ p f _ (fun k => W m c k (3072 + f.val)) (fun k => nrm_tile m c t p k) (fun k => ?_)).trans rfl
  exact (ld_cols (Val := Elt Ideal) (e := .bf16) 3072 inb_S2048x4608_S2048x512_0_3072 (X0_2 m c t) k f ⟨3072 + f.val, by omega⟩ rfl).trans (rd2 m c t k _)

theorem tile7 (c : Dev nD) (t : Fin cfg0.N) (p : Fin 512) (f : Fin 1024) :
    w7 (iblk m c 0 t) (iblk m c 1 t) (X0_2 m c t) (ix2 p f) = kProj m c (512 * t.val + p.val) (3584 + f.val) := by
  refine (prod7_at _ _ p f _ (fun k => W m c k (3584 + f.val)) (fun k => nrm_tile m c t p k) (fun k => ?_)).trans rfl
  exact (ld_cols (Val := Elt Ideal) (e := .bf16) 3584 inb_S2048x4608_S2048x1024_0_3584 (X0_2 m c t) k f ⟨3584 + f.val, by omega⟩ rfl).trans (rd2 m c t k _)

theorem tile8 (c : Dev nD) (t : Fin cfg0.N) (p : Fin 512) (f : Fin 256) :
    w8 (iblk m c 0 t) (iblk m c 1 t) (iblk m c 3 t) (ix2 p f) = kGate m c (512 * t.val + p.val) f.val := by
  refine (prod8_at _ _ p f _ (fun k => gateW (W m c) k f.val) (fun k => nrm_tile m c t p k) (fun k => ?_)).trans (gate_eq _ _ _ _ _)
  exact (ld_cols (Val := Elt Ideal) (e := .bf16) 0 inb_S2048x256_S2048x256_0_0 (iblk m c 3 t) k f f (by omega)).trans (rd3 m c t k f)

/-! ## The result arrays -/

def result0 (c : Dev nD) : Buf (Elt Ideal) ((c : Thread nD τ).loc main_v12_0) := fun i : S8192x2048.Idx => kProj m c (i 0).val (i 1).val

theorem flushed0 (c : Dev nD) (t : Fin cfg0.N) (hf : (cfg0.win 4).flush t = true) :
    (dats m 0 c).flushed 4 t = ((cfg0.win 4).blk t).view.read (Elt Ideal) (result0 m c) := by
  rw [flushed4_A, left4]
  funext j
  obtain ⟨p, f, rfl⟩ : ∃ (p : Fin 512) (f : Fin 2048), j = ix2 p f := ⟨j 0, j 1, eq_ix2 j⟩
  refine Eq.trans (show _ = View.canon (Val := Elt Ideal) [⟨(Rect.unit (s := S512x2048) ![0, 0] S512x2048.size inb_S512x2048_S512x2048_0_0), w4 (iblk m c 0 t) (iblk m c 1 t) (X0_2 m c t)⟩] (ix2 p f) from rfl) ?_
  rw [canon_all (Val := Elt Ideal) (e := .f32) inb_S512x2048_S512x2048_0_0 (w4 (iblk m c 0 t) (iblk m c 1 t) (X0_2 m c t)) p f, tile4, View.read_apply]
  show _ = kProj m c (win0_4.index t 0 * 512 + 1 * p.val) (win0_4.index t 1 * 2048 + 1 * f.val)
  have e := (idx t).2.2.2.2.1
  rw [e.1, e.2]
  congr 1 <;> omega

theorem mem_blk0 (t : Fin cfg0.N) (i : S8192x2048.Idx) :
    i ∈ ((cfg0.win 4).blk t).view.set ↔ ∀ a, win0_4.index t a * win0_4.size a ≤ (i a : ℕ) ∧ (i a : ℕ) < win0_4.index t a * win0_4.size a + win0_4.xsize (grid0.coords t) a := by
  show i ∈ ((View.whole main_v12_0).slice (win0_4.rect t)).set ↔ _
  rw [View.set_slice_whole, Rect.mem_set_unit]

theorem cover0 (i : S8192x2048.Idx) : ∃ t : Fin cfg0.N, (cfg0.win 4).flush t = true ∧ i ∈ ((cfg0.win 4).blk t).view.set := by
  have h0 : (i 0 : ℕ) < 8192 := (i 0).isLt
  have h1 : (i 1 : ℕ) < 2048 := (i 1).isLt
  have hN : cfg0.N = 16 := N_0
  refine ⟨⟨(i 0 : ℕ) / 512, by omega⟩, flush0_4 _, ?_⟩
  rw [mem_blk0]
  generalize ht : (⟨(i 0 : ℕ) / 512, _⟩ : Fin cfg0.N) = t
  have e := (idx t).2.2.2.2.1
  have hv : t.val = (i 0 : ℕ) / 512 := by rw [← ht]
  intro a
  match a with
  | ⟨0, _⟩ => show win0_4.index t 0 * 512 ≤ (i 0 : ℕ) ∧ (i 0 : ℕ) < win0_4.index t 0 * 512 + 512
              rw [e.1]; omega
  | ⟨1, _⟩ => show win0_4.index t 1 * 2048 ≤ (i 1 : ℕ) ∧ (i 1 : ℕ) < win0_4.index t 1 * 2048 + 2048
              rw [e.2]; omega

theorem final0 (c : Dev nD) : (dats m 0 c).arrAt 4 cfg0.N = result0 m c := (dats m 0 c).arrAt_eq_of_cover 4 (result0 m c) (flushed0 m c) cover0

def result1 (c : Dev nD) : Buf (Elt Ideal) ((c : Thread nD τ).loc main_v12_1) := fun i : S8192x1024.Idx => kQry m c (i 0).val (i 1).val

theorem flushed1 (c : Dev nD) (t : Fin cfg0.N) (hf : (cfg0.win 5).flush t = true) :
    (dats m 0 c).flushed 5 t = ((cfg0.win 5).blk t).view.read (Elt Ideal) (result1 m c) := by
  rw [flushed5_A, left5]
  funext j
  obtain ⟨p, f, rfl⟩ : ∃ (p : Fin 512) (f : Fin 1024), j = ix2 p f := ⟨j 0, j 1, eq_ix2 j⟩
  refine Eq.trans (show _ = View.canon (Val := Elt Ideal) [⟨(Rect.unit (s := S512x1024) ![0, 0] S512x1024.size inb_S512x1024_S512x1024_0_0), w5 (iblk m c 0 t) (iblk m c 1 t) (X0_2 m c t)⟩] (ix2 p f) from rfl) ?_
  rw [canon_all (Val := Elt Ideal) (e := .bf16) inb_S512x1024_S512x1024_0_0 (w5 (iblk m c 0 t) (iblk m c 1 t) (X0_2 m c t)) p f, tile5, View.read_apply]
  show _ = kQry m c (win0_5.index t 0 * 512 + 1 * p.val) (win0_5.index t 1 * 1024 + 1 * f.val)
  have e := (idx t).2.2.2.2.2.1
  rw [e.1, e.2]
  congr 1 <;> omega

theorem mem_blk1 (t : Fin cfg0.N) (i : S8192x1024.Idx) :
    i ∈ ((cfg0.win 5).blk t).view.set ↔ ∀ a, win0_5.index t a * win0_5.size a ≤ (i a : ℕ) ∧ (i a : ℕ) < win0_5.index t a * win0_5.size a + win0_5.xsize (grid0.coords t) a := by
  show i ∈ ((View.whole main_v12_1).slice (win0_5.rect t)).set ↔ _
  rw [View.set_slice_whole, Rect.mem_set_unit]

theorem cover1 (i : S8192x1024.Idx) : ∃ t : Fin cfg0.N, (cfg0.win 5).flush t = true ∧ i ∈ ((cfg0.win 5).blk t).view.set := by
  have h0 : (i 0 : ℕ) < 8192 := (i 0).isLt
  have h1 : (i 1 : ℕ) < 1024 := (i 1).isLt
  have hN : cfg0.N = 16 := N_0
  refine ⟨⟨(i 0 : ℕ) / 512, by omega⟩, flush0_5 _, ?_⟩
  rw [mem_blk1]
  generalize ht : (⟨(i 0 : ℕ) / 512, _⟩ : Fin cfg0.N) = t
  have e := (idx t).2.2.2.2.2.1
  have hv : t.val = (i 0 : ℕ) / 512 := by rw [← ht]
  intro a
  match a with
  | ⟨0, _⟩ => show win0_5.index t 0 * 512 ≤ (i 0 : ℕ) ∧ (i 0 : ℕ) < win0_5.index t 0 * 512 + 512
              rw [e.1]; omega
  | ⟨1, _⟩ => show win0_5.index t 1 * 1024 ≤ (i 1 : ℕ) ∧ (i 1 : ℕ) < win0_5.index t 1 * 1024 + 1024
              rw [e.2]; omega

theorem final1 (c : Dev nD) : (dats m 0 c).arrAt 5 cfg0.N = result1 m c := (dats m 0 c).arrAt_eq_of_cover 5 (result1 m c) (flushed1 m c) cover1

def result2 (c : Dev nD) : Buf (Elt Ideal) ((c : Thread nD τ).loc main_v12_2) := fun i : S8192x512.Idx => kProj m c (i 0).val (3072 + (i 1).val)

theorem flushed2 (c : Dev nD) (t : Fin cfg0.N) (hf : (cfg0.win 6).flush t = true) :
    (dats m 0 c).flushed 6 t = ((cfg0.win 6).blk t).view.read (Elt Ideal) (result2 m c) := by
  rw [flushed6_A, left6]
  funext j
  obtain ⟨p, f, rfl⟩ : ∃ (p : Fin 512) (f : Fin 512), j = ix2 p f := ⟨j 0, j 1, eq_ix2 j⟩
  refine Eq.trans (show _ = View.canon (Val := Elt Ideal) [⟨(Rect.unit (s := S512x512) ![0, 0] S512x512.size inb_S512x512_S512x512_0_0), w6 (iblk m c 0 t) (iblk m c 1 t) (X0_2 m c t)⟩] (ix2 p f) from rfl) ?_
  rw [canon_all (Val := Elt Ideal) (e := .f32) inb_S512x512_S512x512_0_0 (w6 (iblk m c 0 t) (iblk m c 1 t) (X0_2 m c t)) p f, tile6, View.read_apply]
  show _ = kProj m c (win0_6.index t 0 * 512 + 1 * p.val) (3072 + (win0_6.index t 1 * 512 + 1 * f.val))
  have e := (idx t).2.2.2.2.2.2.1
  rw [e.1, e.2]
  congr 1 <;> omega

theorem mem_blk2 (t : Fin cfg0.N) (i : S8192x512.Idx) :
    i ∈ ((cfg0.win 6).blk t).view.set ↔ ∀ a, win0_6.index t a * win0_6.size a ≤ (i a : ℕ) ∧ (i a : ℕ) < win0_6.index t a * win0_6.size a + win0_6.xsize (grid0.coords t) a := by
  show i ∈ ((View.whole main_v12_2).slice (win0_6.rect t)).set ↔ _
  rw [View.set_slice_whole, Rect.mem_set_unit]

theorem cover2 (i : S8192x512.Idx) : ∃ t : Fin cfg0.N, (cfg0.win 6).flush t = true ∧ i ∈ ((cfg0.win 6).blk t).view.set := by
  have h0 : (i 0 : ℕ) < 8192 := (i 0).isLt
  have h1 : (i 1 : ℕ) < 512 := (i 1).isLt
  have hN : cfg0.N = 16 := N_0
  refine ⟨⟨(i 0 : ℕ) / 512, by omega⟩, flush0_6 _, ?_⟩
  rw [mem_blk2]
  generalize ht : (⟨(i 0 : ℕ) / 512, _⟩ : Fin cfg0.N) = t
  have e := (idx t).2.2.2.2.2.2.1
  have hv : t.val = (i 0 : ℕ) / 512 := by rw [← ht]
  intro a
  match a with
  | ⟨0, _⟩ => show win0_6.index t 0 * 512 ≤ (i 0 : ℕ) ∧ (i 0 : ℕ) < win0_6.index t 0 * 512 + 512
              rw [e.1]; omega
  | ⟨1, _⟩ => show win0_6.index t 1 * 512 ≤ (i 1 : ℕ) ∧ (i 1 : ℕ) < win0_6.index t 1 * 512 + 512
              rw [e.2]; omega

theorem final2 (c : Dev nD) : (dats m 0 c).arrAt 6 cfg0.N = result2 m c := (dats m 0 c).arrAt_eq_of_cover 6 (result2 m c) (flushed2 m c) cover2

def result3 (c : Dev nD) : Buf (Elt Ideal) ((c : Thread nD τ).loc main_v12_3) := fun i : S8192x1024.Idx => kProj m c (i 0).val (3584 + (i 1).val)

theorem flushed3 (c : Dev nD) (t : Fin cfg0.N) (hf : (cfg0.win 7).flush t = true) :
    (dats m 0 c).flushed 7 t = ((cfg0.win 7).blk t).view.read (Elt Ideal) (result3 m c) := by
  rw [flushed7_A, left7]
  funext j
  obtain ⟨p, f, rfl⟩ : ∃ (p : Fin 512) (f : Fin 1024), j = ix2 p f := ⟨j 0, j 1, eq_ix2 j⟩
  refine Eq.trans (show _ = View.canon (Val := Elt Ideal) [⟨(Rect.unit (s := S512x1024) ![0, 0] S512x1024.size inb_S512x1024_S512x1024_0_0), w7 (iblk m c 0 t) (iblk m c 1 t) (X0_2 m c t)⟩] (ix2 p f) from rfl) ?_
  rw [canon_all (Val := Elt Ideal) (e := .bf16) inb_S512x1024_S512x1024_0_0 (w7 (iblk m c 0 t) (iblk m c 1 t) (X0_2 m c t)) p f, tile7, View.read_apply]
  show _ = kProj m c (win0_7.index t 0 * 512 + 1 * p.val) (3584 + (win0_7.index t 1 * 1024 + 1 * f.val))
  have e := (idx t).2.2.2.2.2.2.2.1
  rw [e.1, e.2]
  congr 1 <;> omega

theorem mem_blk3 (t : Fin cfg0.N) (i : S8192x1024.Idx) :
    i ∈ ((cfg0.win 7).blk t).view.set ↔ ∀ a, win0_7.index t a * win0_7.size a ≤ (i a : ℕ) ∧ (i a : ℕ) < win0_7.index t a * win0_7.size a + win0_7.xsize (grid0.coords t) a := by
  show i ∈ ((View.whole main_v12_3).slice (win0_7.rect t)).set ↔ _
  rw [View.set_slice_whole, Rect.mem_set_unit]

theorem cover3 (i : S8192x1024.Idx) : ∃ t : Fin cfg0.N, (cfg0.win 7).flush t = true ∧ i ∈ ((cfg0.win 7).blk t).view.set := by
  have h0 : (i 0 : ℕ) < 8192 := (i 0).isLt
  have h1 : (i 1 : ℕ) < 1024 := (i 1).isLt
  have hN : cfg0.N = 16 := N_0
  refine ⟨⟨(i 0 : ℕ) / 512, by omega⟩, flush0_7 _, ?_⟩
  rw [mem_blk3]
  generalize ht : (⟨(i 0 : ℕ) / 512, _⟩ : Fin cfg0.N) = t
  have e := (idx t).2.2.2.2.2.2.2.1
  have hv : t.val = (i 0 : ℕ) / 512 := by rw [← ht]
  intro a
  match a with
  | ⟨0, _⟩ => show win0_7.index t 0 * 512 ≤ (i 0 : ℕ) ∧ (i 0 : ℕ) < win0_7.index t 0 * 512 + 512
              rw [e.1]; omega
  | ⟨1, _⟩ => show win0_7.index t 1 * 1024 ≤ (i 1 : ℕ) ∧ (i 1 : ℕ) < win0_7.index t 1 * 1024 + 1024
              rw [e.2]; omega

theorem final3 (c : Dev nD) : (dats m 0 c).arrAt 7 cfg0.N = result3 m c := (dats m 0 c).arrAt_eq_of_cover 7 (result3 m c) (flushed3 m c) cover3

def result4 (c : Dev nD) : Buf (Elt Ideal) ((c : Thread nD τ).loc main_v12_4) := fun i : S8192x256.Idx => kGate m c (i 0).val (i 1).val

theorem flushed4 (c : Dev nD) (t : Fin cfg0.N) (hf : (cfg0.win 8).flush t = true) :
    (dats m 0 c).flushed 8 t = ((cfg0.win 8).blk t).view.read (Elt Ideal) (result4 m c) := by
  rw [flushed8_A, left8]
  funext j
  obtain ⟨p, f, rfl⟩ : ∃ (p : Fin 512) (f : Fin 256), j = ix2 p f := ⟨j 0, j 1, eq_ix2 j⟩
  refine Eq.trans (show _ = View.canon (Val := Elt Ideal) [⟨(Rect.unit (s := S512x256) ![0, 0] S512x256.size inb_S512x256_S512x256_0_0), w8 (iblk m c 0 t) (iblk m c 1 t) (iblk m c 3 t)⟩] (ix2 p f) from rfl) ?_
  rw [canon_all (Val := Elt Ideal) (e := .f32) inb_S512x256_S512x256_0_0 (w8 (iblk m c 0 t) (iblk m c 1 t) (iblk m c 3 t)) p f, tile8, View.read_apply]
  show _ = kGate m c (win0_8.index t 0 * 512 + 1 * p.val) (win0_8.index t 1 * 256 + 1 * f.val)
  have e := (idx t).2.2.2.2.2.2.2.2
  rw [e.1, e.2]
  congr 1 <;> omega

theorem mem_blk4 (t : Fin cfg0.N) (i : S8192x256.Idx) :
    i ∈ ((cfg0.win 8).blk t).view.set ↔ ∀ a, win0_8.index t a * win0_8.size a ≤ (i a : ℕ) ∧ (i a : ℕ) < win0_8.index t a * win0_8.size a + win0_8.xsize (grid0.coords t) a := by
  show i ∈ ((View.whole main_v12_4).slice (win0_8.rect t)).set ↔ _
  rw [View.set_slice_whole, Rect.mem_set_unit]

theorem cover4 (i : S8192x256.Idx) : ∃ t : Fin cfg0.N, (cfg0.win 8).flush t = true ∧ i ∈ ((cfg0.win 8).blk t).view.set := by
  have h0 : (i 0 : ℕ) < 8192 := (i 0).isLt
  have h1 : (i 1 : ℕ) < 256 := (i 1).isLt
  have hN : cfg0.N = 16 := N_0
  refine ⟨⟨(i 0 : ℕ) / 512, by omega⟩, flush0_8 _, ?_⟩
  rw [mem_blk4]
  generalize ht : (⟨(i 0 : ℕ) / 512, _⟩ : Fin cfg0.N) = t
  have e := (idx t).2.2.2.2.2.2.2.2
  have hv : t.val = (i 0 : ℕ) / 512 := by rw [← ht]
  intro a
  match a with
  | ⟨0, _⟩ => show win0_8.index t 0 * 512 ≤ (i 0 : ℕ) ∧ (i 0 : ℕ) < win0_8.index t 0 * 512 + 512
              rw [e.1]; omega
  | ⟨1, _⟩ => show win0_8.index t 1 * 256 ≤ (i 1 : ℕ) ∧ (i 1 : ℕ) < win0_8.index t 1 * 256 + 256
              rw [e.2]; omega

theorem final4 (c : Dev nD) : (dats m 0 c).arrAt 8 cfg0.N = result4 m c := (dats m 0 c).arrAt_eq_of_cover 8 (result4 m c) (flushed4 m c) cover4

end Cert.Inp

end
-- ==== Proof.Inp.Ref.lean ====
/- The reference of the input projection, stage by stage, is the specification. -/
module

public import proofs.«01_k».proof.Proof.Gen.Reference4Ideal.Run
public import proofs.«01_k».proof.Proof.Inp.Spec
public import proofs.«01_k».proof.Proof.Idx

@[expose] public section

set_option maxRecDepth 16384

noncomputable section

namespace Cert.Inp.Ref

open Idealize.ShloMosaic Idealize.ShloMosaic.TcCoe Idealize.ShloMosaic.Tactic Idealize.ShloMosaic.StableHlo
open Idealize.SL.Sem
open Cert.Reference4Ideal Cert.Reference4Ideal.Gen Cert.Reference4Ideal.Value Cert.At

/-! ## The stages -/

/-- The residual stream, normed. -/
def normS (x : FVec Ideal S2x4096x2048 .f32) (g : FVec Ideal S1x2048 .f32) : FVec Ideal S2x4096x2048 .f32 :=
  mulf (mulf x (broadcastInDim S2x4096x2048 ![0, 1, 2] bcast_S2x4096x1_S2x4096x2048_0_1_2
    (Host.rsqrt (addf (Host.divf (broadcastInDim S2x4096x1 ![0, 1] bcast_S2x4096_S2x4096x1_0_1
      (Host.reduceAdd (mulf x x) (constant S_ .f32 0x00000000#32) reducesTo_S2x4096x2048_S2x4096_d2 h_S_))
      (broadcastInDim S2x4096x1 ![] bcast_S_S2x4096x1 (constant S_ .f32 0x45000000#32)))
      (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2
      (shapeCast _ g shapeCasts_S1x2048_S2048)))

/-- The projection's rows. -/
def projS (y : FVec Ideal S2x4096x2048 .f32) (w : FVec Ideal S1x2048x4632 .f32) : FVec Ideal S8192x4632 .f32 :=
  shapeCast _ (Host.dotGeneral dot_S2x4096x2048_S2048x4632_S2x4096x4632_2_0_01_1_n_n none y (shapeCast _ w shapeCasts_S1x2048x4632_S2048x4632))
    shapeCasts_S2x4096x4632_S8192x4632

def lruS (p : FVec Ideal S8192x4632 .f32) : FVec Ideal S8192x2048 .f32 := extractStridedSlice S8192x2048 ![0, 0] p slices_S8192x4632_S8192x2048_0_0
def qryS (p : FVec Ideal S8192x4632 .f32) : FVec Ideal S8192x1024 .bf16 :=
  truncf .bf16 (mulf (extractStridedSlice S8192x1024 ![0, 2048] p slices_S8192x4632_S8192x1024_0_2048)
    (broadcastInDim S8192x1024 ![] bcast_S_S8192x1024 (constant S_ .f32 0x3E0293EE#32))) bitsLt_bf16_f32
def kvcS (p : FVec Ideal S8192x4632 .f32) : FVec Ideal S8192x512 .f32 := extractStridedSlice S8192x512 ![0, 3072] p slices_S8192x4632_S8192x512_0_3072
def kv4S (p : FVec Ideal S8192x4632 .f32) : FVec Ideal S8192x1024 .bf16 :=
  truncf .bf16 (extractStridedSlice S8192x1024 ![0, 3584] p slices_S8192x4632_S8192x1024_0_3584) bitsLt_bf16_f32
/-- The gates' columns, in two runs of twelve. -/
def twS (p : FVec Ideal S8192x4632 .f32) : FVec Ideal S8192x2x12 .f32 :=
  shapeCast _ (extractStridedSlice S8192x24 ![0, 4608] p slices_S8192x4632_S8192x24_0_4608) shapeCasts_S8192x24_S8192x2x12
def padS (p : FVec Ideal S8192x2x12 .f32) : FVec Ideal S8192x2x128 .f32 :=
  pad S8192x2x128 ![0, 0, 0] ![0, 0, 116] ![0, 0, 0] p (sitofp .f32 (constantI S_ 32 0#32)) pads_S8192x2x12_S8192x2x128_000_000_01160 h_S_
def gateS (p : FVec Ideal S8192x4632 .f32) : FVec Ideal S8192x256 .f32 := shapeCast _ (padS (twS p)) shapeCasts_S8192x2x128_S8192x256

variable (m : (ℓ : Loc nD τ sig) → Buf (Elt Ideal) ℓ) (c : Dev nD)

/-- The arguments by position. -/
abbrev X (i j : ℕ) : EReal := at3 (m ((c.tc : Thread nD τ).loc main_arg0) : S2x4096x2048.Idx → EReal) (i / 4096) (i % 4096) j
abbrev G (i : ℕ) : EReal := at2 (m ((c.tc : Thread nD τ).loc main_arg1) : S1x2048.Idx → EReal) 0 i
abbrev W (i j : ℕ) : EReal := at3 (m ((c.tc : Thread nD τ).loc main_arg2) : S1x2048x4632.Idx → EReal) 0 i j

abbrev mNorm := normS (m ((c.tc : Thread nD τ).loc main_arg0)) (m ((c.tc : Thread nD τ).loc main_arg1))
abbrev mProj := projS (mNorm m c) (m ((c.tc : Thread nD τ).loc main_arg2))

abbrev rProj := proj (G m c) (X m c) (W m c)

theorem normS_eq (b : Fin 2) (s : Fin 4096) (k : Fin 2048) : mNorm m c (ix3 b s k) = Ffn.norm (G m c) (X m c (b.val * 4096 + s.val)) k.val := by
  pointwise [normS]
  have e : ∀ q, X m c (b.val * 4096 + s.val) q = at3 (m ((c.tc : Thread nD τ).loc main_arg0) : S2x4096x2048.Idx → EReal) b.val s.val q := fun q => by
    unfold X
    rw [show (b.val * 4096 + s.val) / 4096 = b.val by omega, show (b.val * 4096 + s.val) % 4096 = s.val by omega]
  unfold Ffn.norm
  simp only [e]
  rw [at2_eq (m ((c.tc : Thread nD τ).loc main_arg1) : S1x2048.Idx → EReal)]
  simp only [at3_eq (m ((c.tc : Thread nD τ).loc main_arg0) : S2x4096x2048.Idx → EReal)]
  rfl

theorem projS_eq (r : Fin 8192) (f : Fin 4632) : mProj m c (ix2 r f) = rProj m c r.val f.val := by
  pointwise [projS]
  unfold rProj proj
  refine Finset.sum_congr rfl fun k _ => ?_
  rw [normS_eq, at3_eq (m ((c.tc : Thread nD τ).loc main_arg2) : S1x2048x4632.Idx → EReal)]
  dsimp only
  rw [show r.val / 4096 * 4096 + r.val % 4096 = r.val by omega]
  rfl

theorem lru_eq (r : Fin 8192) (f : Fin 2048) : lruS (mProj m c) (ix2 r f) = rProj m c r.val f.val := by
  generalize hp : mProj m c = p
  pointwise [lruS]
  subst hp
  exact projS_eq m c r ⟨f.val, by omega⟩

theorem qry_eq (r : Fin 8192) (f : Fin 1024) : qryS (mProj m c) (ix2 r f) = qry (G m c) (X m c) (W m c) r.val f.val := by
  generalize hp : mProj m c = p
  pointwise [qryS]
  subst hp
  unfold qry
  rw [projS_eq]

theorem kvc_eq (r : Fin 8192) (f : Fin 512) : kvcS (mProj m c) (ix2 r f) = rProj m c r.val (3072 + f.val) := by
  generalize hp : mProj m c = p
  pointwise [kvcS]
  subst hp
  rw [projS_eq]

theorem kv4_eq (r : Fin 8192) (f : Fin 1024) : kv4S (mProj m c) (ix2 r f) = rProj m c r.val (3584 + f.val) := by
  generalize hp : mProj m c = p
  pointwise [kv4S]
  subst hp
  rw [projS_eq]

theorem tw_eq (r : Fin 8192) (h : Fin 2) (f : Fin 12) : twS (mProj m c) (ix3 r h f) = rProj m c r.val (4608 + (12 * h.val + f.val)) := by
  generalize hp : mProj m c = p
  pointwise [twS]
  subst hp
  rw [projS_eq]
  dsimp only
  rw [Nat.mul_comm]

theorem padS_eq (p : FVec Ideal S8192x2x12 .f32) (r : Fin 8192) (h : Fin 2) (j : Fin 128) :
    padS p (ix3 r h j) = if hj : j.val < 12 then p (ix3 r h ⟨j.val, hj⟩) else 0 := by
  have hz : FloatOps.sitofp (F := Ideal) FTy.f32 (0#32 : BitVec 32) = (0 : EReal) := by
    show (((0#32 : BitVec 32).toInt : ℝ) : EReal) = 0
    norm_num
  pointwise [padS]
  by_cases hj : j.val < 12
  · rw [dif_pos hj, dif_pos hj]
  · rw [dif_neg hj, dif_neg hj]; exact hz

theorem gate_eq (r : Fin 8192) (j : Fin 256) : gateS (mProj m c) (ix2 r j) = gate (G m c) (X m c) (W m c) r.val j.val := by
  generalize hp : mProj m c = p
  pointwise [gateS]
  subst hp
  rw [padS_eq]
  unfold gate
  dsimp only
  by_cases hj : j.val % 128 < 12
  · rw [dif_pos hj, if_pos hj, tw_eq]
  · rw [dif_neg hj, if_neg hj]

/-- The results as their stages. -/
abbrev res0 := lruS (mProj m c)
abbrev res1 := qryS (mProj m c)
abbrev res2 := kvcS (mProj m c)
abbrev res3 := kv4S (mProj m c)
abbrev res4 := gateS (mProj m c)

end Cert.Inp.Ref

end
-- ==== Proof.Inp.Claims.lean ====
/- The claims about the input projection's call. -/
module

public import proofs.«01_k».proof.Defs
public import proofs.«01_k».proof.Proof.Gen.Kernel4
public import proofs.«01_k».proof.Proof.Inp.Value
public import proofs.«01_k».proof.Proof.Inp.Ref

@[expose] public section

set_option maxRecDepth 16384

noncomputable section

namespace Cert.Inp

open Idealize.ShloMosaic Idealize.ShloMosaic.TcCoe Idealize.SL.Sem Cert.At

/-- The two programs' bodies agree, label by label. -/
theorem bodies_eq : Cert.Kernel4.defs₀ (F := Bits) = Cert.Kernel4Ideal.defs₀ (F := Bits) := by
  unfold Cert.Kernel4.defs₀ Cert.Kernel4Ideal.defs₀
  refine congrArg (Defs.onTc (nD := Cert.Kernel4Ideal.nD) (τ := Cert.Kernel4Ideal.τ) (sig := Cert.Kernel4Ideal.sig) (Val := Elt Bits) (Λ := Cert.Kernel4Ideal.Λ₀)) ?_
  funext l a
  match l with
  | ⟨0, _⟩ => obtain ⟨t, s⟩ := a; rfl

theorem defs_eq : Cert.Kernel4.defs (F := Bits) = Cert.Kernel4Ideal.defs (F := Bits) :=
  congrArg (Pipeline.defs (Cert.Kernel4Ideal.pcfgs (F := Bits))) bodies_eq

/-- The printed program's frame: the idealized program's run, at bits. -/
theorem frame_kernel : Cert.quiescent_Kernel4 := fun m ρ _ => by
  rw [defs_eq]
  exact Cert.Kernel4Ideal.Gen.frame (F := Bits) m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run m ρ)

/-- Both programs' results are the specification's functions of the same arguments. -/
theorem value : Cert.algebraic_Kernel4Ideal_Reference4Ideal := by
  intro m ρ m' ρ' _ hargs
  refine ⟨result0 m, result1 m, result2 m, result3 m, result4 m,
    (θ_run Cert.Kernel4Ideal.defs _ _).mono (fun r h c => ⟨(h c).1.trans (final0 m c), (h c).2.1.trans (final1 m c), (h c).2.2.1.trans (final2 m c),
      (h c).2.2.2.1.trans (final3 m c), (h c).2.2.2.2.1.trans (final4 m c), (h c).2.2.2.2.2⟩) (Cert.Kernel4Ideal.Value.run_blocks m ρ),
    (θ_run Cert.Reference4Ideal.defs _ _).mono (fun r h c => ⟨(h c).1.trans ?_, (h c).2.1.trans ?_, (h c).2.2.1.trans ?_, (h c).2.2.2.1.trans ?_,
      (h c).2.2.2.2.1.trans ?_, (h c).2.2.2.2.2⟩) (Cert.Reference4Ideal.Value.run m' ρ')⟩
  all_goals
    obtain ⟨h0, h1, h2⟩ := hargs c
    have e0 : Ref.X m' c = X m c := by funext i j; unfold Ref.X X; rw [h0]
    have e1 : Ref.G m' c = G m c := by funext i; unfold Ref.G G; rw [h1]
    have e2 : Ref.W m' c = W m c := by funext i j; unfold Ref.W W; rw [h2]
    funext i
  · obtain ⟨p, q, rfl⟩ : ∃ (p : Fin 8192) (q : Fin 2048), i = ix2 p q := ⟨i 0, i 1, eq_ix2 i⟩
    refine (show _ = Ref.res0 m' c (ix2 p q) from rfl).trans ((Ref.lru_eq m' c p q).trans ?_)
    show proj (Ref.G m' c) (Ref.X m' c) (Ref.W m' c) p.val q.val = proj (G m c) (X m c) (W m c) p.val q.val
    rw [e0, e1, e2]
  · obtain ⟨p, q, rfl⟩ : ∃ (p : Fin 8192) (q : Fin 1024), i = ix2 p q := ⟨i 0, i 1, eq_ix2 i⟩
    refine (show _ = Ref.res1 m' c (ix2 p q) from rfl).trans ((Ref.qry_eq m' c p q).trans ?_)
    show qry (Ref.G m' c) (Ref.X m' c) (Ref.W m' c) p.val q.val = qry (G m c) (X m c) (W m c) p.val q.val
    rw [e0, e1, e2]
  · obtain ⟨p, q, rfl⟩ : ∃ (p : Fin 8192) (q : Fin 512), i = ix2 p q := ⟨i 0, i 1, eq_ix2 i⟩
    refine (show _ = Ref.res2 m' c (ix2 p q) from rfl).trans ((Ref.kvc_eq m' c p q).trans ?_)
    show proj (Ref.G m' c) (Ref.X m' c) (Ref.W m' c) p.val (3072 + q.val) = proj (G m c) (X m c) (W m c) p.val (3072 + q.val)
    rw [e0, e1, e2]
  · obtain ⟨p, q, rfl⟩ : ∃ (p : Fin 8192) (q : Fin 1024), i = ix2 p q := ⟨i 0, i 1, eq_ix2 i⟩
    refine (show _ = Ref.res3 m' c (ix2 p q) from rfl).trans ((Ref.kv4_eq m' c p q).trans ?_)
    show proj (Ref.G m' c) (Ref.X m' c) (Ref.W m' c) p.val (3584 + q.val) = proj (G m c) (X m c) (W m c) p.val (3584 + q.val)
    rw [e0, e1, e2]
  · obtain ⟨p, q, rfl⟩ : ∃ (p : Fin 8192) (q : Fin 256), i = ix2 p q := ⟨i 0, i 1, eq_ix2 i⟩
    refine (show _ = Ref.res4 m' c (ix2 p q) from rfl).trans ((Ref.gate_eq m' c p q).trans ?_)
    show gate (Ref.G m' c) (Ref.X m' c) (Ref.W m' c) p.val q.val = gate (G m c) (X m c) (W m c) p.val q.val
    rw [e0, e1, e2]

end Cert.Inp

end
-- ==== Proof.lean ====
/- The certificate's claims, each proved in the modules of its call. -/
module

public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Ffn.Claims
public import proofs.«01_k».proof.Proof.Lru.Claims
public import proofs.«01_k».proof.Proof.Out.Claims
public import proofs.«01_k».proof.Proof.Inp.Claims
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Lru.frame_kernel, Cert.Lru.frame_ideal, Cert.Lru.frame_reference,
    Cert.Ffn.frame_kernel, Cert.Ffn.frame_ideal, Cert.Ffn.frame_reference,
    Cert.Out.frame_kernel, Cert.Out.frame_ideal, Cert.Out.frame_reference,
    Cert.Inp.frame_kernel, Cert.Inp.frame_ideal, Cert.Inp.frame_reference,
    trivial, Cert.Lru.value, trivial, Cert.Ffn.value, Cert.Out.preserves, Cert.Out.value, trivial, Cert.Inp.value⟩

end Cert.Proof

end
